-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel7 [hPre_planned : Cert.Pre_planned.Facts] (m : (ℓ : Loc Cert.Kernel7.nD Cert.Kernel7.τ Cert.Kernel7.sig) → Buf (Elt Bits) ℓ) : Prop :=
  ∀ c : Dev Cert.Kernel7.nD,
    (Cert.Pre_planned.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6)) (m ((c.tc : Thread Cert.Kernel7.nD Cert.Kernel7.τ).loc Cert.Kernel7.main_arg7))) = (fun _ => 1#1)

def Pre_Kernel7Ideal [hPre_planned : Cert.Pre_planned.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_planned.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) = (fun _ => 1#1)

def Pre_Reference7Ideal [hPre_planned : Cert.Pre_planned.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_planned.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel7 [hKernel7 : Cert.Kernel7.Facts] [hPre_planned : Cert.Pre_planned.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] [hPre_planned : Cert.Pre_planned.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] [hPre_planned : Cert.Pre_planned.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)) (v1 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_v9) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_v1) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7)) (v1 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_v9) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v3) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v7)) (v1 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_v9) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v1) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v12)) (v1 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_v14) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v9) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v12)) (v1 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_v14) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v1) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel7_Kernel7Ideal : Prop :=
  True

def algebraic_Kernel7Ideal_Reference7Ideal [hKernel7Ideal : Cert.Kernel7Ideal.Facts] [hReference7Ideal : Cert.Reference7Ideal.Facts] [hPre_planned : Cert.Pre_planned.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel7 : Cert.Kernel7.Facts) (hKernel7Ideal : Cert.Kernel7Ideal.Facts) (hReference7Ideal : Cert.Reference7Ideal.Facts) (hPre_finite : Cert.Pre_finite.Facts) (hPre_planned : Cert.Pre_planned.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel7 (hKernel7 := hKernel7) (hPre_planned := hPre_planned)
    ∧ quiescent_Kernel7Ideal (hKernel7Ideal := hKernel7Ideal) (hPre_planned := hPre_planned)
    ∧ quiescent_Reference7Ideal (hReference7Ideal := hReference7Ideal) (hPre_planned := hPre_planned)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel7_Kernel7Ideal
    ∧ algebraic_Kernel7Ideal_Reference7Ideal (hKernel7Ideal := hKernel7Ideal) (hReference7Ideal := hReference7Ideal) (hPre_planned := hPre_planned)
-- ==== Pre_finite.lean ====
abbrev S4x2048x32x128 : Shape := ⟨4, ![4, 2048, 32, 128]⟩
abbrev S4x2048x8x128 : Shape := ⟨4, ![4, 2048, 8, 128]⟩
abbrev S4x2048x32 : Shape := ⟨3, ![4, 2048, 32]⟩
abbrev S_ : Shape := ⟨0, ![]⟩

class Facts : Prop where
  bcast_S_S4x2048x32x128 : S_.BroadcastsInDim S4x2048x32x128 (![] : Fin 0 → Fin S4x2048x32x128.rank)
  reducesTo_S4x2048x32x128_S_d0_1_2_3 : S4x2048x32x128.ReducesTo [0, 1, 2, 3] S_
  h_S_ : 0 < S_.numel
  bcast_S_S4x2048x8x128 : S_.BroadcastsInDim S4x2048x8x128 (![] : Fin 0 → Fin S4x2048x8x128.rank)
  reducesTo_S4x2048x8x128_S_d0_1_2_3 : S4x2048x8x128.ReducesTo [0, 1, 2, 3] S_
  bcast_S_S4x2048x32 : S_.BroadcastsInDim S4x2048x32 (![] : Fin 0 → Fin S4x2048x32.rank)
  reducesTo_S4x2048x32_S_d0_1_2 : S4x2048x32.ReducesTo [0, 1, 2] S_

variable [Facts]

def fn {F : FTy → Type} [FloatOps F] (main_arg0 : FVec F S4x2048x32x128 .f32) (main_arg1 : FVec F S4x2048x8x128 .f32) (main_arg2 : FVec F S4x2048x8x128 .f32) (main_arg3 : FVec F S4x2048x32 .f32) : IVec S_ 1 :=
  let main_v0 : FVec F S4x2048x32x128 .f32 := Host.absf main_arg0
  let main_cst : FVec F S_ .f32 := constant S_ .f32 0x7F800000#32
  let main_v1 : FVec F S4x2048x32x128 .f32 := broadcastInDim S4x2048x32x128 ![] bcast_S_S4x2048x32x128 main_cst
  let main_v2 : IVec S4x2048x32x128 1 := cmpf .olt main_v0 main_v1
  let main_c : IVec S_ 1 := constantI S_ 1 1#1
  let main_v3 : IVec S_ 1 := (fun x v => Host.reduce IntOp.andi x v reducesTo_S4x2048x32x128_S_d0_1_2_3 h_S_) main_v2 main_c
  let main_v4 : FVec F S4x2048x8x128 .f32 := Host.absf main_arg1
  let main_cst_0 : FVec F S_ .f32 := constant S_ .f32 0x7F800000#32
  let main_v5 : FVec F S4x2048x8x128 .f32 := broadcastInDim S4x2048x8x128 ![] bcast_S_S4x2048x8x128 main_cst_0
  let main_v6 : IVec S4x2048x8x128 1 := cmpf .olt main_v4 main_v5
  let main_c_1 : IVec S_ 1 := constantI S_ 1 1#1
  let main_v7 : IVec S_ 1 := (fun x v => Host.reduce IntOp.andi x v reducesTo_S4x2048x8x128_S_d0_1_2_3 h_S_) main_v6 main_c_1
  let main_v8 : IVec S_ 1 := andi main_v3 main_v7
  let main_v9 : FVec F S4x2048x32 .f32 := Host.absf main_arg3
  let main_cst_2 : FVec F S_ .f32 := constant S_ .f32 0x7F800000#32
  let main_v10 : FVec F S4x2048x32 .f32 := broadcastInDim S4x2048x32 ![] bcast_S_S4x2048x32 main_cst_2
  let main_v11 : IVec S4x2048x32 1 := cmpf .olt main_v9 main_v10
  let main_c_3 : IVec S_ 1 := constantI S_ 1 1#1
  let main_v12 : IVec S_ 1 := (fun x v => Host.reduce IntOp.andi x v reducesTo_S4x2048x32_S_d0_1_2 h_S_) main_v11 main_c_3
  let main_v13 : IVec S_ 1 := andi main_v8 main_v12
  main_v13
-- ==== Pre_planned.lean ====
abbrev S35840x4096 : Shape := ⟨2, ![35840, 4096]⟩
abbrev S16400 : Shape := ⟨1, ![16400]⟩
abbrev S14 : Shape := ⟨1, ![14]⟩
abbrev S8x4096x14336 : Shape := ⟨3, ![8, 4096, 14336]⟩
abbrev S_ : Shape := ⟨0, ![]⟩
abbrev S1 : Shape := ⟨1, ![1]⟩
abbrev S13 : Shape := ⟨1, ![13]⟩
abbrev S1x14 : Shape := ⟨2, ![1, 14]⟩
abbrev S16400x1 : Shape := ⟨2, ![16400, 1]⟩
abbrev S16400x14 : Shape := ⟨2, ![16400, 14]⟩

class Facts : Prop where
  bcast_S_S1 : S_.BroadcastsInDim S1 (![] : Fin 0 → Fin S1.rank)
  slices_S14_S13_0 : S14.Slices ![0] S13
  concatenates_S1_S13_S14_d0 : Shape.Concatenates [S1, S13] S14 0
  bcast_S_S14 : S_.BroadcastsInDim S14 (![] : Fin 0 → Fin S14.rank)
  bcast_S14_S1x14_1 : S14.BroadcastsInDim S1x14 (![1] : Fin 1 → Fin S1x14.rank)
  bcast_S16400_S16400x1_0 : S16400.BroadcastsInDim S16400x1 (![0] : Fin 1 → Fin S16400x1.rank)
  bcast_S16400x1_S16400x14_0_1 : S16400x1.BroadcastsInDim S16400x14 (![0, 1] : Fin 2 → Fin S16400x14.rank)
  bcast_S1x14_S16400x14_0_1 : S1x14.BroadcastsInDim S16400x14 (![0, 1] : Fin 2 → Fin S16400x14.rank)
  bcast_S_S1x14 : S_.BroadcastsInDim S1x14 (![] : Fin 0 → Fin S1x14.rank)
  reducesTo_S14_S_d0 : S14.ReducesTo [0] S_
  h_S_ : 0 < S_.numel
  bcast_S_S16400 : S_.BroadcastsInDim S16400 (![] : Fin 0 → Fin S16400.rank)
  reducesTo_S16400_S_d0 : S16400.ReducesTo [0] S_
  reducesTo_S16400x14_S_d0_1 : S16400x14.ReducesTo [0, 1] S_

variable [Facts]

def fn_where {F : FTy → Type} [FloatOps F] (arg0 : IVec S14 1) (arg1 : IVec S14 32) (arg2 : IVec S14 32) : IVec S14 32 :=
  let v0 : IVec S14 32 := select arg0 arg1 arg2
  v0

def fn_part3 {F : FTy → Type} [FloatOps F] (main_arg1 : IVec S16400 32) (main_v31 : IVec S14 1) (main_v58 : IVec S16400x14 1) : IVec S_ 1 :=
  let main_c_12 : IVec S_ 1 := constantI S_ 1 1#1
  let main_v59 : IVec S_ 1 := (fun x v => Host.reduce IntOp.andi x v reducesTo_S14_S_d0 h_S_) main_v31 main_c_12
  let main_c_13 : IVec S_ 32 := constantI S_ 32 0#32
  let main_v60 : IVec S16400 32 := broadcastInDim S16400 ![] bcast_S_S16400 main_c_13
  let main_v61 : IVec S16400 1 := cmpi .sge main_arg1 main_v60
  let main_c_14 : IVec S_ 32 := constantI S_ 32 35840#32
  let main_v62 : IVec S16400 32 := broadcastInDim S16400 ![] bcast_S_S16400 main_c_14
  let main_v63 : IVec S16400 1 := cmpi .slt main_arg1 main_v62
  let main_v64 : IVec S16400 1 := andi main_v61 main_v63
  let main_c_15 : IVec S_ 1 := constantI S_ 1 1#1
  let main_v65 : IVec S_ 1 := (fun x v => Host.reduce IntOp.andi x v reducesTo_S16400_S_d0 h_S_) main_v64 main_c_15
  let main_v66 : IVec S_ 1 := andi main_v59 main_v65
  let main_c_16 : IVec S_ 1 := constantI S_ 1 1#1
  let main_v67 : IVec S_ 1 := (fun x v => Host.reduce IntOp.andi x v reducesTo_S16400x14_S_d0_1 h_S_) main_v58 main_c_16
  let main_v68 : IVec S_ 1 := andi main_v66 main_v67
  main_v68

def fn_part2 {F : FTy → Type} [FloatOps F] (main_arg1 : IVec S16400 32) (main_arg2 : IVec S16400 32) (main_arg4 : IVec S14 32) (main_arg5 : IVec S14 32) (main_v31 : IVec S14 1) (main_v34 : IVec S1x14 32) (main_v35 : IVec S16400x1 32) (main_v36 : IVec S16400x14 32) : IVec S_ 1 :=
  let main_v37 : IVec S16400x14 32 := broadcastInDim S16400x14 ![0, 1] bcast_S1x14_S16400x14_0_1 main_v34
  let main_v38 : IVec S16400x14 1 := cmpi .slt main_v36 main_v37
  let main_c_10 : IVec S_ 32 := constantI S_ 32 2560#32
  let main_v39 : IVec S1x14 32 := broadcastInDim S1x14 ![] bcast_S_S1x14 main_c_10
  let main_v40 : IVec S1x14 32 := addi main_v34 main_v39
  let main_v41 : IVec S16400x14 32 := broadcastInDim S16400x14 ![0, 1] bcast_S1x14_S16400x14_0_1 main_v40
  let main_v42 : IVec S16400x14 32 := broadcastInDim S16400x14 ![0, 1] bcast_S16400x1_S16400x14_0_1 main_v35
  let main_v43 : IVec S16400x14 1 := cmpi .sle main_v41 main_v42
  let main_v44 : IVec S16400x14 1 := ori main_v38 main_v43
  let main_c_11 : IVec S_ 32 := constantI S_ 32 256#32
  let main_v45 : IVec S14 32 := broadcastInDim S14 ![] bcast_S_S14 main_c_11
  let main_v46 : IVec S14 32 := muli main_v45 main_arg5
  let main_v47 : IVec S1x14 32 := broadcastInDim S1x14 ![1] bcast_S14_S1x14_1 main_v46
  let main_v48 : IVec S1x14 32 := addi main_v34 main_v47
  let main_v49 : IVec S16400x14 32 := broadcastInDim S16400x14 ![0, 1] bcast_S16400x1_S16400x14_0_1 main_v35
  let main_v50 : IVec S16400x14 32 := broadcastInDim S16400x14 ![0, 1] bcast_S1x14_S16400x14_0_1 main_v48
  let main_v51 : IVec S16400x14 1 := cmpi .slt main_v49 main_v50
  let main_v52 : IVec S1x14 32 := broadcastInDim S1x14 ![1] bcast_S14_S1x14_1 main_arg4
  let main_v53 : IVec S16400x1 32 := broadcastInDim S16400x1 ![0] bcast_S16400_S16400x1_0 main_arg2
  let main_v54 : IVec S16400x14 32 := broadcastInDim S16400x14 ![0, 1] bcast_S1x14_S16400x14_0_1 main_v52
  let main_v55 : IVec S16400x14 32 := broadcastInDim S16400x14 ![0, 1] bcast_S16400x1_S16400x14_0_1 main_v53
  let main_v56 : IVec S16400x14 1 := cmpi .eq main_v54 main_v55
  let main_v57 : IVec S16400x14 1 := andi main_v51 main_v56
  let main_v58 : IVec S16400x14 1 := ori main_v44 main_v57
  fn_part3 (F := F) main_arg1 main_v31 main_v58

def fn_part1 {F : FTy → Type} [FloatOps F] (main_arg1 : IVec S16400 32) (main_arg2 : IVec S16400 32) (main_arg3 : IVec S14 32) (main_arg4 : IVec S14 32) (main_arg5 : IVec S14 32) (main_v0 : IVec S14 32) (main_v3 : IVec S14 32) (main_v17 : IVec S14 1) : IVec S_ 1 :=
  let main_c_5 : IVec S_ 32 := constantI S_ 32 14#32
  let main_v18 : IVec S14 32 := broadcastInDim S14 ![] bcast_S_S14 main_c_5
  let main_v19 : IVec S14 1 := cmpi .slt main_arg3 main_v18
  let main_v20 : IVec S14 1 := andi main_v17 main_v19
  let main_c_6 : IVec S_ 32 := constantI S_ 32 0#32
  let main_v21 : IVec S14 32 := broadcastInDim S14 ![] bcast_S_S14 main_c_6
  let main_v22 : IVec S14 1 := cmpi .sgt main_arg5 main_v21
  let main_v23 : IVec S14 32 := fn_where (F := F) main_v22 main_v0 main_v3
  let main_v24 : IVec S14 1 := cmpi .eq main_arg3 main_v23
  let main_v25 : IVec S14 1 := andi main_v20 main_v24
  let main_c_7 : IVec S_ 32 := constantI S_ 32 0#32
  let main_v26 : IVec S14 32 := broadcastInDim S14 ![] bcast_S_S14 main_c_7
  let main_v27 : IVec S14 1 := cmpi .sgt main_arg5 main_v26
  let main_c_8 : IVec S_ 32 := constantI S_ 32 0#32
  let main_v28 : IVec S14 32 := broadcastInDim S14 ![] bcast_S_S14 main_c_8
  let main_v29 : IVec S14 1 := cmpi .sgt main_v0 main_v28
  let main_v30 : IVec S14 1 := ori main_v27 main_v29
  let main_v31 : IVec S14 1 := andi main_v25 main_v30
  let main_c_9 : IVec S_ 32 := constantI S_ 32 2560#32
  let main_v32 : IVec S14 32 := broadcastInDim S14 ![] bcast_S_S14 main_c_9
  let main_v33 : IVec S14 32 := muli main_v32 main_v0
  let main_v34 : IVec S1x14 32 := broadcastInDim S1x14 ![1] bcast_S14_S1x14_1 main_v33
  let main_v35 : IVec S16400x1 32 := broadcastInDim S16400x1 ![0] bcast_S16400_S16400x1_0 main_arg1
  let main_v36 : IVec S16400x14 32 := broadcastInDim S16400x14 ![0, 1] bcast_S16400x1_S16400x14_0_1 main_v35
  fn_part2 (F := F) main_arg1 main_arg2 main_arg4 main_arg5 main_v31 main_v34 main_v35 main_v36

def fn {F : FTy → Type} [FloatOps F] (main_arg0 : FVec F S35840x4096 .f32) (main_arg1 : IVec S16400 32) (main_arg2 : IVec S16400 32) (main_arg3 : IVec S14 32) (main_arg4 : IVec S14 32) (main_arg5 : IVec S14 32) (main_arg6 : FVec F S8x4096x14336 .f32) (main_arg7 : FVec F S8x4096x14336 .f32) : IVec S_ 1 :=
  let main_v0 : IVec S14 32 := iotaInDim S14 32 0
  let main_c : IVec S_ 32 := constantI S_ 32 0#32
  let main_v1 : IVec S1 32 := broadcastInDim S1 ![] bcast_S_S1 main_c
  let main_v2 : IVec S13 32 := (extractStridedSlice S13 ![0] · slices_S14_S13_0) main_arg3
  let main_v3 : IVec S14 32 := (fun a b => concatenate S14 0 [⟨S1, a⟩, ⟨S13, b⟩] concatenates_S1_S13_S14_d0) main_v1 main_v2
  let main_c_0 : IVec S_ 32 := constantI S_ 32 0#32
  let main_v4 : IVec S14 32 := broadcastInDim S14 ![] bcast_S_S14 main_c_0
  let main_v5 : IVec S14 1 := cmpi .sge main_arg5 main_v4
  let main_c_1 : IVec S_ 32 := constantI S_ 32 10#32
  let main_v6 : IVec S14 32 := broadcastInDim S14 ![] bcast_S_S14 main_c_1
  let main_v7 : IVec S14 1 := cmpi .sle main_arg5 main_v6
  let main_v8 : IVec S14 1 := andi main_v5 main_v7
  let main_c_2 : IVec S_ 32 := constantI S_ 32 0#32
  let main_v9 : IVec S14 32 := broadcastInDim S14 ![] bcast_S_S14 main_c_2
  let main_v10 : IVec S14 1 := cmpi .sge main_arg4 main_v9
  let main_v11 : IVec S14 1 := andi main_v8 main_v10
  let main_c_3 : IVec S_ 32 := constantI S_ 32 8#32
  let main_v12 : IVec S14 32 := broadcastInDim S14 ![] bcast_S_S14 main_c_3
  let main_v13 : IVec S14 1 := cmpi .slt main_arg4 main_v12
  let main_v14 : IVec S14 1 := andi main_v11 main_v13
  let main_c_4 : IVec S_ 32 := constantI S_ 32 0#32
  let main_v15 : IVec S14 32 := broadcastInDim S14 ![] bcast_S_S14 main_c_4
  let main_v16 : IVec S14 1 := cmpi .sge main_arg3 main_v15
  let main_v17 : IVec S14 1 := andi main_v14 main_v16
  fn_part1 (F := F) main_arg1 main_arg2 main_arg3 main_arg4 main_arg5 main_v0 main_v3 main_v17
-- ==== Kernel.lean ====
abbrev S4x2048x32x128 : Shape := ⟨4, ![4, 2048, 32, 128]⟩
abbrev S4x2048x8x128 : Shape := ⟨4, ![4, 2048, 8, 128]⟩
abbrev S4x2048x32 : Shape := ⟨3, ![4, 2048, 32]⟩
abbrev S4x32x2048 : Shape := ⟨3, ![4, 32, 2048]⟩
abbrev S4x8x4x2048 : Shape := ⟨4, ![4, 8, 4, 2048]⟩
abbrev S4x8x2048x4 : Shape := ⟨4, ![4, 8, 2048, 4]⟩
abbrev S8192x4096 : Shape := ⟨2, ![8192, 4096]⟩
abbrev S_ : Shape := ⟨0, ![]⟩
abbrev S8320x4096 : Shape := ⟨2, ![8320, 4096]⟩
abbrev S8192x1024 : Shape := ⟨2, ![8192, 1024]⟩
abbrev S8320x1024 : Shape := ⟨2, ![8320, 1024]⟩
abbrev S2048x512 : Shape := ⟨2, ![2048, 512]⟩
abbrev S2048x128 : Shape := ⟨2, ![2048, 128]⟩
abbrev S1x1x2048x4 : Shape := ⟨4, ![1, 1, 2048, 4]⟩
abbrev S1x1x4x2048 : Shape := ⟨4, ![1, 1, 4, 2048]⟩
abbrev S256x256 : Shape := ⟨2, ![256, 256]⟩
abbrev S256x128 : Shape := ⟨2, ![256, 128]⟩
abbrev S1x1x256x1 : Shape := ⟨4, ![1, 1, 256, 1]⟩
abbrev S256x1 : Shape := ⟨2, ![256, 1]⟩
abbrev S1x1x1x256 : Shape := ⟨4, ![1, 1, 1, 256]⟩
abbrev S1x256 : Shape := ⟨2, ![1, 256]⟩
abbrev S256 : Shape := ⟨1, ![256]⟩
abbrev S512x128 : Shape := ⟨2, ![512, 128]⟩
abbrev S256x512 : Shape := ⟨2, ![256, 512]⟩
abbrev S1x1x1x512 : Shape := ⟨4, ![1, 1, 1, 512]⟩
abbrev S1x512 : Shape := ⟨2, ![1, 512]⟩
abbrev S768x128 : Shape := ⟨2, ![768, 128]⟩
abbrev S256x768 : Shape := ⟨2, ![256, 768]⟩
abbrev S1x1x1x768 : Shape := ⟨4, ![1, 1, 1, 768]⟩
abbrev S1x768 : Shape := ⟨2, ![1, 768]⟩
abbrev S1024x128 : Shape := ⟨2, ![1024, 128]⟩
abbrev S256x1024 : Shape := ⟨2, ![256, 1024]⟩
abbrev S1x1x1x1024 : Shape := ⟨4, ![1, 1, 1, 1024]⟩
abbrev S1x1024 : Shape := ⟨2, ![1, 1024]⟩
abbrev S1280x128 : Shape := ⟨2, ![1280, 128]⟩
abbrev S256x1280 : Shape := ⟨2, ![256, 1280]⟩
abbrev S1x1x1x1280 : Shape := ⟨4, ![1, 1, 1, 1280]⟩
abbrev S1x1280 : Shape := ⟨2, ![1, 1280]⟩
abbrev S1536x128 : Shape := ⟨2, ![1536, 128]⟩
abbrev S256x1536 : Shape := ⟨2, ![256, 1536]⟩
abbrev S1x1x1x1536 : Shape := ⟨4, ![1, 1, 1, 1536]⟩
abbrev S1x1536 : Shape := ⟨2, ![1, 1536]⟩
abbrev S1792x128 : Shape := ⟨2, ![1792, 128]⟩
abbrev S256x1792 : Shape := ⟨2, ![256, 1792]⟩
abbrev S1x1x1x1792 : Shape := ⟨4, ![1, 1, 1, 1792]⟩
abbrev S1x1792 : Shape := ⟨2, ![1, 1792]⟩
abbrev S256x2048 : Shape := ⟨2, ![256, 2048]⟩
abbrev S1x1x1x2048 : Shape := ⟨4, ![1, 1, 1, 2048]⟩
abbrev S1x2048 : Shape := ⟨2, ![1, 2048]⟩

abbrev nBuf : Space → Nat
  | .hbm => 21
  | .vmem => 12
  | .smem => 0
  | _ => 0

abbrev bufTy : (tb : Table) → Fin (tcTables nBuf tb) → BufTy
  | .hbm, ⟨0, _⟩ => ⟨S4x2048x32x128, .f32⟩
  | .hbm, ⟨1, _⟩ => ⟨S4x2048x8x128, .f32⟩
  | .hbm, ⟨2, _⟩ => ⟨S4x2048x8x128, .f32⟩
  | .hbm, ⟨3, _⟩ => ⟨S4x2048x32, .f32⟩
  | .hbm, ⟨4, _⟩ => ⟨S4x32x2048, .f32⟩
  | .hbm, ⟨5, _⟩ => ⟨S4x8x4x2048, .f32⟩
  | .hbm, ⟨6, _⟩ => ⟨S4x8x2048x4, .f32⟩
  | .hbm, ⟨7, _⟩ => ⟨S8192x4096, .f32⟩
  | .hbm, ⟨8, _⟩ => ⟨S_, .i32⟩
  | .hbm, ⟨9, _⟩ => ⟨S_, .f32⟩
  | .hbm, ⟨10, _⟩ => ⟨S8320x4096, .f32⟩
  | .hbm, ⟨11, _⟩ => ⟨S8320x4096, .bf16⟩
  | .hbm, ⟨12, _⟩ => ⟨S8192x1024, .f32⟩
  | .hbm, ⟨13, _⟩ => ⟨S_, .i32⟩
  | .hbm, ⟨14, _⟩ => ⟨S_, .f32⟩
  | .hbm, ⟨15, _⟩ => ⟨S8320x1024, .f32⟩
  | .hbm, ⟨16, _⟩ => ⟨S8192x1024, .f32⟩
  | .hbm, ⟨17, _⟩ => ⟨S_, .i32⟩
  | .hbm, ⟨18, _⟩ => ⟨S_, .f32⟩
  | .hbm, ⟨19, _⟩ => ⟨S8320x1024, .f32⟩
  | .hbm, ⟨20, _⟩ => ⟨S8320x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x1x2048x4, .f32⟩
  | .local _ .vmem, ⟨7, _⟩ => ⟨S1x1x2048x4, .f32⟩
  | .local _ .vmem, ⟨8, _⟩ => ⟨S1x1x4x2048, .f32⟩
  | .local _ .vmem, ⟨9, _⟩ => ⟨S1x1x4x2048, .f32⟩
  | .local _ .vmem, ⟨10, _⟩ => ⟨S2048x512, .bf16⟩
  | .local _ .vmem, ⟨11, _⟩ => ⟨S2048x512, .bf16⟩
  | _, _ => ⟨S4x2048x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![5, 8], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  ![v0.toNat, arg1.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x2048x32x128 : Shape := ⟨4, ![4, 2048, 32, 128]⟩
abbrev S4x2048x8x128 : Shape := ⟨4, ![4, 2048, 8, 128]⟩
abbrev S4x2048x32 : Shape := ⟨3, ![4, 2048, 32]⟩
abbrev S4x2048x8x4x128 : Shape := ⟨5, ![4, 2048, 8, 4, 128]⟩
abbrev S4x8x4x2048x128 : Shape := ⟨5, ![4, 8, 4, 2048, 128]⟩
abbrev S4x8x2048x128 : Shape := ⟨4, ![4, 8, 2048, 128]⟩
abbrev S4x2048x8x4 : Shape := ⟨4, ![4, 2048, 8, 4]⟩
abbrev S4x8x4x2048 : Shape := ⟨4, ![4, 8, 4, 2048]⟩
abbrev S4x8x4x2048x2048 : Shape := ⟨5, ![4, 8, 4, 2048, 2048]⟩
abbrev S_ : Shape := ⟨0, ![]⟩
abbrev S4x8x4x2048x1 : Shape := ⟨5, ![4, 8, 4, 2048, 1]⟩
abbrev S4x8x4x1x2048 : Shape := ⟨5, ![4, 8, 4, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8192x4096 : Shape := ⟨2, ![8192, 4096]⟩
abbrev S8320x4096 : Shape := ⟨2, ![8320, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x32x128, .f32⟩
  | .hbm, ⟨1, _⟩ => ⟨S4x2048x8x128, .f32⟩
  | .hbm, ⟨2, _⟩ => ⟨S4x2048x8x128, .f32⟩
  | .hbm, ⟨3, _⟩ => ⟨S4x2048x32, .f32⟩
  | .hbm, ⟨4, _⟩ => ⟨S4x2048x8x4x128, .f32⟩
  | .hbm, ⟨5, _⟩ => ⟨S4x8x4x2048x128, .f32⟩
  | .hbm, ⟨6, _⟩ => ⟨S4x8x2048x128, .f32⟩
  | .hbm, ⟨7, _⟩ => ⟨S4x8x2048x128, .f32⟩
  | .hbm, ⟨8, _⟩ => ⟨S4x2048x8x4, .f32⟩
  | .hbm, ⟨9, _⟩ => ⟨S4x8x4x2048, .f32⟩
  | .hbm, ⟨10, _⟩ => ⟨S4x8x4x2048x2048, .f32⟩
  | .hbm, ⟨11, _⟩ => ⟨S_, .f32⟩
  | .hbm, ⟨12, _⟩ => ⟨S4x8x4x2048x2048, .f32⟩
  | .hbm, ⟨13, _⟩ => ⟨S4x8x4x2048x2048, .f32⟩
  | .hbm, ⟨14, _⟩ => ⟨S4x8x4x2048x1, .f32⟩
  | .hbm, ⟨15, _⟩ => ⟨S4x8x4x1x2048, .f32⟩
  | .hbm, ⟨16, _⟩ => ⟨S4x8x4x2048x2048, .f32⟩
  | .hbm, ⟨17, _⟩ => ⟨S4x8x4x2048x2048, .f32⟩
  | .hbm, ⟨18, _⟩ => ⟨S4x8x4x2048x2048, .f32⟩
  | .hbm, ⟨19, _⟩ => ⟨S4x8x4x2048x2048, .f32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S4x8x4x2048x2048, .i1⟩
  | .hbm, ⟨29, _⟩ => ⟨S4x8x4x2048x2048, .f32⟩
  | .hbm, ⟨30, _⟩ => ⟨S4x8x4x2048x2048, .f32⟩
  | .hbm, ⟨31, _⟩ => ⟨S_, .f32⟩
  | .hbm, ⟨32, _⟩ => ⟨S4x8x4x2048, .f32⟩
  | .hbm, ⟨33, _⟩ => ⟨S_, .f32⟩
  | .hbm, ⟨34, _⟩ => ⟨S4x8x4x2048, .f32⟩
  | .hbm, ⟨35, _⟩ => ⟨S4x8x4x2048, .f32⟩
  | .hbm, ⟨36, _⟩ => ⟨S4x8x4x2048x1, .f32⟩
  | .hbm, ⟨37, _⟩ => ⟨S4x8x4x2048x2048, .f32⟩
  | .hbm, ⟨38, _⟩ => ⟨S4x8x4x2048x2048, .f32⟩
  | .hbm, ⟨39, _⟩ => ⟨S4x8x4x2048x2048, .f32⟩
  | .hbm, ⟨40, _⟩ => ⟨S_, .f32⟩
  | .hbm, ⟨41, _⟩ => ⟨S4x8x4x2048, .f32⟩
  | .hbm, ⟨42, _⟩ => ⟨S4x8x4x2048x1, .f32⟩
  | .hbm, ⟨43, _⟩ => ⟨S4x8x4x2048x2048, .f32⟩
  | .hbm, ⟨44, _⟩ => ⟨S4x8x4x2048x2048, .f32⟩
  | .hbm, ⟨45, _⟩ => ⟨S4x8x4x2048x128, .f32⟩
  | .hbm, ⟨46, _⟩ => ⟨S4x2048x8x4x128, .f32⟩
  | .hbm, ⟨47, _⟩ => ⟨S8192x4096, .f32⟩
  | .hbm, ⟨48, _⟩ => ⟨S_, .i32⟩
  | .hbm, ⟨49, _⟩ => ⟨S_, .f32⟩
  | .hbm, ⟨50, _⟩ => ⟨S8320x4096, .f32⟩
  | .hbm, ⟨51, _⟩ => ⟨S8320x4096, .bf16⟩
  | _, _ => ⟨S4x2048x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_call1_v0 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel4.lean ====
abbrev S4x2048x4096 : Shape := ⟨3, ![4, 2048, 4096]⟩
abbrev S8x1x4096 : Shape := ⟨3, ![8, 1, 4096]⟩
abbrev S4096x6144 : Shape := ⟨2, ![4096, 6144]⟩
abbrev S8192x4096 : Shape := ⟨2, ![8192, 4096]⟩
abbrev S8x4096 : Shape := ⟨2, ![8, 4096]⟩
abbrev S_ : Shape := ⟨0, ![]⟩
abbrev S120x4096 : Shape := ⟨2, ![120, 4096]⟩
abbrev S8320x4096 : Shape := ⟨2, ![8320, 4096]⟩
abbrev S8320x6144 : Shape := ⟨2, ![8320, 6144]⟩
abbrev S1040x4096 : Shape := ⟨2, ![1040, 4096]⟩
abbrev S4096x512 : Shape := ⟨2, ![4096, 512]⟩
abbrev S1040x512 : Shape := ⟨2, ![1040, 512]⟩
abbrev S8192x6144 : Shape := ⟨2, ![8192, 6144]⟩
abbrev S4x2048x6144 : Shape := ⟨3, ![4, 2048, 6144]⟩
abbrev S8x6144 : Shape := ⟨2, ![8, 6144]⟩
abbrev S8x1x6144 : Shape := ⟨3, ![8, 1, 6144]⟩

abbrev nBuf : Space → Nat
  | .hbm => 14
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S4096x6144, .f32⟩
  | .hbm, ⟨3, _⟩ => ⟨S8192x4096, .f32⟩
  | .hbm, ⟨4, _⟩ => ⟨S8x4096, .f32⟩
  | .hbm, ⟨5, _⟩ => ⟨S_, .f32⟩
  | .hbm, ⟨6, _⟩ => ⟨S120x4096, .f32⟩
  | .hbm, ⟨7, _⟩ => ⟨S8320x4096, .f32⟩
  | .hbm, ⟨8, _⟩ => ⟨S8320x4096, .bf16⟩
  | .hbm, ⟨9, _⟩ => ⟨S8320x6144, .f32⟩
  | .hbm, ⟨10, _⟩ => ⟨S8192x6144, .f32⟩
  | .hbm, ⟨11, _⟩ => ⟨S4x2048x6144, .f32⟩
  | .hbm, ⟨12, _⟩ => ⟨S8x6144, .f32⟩
  | .hbm, ⟨13, _⟩ => ⟨S8x1x6144, .f32⟩
  | .local _ .vmem, ⟨0, _⟩ => ⟨S1040x4096, .bf16⟩
  | .local _ .vmem, ⟨1, _⟩ => ⟨S1040x4096, .bf16⟩
  | .local _ .vmem, ⟨2, _⟩ => ⟨S4096x512, .f32⟩
  | .local _ .vmem, ⟨3, _⟩ => ⟨S4096x512, .f32⟩
  | .local _ .vmem, ⟨4, _⟩ => ⟨S1040x512, .f32⟩
  | .local _ .vmem, ⟨5, _⟩ => ⟨S1040x512, .f32⟩
  | .local _ .vmem, ⟨6, _⟩ => ⟨S4096x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4x2048x4096 : Shape := ⟨3, ![4, 2048, 4096]⟩
abbrev S8x1x4096 : Shape := ⟨3, ![8, 1, 4096]⟩
abbrev S4096x6144 : Shape := ⟨2, ![4096, 6144]⟩
abbrev S4x2048x6144 : Shape := ⟨3, ![4, 2048, 6144]⟩
abbrev S8x1x6144 : Shape := ⟨3, ![8, 1, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S4096x6144, .f32⟩
  | .hbm, ⟨3, _⟩ => ⟨S4x2048x6144, .f32⟩
  | .hbm, ⟨4, _⟩ => ⟨S8x1x6144, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel5.lean ====
abbrev S4x2048x4096 : Shape := ⟨3, ![4, 2048, 4096]⟩
abbrev S8x1x4096 : Shape := ⟨3, ![8, 1, 4096]⟩
abbrev S4096x6176 : Shape := ⟨2, ![4096, 6176]⟩
abbrev S8192x4096 : Shape := ⟨2, ![8192, 4096]⟩
abbrev S8x4096 : Shape := ⟨2, ![8, 4096]⟩
abbrev S_ : Shape := ⟨0, ![]⟩
abbrev S120x4096 : Shape := ⟨2, ![120, 4096]⟩
abbrev S8320x4096 : Shape := ⟨2, ![8320, 4096]⟩
abbrev S8320x6144 : Shape := ⟨2, ![8320, 6144]⟩
abbrev S1040x4096 : Shape := ⟨2, ![1040, 4096]⟩
abbrev S4096x512 : Shape := ⟨2, ![4096, 512]⟩
abbrev S1040x512 : Shape := ⟨2, ![1040, 512]⟩
abbrev S8192x6144 : Shape := ⟨2, ![8192, 6144]⟩
abbrev S4x2048x6144 : Shape := ⟨3, ![4, 2048, 6144]⟩
abbrev S8x6144 : Shape := ⟨2, ![8, 6144]⟩
abbrev S8x1x6144 : Shape := ⟨3, ![8, 1, 6144]⟩

abbrev nBuf : Space → Nat
  | .hbm => 14
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S4096x6176, .f32⟩
  | .hbm, ⟨3, _⟩ => ⟨S8192x4096, .f32⟩
  | .hbm, ⟨4, _⟩ => ⟨S8x4096, .f32⟩
  | .hbm, ⟨5, _⟩ => ⟨S_, .f32⟩
  | .hbm, ⟨6, _⟩ => ⟨S120x4096, .f32⟩
  | .hbm, ⟨7, _⟩ => ⟨S8320x4096, .f32⟩
  | .hbm, ⟨8, _⟩ => ⟨S8320x4096, .bf16⟩
  | .hbm, ⟨9, _⟩ => ⟨S8320x6144, .f32⟩
  | .hbm, ⟨10, _⟩ => ⟨S8192x6144, .f32⟩
  | .hbm, ⟨11, _⟩ => ⟨S4x2048x6144, .f32⟩
  | .hbm, ⟨12, _⟩ => ⟨S8x6144, .f32⟩
  | .hbm, ⟨13, _⟩ => ⟨S8x1x6144, .f32⟩
  | .local _ .vmem, ⟨0, _⟩ => ⟨S1040x4096, .bf16⟩
  | .local _ .vmem, ⟨1, _⟩ => ⟨S1040x4096, .bf16⟩
  | .local _ .vmem, ⟨2, _⟩ => ⟨S4096x512, .f32⟩
  | .local _ .vmem, ⟨3, _⟩ => ⟨S4096x512, .f32⟩
  | .local _ .vmem, ⟨4, _⟩ => ⟨S1040x512, .f32⟩
  | .local _ .vmem, ⟨5, _⟩ => ⟨S1040x512, .f32⟩
  | .local _ .vmem, ⟨6, _⟩ => ⟨S4096x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x2048x4096 : Shape := ⟨3, ![4, 2048, 4096]⟩
abbrev S8x1x4096 : Shape := ⟨3, ![8, 1, 4096]⟩
abbrev S4096x6176 : Shape := ⟨2, ![4096, 6176]⟩
abbrev S4x2048x6176 : Shape := ⟨3, ![4, 2048, 6176]⟩
abbrev S4x2048x6144 : Shape := ⟨3, ![4, 2048, 6144]⟩
abbrev S8x1x6176 : Shape := ⟨3, ![8, 1, 6176]⟩
abbrev S8x1x6144 : Shape := ⟨3, ![8, 1, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S4096x6176, .f32⟩
  | .hbm, ⟨3, _⟩ => ⟨S4x2048x6176, .f32⟩
  | .hbm, ⟨4, _⟩ => ⟨S4x2048x6144, .f32⟩
  | .hbm, ⟨5, _⟩ => ⟨S8x1x6176, .f32⟩
  | .hbm, ⟨6, _⟩ => ⟨S8x1x6144, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4x2048x4096 : Shape := ⟨3, ![4, 2048, 4096]⟩
abbrev S8x1x4096 : Shape := ⟨3, ![8, 1, 4096]⟩
abbrev S4096x4096 : Shape := ⟨2, ![4096, 4096]⟩
abbrev S8192x4096 : Shape := ⟨2, ![8192, 4096]⟩
abbrev S8x4096 : Shape := ⟨2, ![8, 4096]⟩
abbrev S_ : Shape := ⟨0, ![]⟩
abbrev S120x4096 : Shape := ⟨2, ![120, 4096]⟩
abbrev S8320x4096 : Shape := ⟨2, ![8320, 4096]⟩
abbrev S1040x4096 : Shape := ⟨2, ![1040, 4096]⟩
abbrev S4096x512 : Shape := ⟨2, ![4096, 512]⟩
abbrev S1040x512 : Shape := ⟨2, ![1040, 512]⟩

abbrev nBuf : Space → Nat
  | .hbm => 14
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S4096x4096, .f32⟩
  | .hbm, ⟨3, _⟩ => ⟨S8192x4096, .f32⟩
  | .hbm, ⟨4, _⟩ => ⟨S8x4096, .f32⟩
  | .hbm, ⟨5, _⟩ => ⟨S_, .f32⟩
  | .hbm, ⟨6, _⟩ => ⟨S120x4096, .f32⟩
  | .hbm, ⟨7, _⟩ => ⟨S8320x4096, .f32⟩
  | .hbm, ⟨8, _⟩ => ⟨S8320x4096, .bf16⟩
  | .hbm, ⟨9, _⟩ => ⟨S8320x4096, .f32⟩
  | .hbm, ⟨10, _⟩ => ⟨S8192x4096, .f32⟩
  | .hbm, ⟨11, _⟩ => ⟨S4x2048x4096, .f32⟩
  | .hbm, ⟨12, _⟩ => ⟨S8x4096, .f32⟩
  | .hbm, ⟨13, _⟩ => ⟨S8x1x4096, .f32⟩
  | .local _ .vmem, ⟨0, _⟩ => ⟨S1040x4096, .bf16⟩
  | .local _ .vmem, ⟨1, _⟩ => ⟨S1040x4096, .bf16⟩
  | .local _ .vmem, ⟨2, _⟩ => ⟨S4096x512, .f32⟩
  | .local _ .vmem, ⟨3, _⟩ => ⟨S4096x512, .f32⟩
  | .local _ .vmem, ⟨4, _⟩ => ⟨S1040x512, .f32⟩
  | .local _ .vmem, ⟨5, _⟩ => ⟨S1040x512, .f32⟩
  | .local _ .vmem, ⟨6, _⟩ => ⟨S4096x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4x2048x4096 : Shape := ⟨3, ![4, 2048, 4096]⟩
abbrev S8x1x4096 : Shape := ⟨3, ![8, 1, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S4096x4096, .f32⟩
  | .hbm, ⟨3, _⟩ => ⟨S4x2048x4096, .f32⟩
  | .hbm, ⟨4, _⟩ => ⟨S8x1x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel2.lean ====
abbrev S4x2048x4096 : Shape := ⟨3, ![4, 2048, 4096]⟩
abbrev S8x1x4096 : Shape := ⟨3, ![8, 1, 4096]⟩
abbrev S4096x14336 : Shape := ⟨2, ![4096, 14336]⟩
abbrev S8192x4096 : Shape := ⟨2, ![8192, 4096]⟩
abbrev S8x4096 : Shape := ⟨2, ![8, 4096]⟩
abbrev S_ : Shape := ⟨0, ![]⟩
abbrev S120x4096 : Shape := ⟨2, ![120, 4096]⟩
abbrev S8320x4096 : Shape := ⟨2, ![8320, 4096]⟩
abbrev S4 : Shape := ⟨1, ![4]⟩
abbrev S1x4096x14336 : Shape := ⟨3, ![1, 4096, 14336]⟩
abbrev S8320x14336 : Shape := ⟨2, ![8320, 14336]⟩
abbrev S2080x4096 : Shape := ⟨2, ![2080, 4096]⟩
abbrev S1 : Shape := ⟨1, ![1]⟩
abbrev S1x4096x256 : Shape := ⟨3, ![1, 4096, 256]⟩
abbrev S2080x256 : Shape := ⟨2, ![2080, 256]⟩
abbrev S4096x512 : Shape := ⟨2, ![4096, 512]⟩
abbrev S4096x256 : Shape := ⟨2, ![4096, 256]⟩
abbrev S416x4096 : Shape := ⟨2, ![416, 4096]⟩
abbrev S416x512 : Shape := ⟨2, ![416, 512]⟩
abbrev S416x256 : Shape := ⟨2, ![416, 256]⟩
abbrev S8192x14336 : Shape := ⟨2, ![8192, 14336]⟩
abbrev S4x2048x14336 : Shape := ⟨3, ![4, 2048, 14336]⟩
abbrev S8x14336 : Shape := ⟨2, ![8, 14336]⟩
abbrev S8x1x14336 : Shape := ⟨3, ![8, 1, 14336]⟩

abbrev nBuf : Space → Nat
  | .hbm => 19
  | .vmem => 8
  | .smem => 3
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S4096x14336, .f32⟩
  | .hbm, ⟨3, _⟩ => ⟨S4096x14336, .f32⟩
  | .hbm, ⟨4, _⟩ => ⟨S8192x4096, .f32⟩
  | .hbm, ⟨5, _⟩ => ⟨S8x4096, .f32⟩
  | .hbm, ⟨6, _⟩ => ⟨S_, .f32⟩
  | .hbm, ⟨7, _⟩ => ⟨S120x4096, .f32⟩
  | .hbm, ⟨8, _⟩ => ⟨S8320x4096, .f32⟩
  | .hbm, ⟨9, _⟩ => ⟨S8320x4096, .bf16⟩
  | .hbm, ⟨10, _⟩ => ⟨S_, .i32⟩
  | .hbm, ⟨11, _⟩ => ⟨S_, .i32⟩
  | .hbm, ⟨12, _⟩ => ⟨S1x4096x14336, .f32⟩
  | .hbm, ⟨13, _⟩ => ⟨S1x4096x14336, .f32⟩
  | .hbm, ⟨14, _⟩ => ⟨S8320x14336, .bf16⟩
  | .hbm, ⟨15, _⟩ => ⟨S8192x14336, .bf16⟩
  | .hbm, ⟨16, _⟩ => ⟨S4x2048x14336, .bf16⟩
  | .hbm, ⟨17, _⟩ => ⟨S8x14336, .bf16⟩
  | .hbm, ⟨18, _⟩ => ⟨S8x1x14336, .bf16⟩
  | .local _ .vmem, ⟨0, _⟩ => ⟨S2080x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S2080x256, .bf16⟩
  | .local _ .vmem, ⟨6, _⟩ => ⟨S2080x256, .bf16⟩
  | .local _ .vmem, ⟨7, _⟩ => ⟨S4096x512, .bf16⟩
  | .local _ .smem, ⟨0, _⟩ => ⟨S4, .i32⟩
  | .local _ .smem, ⟨1, _⟩ => ⟨S4, .i32⟩
  | .local _ .smem, ⟨2, _⟩ => ⟨S4, .i32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v5 : Ref sig .tc := ⟨.smem, 0, rfl⟩
abbrev main_v6 : Ref sig .tc := ⟨.smem, 1, rfl⟩
abbrev main_v7 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 56], ![false, false]⟩

abbrev pre0 : Pipeline.Prefetch sig := ⟨3, ![main_v5.idx, main_v6.idx, main_v7.idx], fun | 0 => main_v5.names | 1 => main_v6.names | 2 => main_v7.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S4) ![v0.toNat] S1.size (k0_off1_inb i)) numel1_S1
  let v2 : Index := Scalar.indexCast arg0
  let v3 : BitVec 32 := pf.at 2 (Rect.unit (s := S4) ![v2.toNat] S1.size (k0_off1_inb i)) numel1_S1
  let c0_i32 : BitVec 32 := 0#32
  let v4 : BitVec 1 := Scalar.cmpi .eq v3 c0_i32
  let c55_i32 : BitVec 32 := 55#32
  let v5 : BitVec 32 := Scalar.select v4 c55_i32 arg1
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S4) ![v0.toNat] S1.size (k0_off1_inb i)) numel1_S1
  let v2 : Index := Scalar.indexCast arg0
  let v3 : BitVec 32 := pf.at 2 (Rect.unit (s := S4) ![v2.toNat] S1.size (k0_off1_inb i)) numel1_S1
  let c0_i32 : BitVec 32 := 0#32
  let v4 : BitVec 1 := Scalar.cmpi .eq v3 c0_i32
  let c55_i32 : BitVec 32 := 55#32
  let v5 : BitVec 32 := Scalar.select v4 c55_i32 arg1
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let v2 : Index := Scalar.indexCast arg0
  let v3 : BitVec 32 := pf.at 2 (Rect.unit (s := S4) ![v2.toNat] S1.size (k0_off1_inb i)) numel1_S1
  let c0_i32 : BitVec 32 := 0#32
  let v4 : BitVec 1 := Scalar.cmpi .eq v3 c0_i32
  let c55_i32 : BitVec 32 := 55#32
  let v5 : BitVec 32 := Scalar.select v4 c55_i32 arg1
  let c0_i32_0 : BitVec 32 := 0#32
  ![v1.toNat, v5.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2080x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x2048x4096 : Shape := ⟨3, ![4, 2048, 4096]⟩
abbrev S8x1x4096 : Shape := ⟨3, ![8, 1, 4096]⟩
abbrev S4096x14336 : Shape := ⟨2, ![4096, 14336]⟩
abbrev S4x2048x14336 : Shape := ⟨3, ![4, 2048, 14336]⟩
abbrev S_ : Shape := ⟨0, ![]⟩
abbrev S8x1x14336 : Shape := ⟨3, ![8, 1, 14336]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S4096x14336, .f32⟩
  | .hbm, ⟨3, _⟩ => ⟨S4096x14336, .f32⟩
  | .hbm, ⟨4, _⟩ => ⟨S4x2048x14336, .f32⟩
  | .hbm, ⟨5, _⟩ => ⟨S4x2048x14336, .f32⟩
  | .hbm, ⟨6, _⟩ => ⟨S4x2048x14336, .f32⟩
  | .hbm, ⟨7, _⟩ => ⟨S_, .f32⟩
  | .hbm, ⟨8, _⟩ => ⟨S4x2048x14336, .f32⟩
  | .hbm, ⟨9, _⟩ => ⟨S4x2048x14336, .f32⟩
  | .hbm, ⟨10, _⟩ => ⟨S_, .f32⟩
  | .hbm, ⟨11, _⟩ => ⟨S4x2048x14336, .f32⟩
  | .hbm, ⟨12, _⟩ => ⟨S4x2048x14336, .f32⟩
  | .hbm, ⟨13, _⟩ => ⟨S4x2048x14336, .f32⟩
  | .hbm, ⟨14, _⟩ => ⟨S4x2048x14336, .f32⟩
  | .hbm, ⟨15, _⟩ => ⟨S4x2048x14336, .f32⟩
  | .hbm, ⟨16, _⟩ => ⟨S4x2048x14336, .bf16⟩
  | .hbm, ⟨17, _⟩ => ⟨S8x1x14336, .f32⟩
  | .hbm, ⟨18, _⟩ => ⟨S8x1x14336, .f32⟩
  | .hbm, ⟨19, _⟩ => ⟨S8x1x14336, .f32⟩
  | .hbm, ⟨20, _⟩ => ⟨S_, .f32⟩
  | .hbm, ⟨21, _⟩ => ⟨S8x1x14336, .f32⟩
  | .hbm, ⟨22, _⟩ => ⟨S8x1x14336, .f32⟩
  | .hbm, ⟨23, _⟩ => ⟨S_, .f32⟩
  | .hbm, ⟨24, _⟩ => ⟨S8x1x14336, .f32⟩
  | .hbm, ⟨25, _⟩ => ⟨S8x1x14336, .f32⟩
  | .hbm, ⟨26, _⟩ => ⟨S8x1x14336, .f32⟩
  | .hbm, ⟨27, _⟩ => ⟨S8x1x14336, .f32⟩
  | .hbm, ⟨28, _⟩ => ⟨S8x1x14336, .f32⟩
  | .hbm, ⟨29, _⟩ => ⟨S8x1x14336, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Kernel3.lean ====
abbrev S4x2048x14336 : Shape := ⟨3, ![4, 2048, 14336]⟩
abbrev S8x1x14336 : Shape := ⟨3, ![8, 1, 14336]⟩
abbrev S14336x4096 : Shape := ⟨2, ![14336, 4096]⟩
abbrev S4 : Shape := ⟨1, ![4]⟩
abbrev S_ : Shape := ⟨0, ![]⟩
abbrev S8192x14336 : Shape := ⟨2, ![8192, 14336]⟩
abbrev S8x14336 : Shape := ⟨2, ![8, 14336]⟩
abbrev S120x14336 : Shape := ⟨2, ![120, 14336]⟩
abbrev S8320x14336 : Shape := ⟨2, ![8320, 14336]⟩
abbrev S1x14336x4096 : Shape := ⟨3, ![1, 14336, 4096]⟩
abbrev S8320x1 : Shape := ⟨2, ![8320, 1]⟩
abbrev S8320x4096 : Shape := ⟨2, ![8320, 4096]⟩
abbrev S2080x1024 : Shape := ⟨2, ![2080, 1024]⟩
abbrev S1 : Shape := ⟨1, ![1]⟩
abbrev S1x1024x1024 : Shape := ⟨3, ![1, 1024, 1024]⟩
abbrev S2080x1 : Shape := ⟨2, ![2080, 1]⟩
abbrev S1024x1024 : Shape := ⟨2, ![1024, 1024]⟩
abbrev S416x1024 : Shape := ⟨2, ![416, 1024]⟩
abbrev S8192x4096 : Shape := ⟨2, ![8192, 4096]⟩
abbrev S4x2048x4096 : Shape := ⟨3, ![4, 2048, 4096]⟩
abbrev S8x4096 : Shape := ⟨2, ![8, 4096]⟩
abbrev S8x1x4096 : Shape := ⟨3, ![8, 1, 4096]⟩

abbrev nBuf : Space → Nat
  | .hbm => 19
  | .vmem => 9
  | .smem => 3
  | _ => 0

abbrev bufTy : (tb : Table) → Fin (tcTables nBuf tb) → BufTy
  | .hbm, ⟨0, _⟩ => ⟨S4x2048x14336, .f32⟩
  | .hbm, ⟨1, _⟩ => ⟨S8x1x14336, .f32⟩
  | .hbm, ⟨2, _⟩ => ⟨S14336x4096, .f32⟩
  | .hbm, ⟨3, _⟩ => ⟨S_, .i32⟩
  | .hbm, ⟨4, _⟩ => ⟨S_, .i32⟩
  | .hbm, ⟨5, _⟩ => ⟨S8192x14336, .f32⟩
  | .hbm, ⟨6, _⟩ => ⟨S8x14336, .f32⟩
  | .hbm, ⟨7, _⟩ => ⟨S_, .f32⟩
  | .hbm, ⟨8, _⟩ => ⟨S120x14336, .f32⟩
  | .hbm, ⟨9, _⟩ => ⟨S8320x14336, .f32⟩
  | .hbm, ⟨10, _⟩ => ⟨S8320x14336, .bf16⟩
  | .hbm, ⟨11, _⟩ => ⟨S1x14336x4096, .f32⟩
  | .hbm, ⟨12, _⟩ => ⟨S_, .f32⟩
  | .hbm, ⟨13, _⟩ => ⟨S8320x1, .f32⟩
  | .hbm, ⟨14, _⟩ => ⟨S8320x4096, .f32⟩
  | .hbm, ⟨15, _⟩ => ⟨S8192x4096, .f32⟩
  | .hbm, ⟨16, _⟩ => ⟨S4x2048x4096, .f32⟩
  | .hbm, ⟨17, _⟩ => ⟨S8x4096, .f32⟩
  | .hbm, ⟨18, _⟩ => ⟨S8x1x4096, .f32⟩
  | .local _ .vmem, ⟨0, _⟩ => ⟨S2080x1024, .bf16⟩
  | .local _ .vmem, ⟨1, _⟩ => ⟨S2080x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S2080x1, .f32⟩
  | .local _ .vmem, ⟨5, _⟩ => ⟨S2080x1, .f32⟩
  | .local _ .vmem, ⟨6, _⟩ => ⟨S2080x1024, .f32⟩
  | .local _ .vmem, ⟨7, _⟩ => ⟨S2080x1024, .f32⟩
  | .local _ .vmem, ⟨8, _⟩ => ⟨S1024x1024, .bf16⟩
  | .local _ .smem, ⟨0, _⟩ => ⟨S4, .i32⟩
  | .local _ .smem, ⟨1, _⟩ => ⟨S4, .i32⟩
  | .local _ .smem, ⟨2, _⟩ => ⟨S4, .i32⟩
  | _, _ => ⟨S4x2048x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v0 : Ref sig .tc := ⟨.smem, 0, rfl⟩
abbrev main_v1 : Ref sig .tc := ⟨.smem, 1, rfl⟩
abbrev main_v2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 14], ![false, false, false]⟩

abbrev pre0 : Pipeline.Prefetch sig := ⟨3, ![main_v0.idx, main_v1.idx, main_v2.idx], fun | 0 => main_v0.names | 1 => main_v1.names | 2 => main_v2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 2 (Rect.unit (s := S4) ![v0.toNat] S1.size (k0_off1_inb i)) numel1_S1
  let c0_i32 : BitVec 32 := 0#32
  let v2 : BitVec 1 := Scalar.cmpi .eq v1 c0_i32
  let c3_i32 : BitVec 32 := 3#32
  let v3 : BitVec 32 := Scalar.select v2 c3_i32 arg1
  let c13_i32 : BitVec 32 := 13#32
  let v4 : BitVec 32 := Scalar.select v2 c13_i32 arg2
  let v5 : Index := Scalar.indexCast arg0
  let v6 : BitVec 32 := pf.at 0 (Rect.unit (s := S4) ![v5.toNat] S1.size (k0_off1_inb i)) numel1_S1
  let c0_i32_0 : BitVec 32 := 0#32
  ![v6.toNat, v4.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 2 (Rect.unit (s := S4) ![v0.toNat] S1.size (k0_off1_inb i)) numel1_S1
  let c0_i32 : BitVec 32 := 0#32
  let v2 : BitVec 1 := Scalar.cmpi .eq v1 c0_i32
  let c3_i32 : BitVec 32 := 3#32
  let v3 : BitVec 32 := Scalar.select v2 c3_i32 arg1
  let c13_i32 : BitVec 32 := 13#32
  let v4 : BitVec 32 := Scalar.select v2 c13_i32 arg2
  let v5 : Index := Scalar.indexCast arg0
  let v6 : BitVec 32 := pf.at 1 (Rect.unit (s := S4) ![v5.toNat] S1.size (k0_off1_inb i)) numel1_S1
  let c0_i32_0 : BitVec 32 := 0#32
  ![v6.toNat, v4.toNat, v3.toNat]

def cc0_transform_2 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 2 (Rect.unit (s := S4) ![v0.toNat] S1.size (k0_off1_inb i)) numel1_S1
  let c0_i32 : BitVec 32 := 0#32
  let v2 : BitVec 1 := Scalar.cmpi .eq v1 c0_i32
  let c3_i32 : BitVec 32 := 3#32
  let v3 : BitVec 32 := Scalar.select v2 c3_i32 arg1
  let c13_i32 : BitVec 32 := 13#32
  let v4 : BitVec 32 := Scalar.select v2 c13_i32 arg2
  let v5 : Index := Scalar.indexCast arg0
  let v6 : BitVec 32 := pf.at 0 (Rect.unit (s := S4) ![v5.toNat] S1.size (k0_off1_inb i)) numel1_S1
  let c0_i32_0 : BitVec 32 := 0#32
  ![v6.toNat, v3.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2080x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2080x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4x2048x14336 : Shape := ⟨3, ![4, 2048, 14336]⟩
abbrev S8x1x14336 : Shape := ⟨3, ![8, 1, 14336]⟩
abbrev S14336x4096 : Shape := ⟨2, ![14336, 4096]⟩
abbrev S4x2048x4096 : Shape := ⟨3, ![4, 2048, 4096]⟩
abbrev S8x1x4096 : Shape := ⟨3, ![8, 1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x14336, .f32⟩
  | .hbm, ⟨1, _⟩ => ⟨S8x1x14336, .f32⟩
  | .hbm, ⟨2, _⟩ => ⟨S14336x4096, .f32⟩
  | .hbm, ⟨3, _⟩ => ⟨S4x2048x4096, .f32⟩
  | .hbm, ⟨4, _⟩ => ⟨S8x1x4096, .f32⟩
  | _, _ => ⟨S4x2048x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S35840x4096 : Shape := ⟨2, ![35840, 4096]⟩
abbrev S16400 : Shape := ⟨1, ![16400]⟩
abbrev S14 : Shape := ⟨1, ![14]⟩
abbrev S8x4096x14336 : Shape := ⟨3, ![8, 4096, 14336]⟩
abbrev S35840x14336 : Shape := ⟨2, ![35840, 14336]⟩
abbrev S2560x4096 : Shape := ⟨2, ![2560, 4096]⟩
abbrev S1 : Shape := ⟨1, ![1]⟩
abbrev S1x4096x256 : Shape := ⟨3, ![1, 4096, 256]⟩
abbrev S2560x256 : Shape := ⟨2, ![2560, 256]⟩
abbrev S4096x512 : Shape := ⟨2, ![4096, 512]⟩
abbrev S4096x256 : Shape := ⟨2, ![4096, 256]⟩
abbrev S512x4096 : Shape := ⟨2, ![512, 4096]⟩
abbrev S512x512 : Shape := ⟨2, ![512, 512]⟩
abbrev S512x256 : Shape := ⟨2, ![512, 256]⟩
abbrev S256x4096 : Shape := ⟨2, ![256, 4096]⟩
abbrev S256x512 : Shape := ⟨2, ![256, 512]⟩
abbrev S256x256 : Shape := ⟨2, ![256, 256]⟩
abbrev S_ : Shape := ⟨0, ![]⟩
abbrev S16400x1 : Shape := ⟨2, ![16400, 1]⟩
abbrev S16400x14336 : Shape := ⟨2, ![16400, 14336]⟩

abbrev nBuf : Space → Nat
  | .hbm => 16
  | .vmem => 8
  | .smem => 3
  | _ => 0

abbrev bufTy : (tb : Table) → Fin (tcTables nBuf tb) → BufTy
  | .hbm, ⟨0, _⟩ => ⟨S35840x4096, .f32⟩
  | .hbm, ⟨1, _⟩ => ⟨S16400, .i32⟩
  | .hbm, ⟨2, _⟩ => ⟨S16400, .i32⟩
  | .hbm, ⟨3, _⟩ => ⟨S8x4096x14336, .f32⟩
  | .hbm, ⟨4, _⟩ => ⟨S8x4096x14336, .f32⟩
  | .hbm, ⟨5, _⟩ => ⟨S35840x4096, .bf16⟩
  | .hbm, ⟨6, _⟩ => ⟨S35840x14336, .bf16⟩
  | .hbm, ⟨7, _⟩ => ⟨S_, .i32⟩
  | .hbm, ⟨8, _⟩ => ⟨S16400, .i32⟩
  | .hbm, ⟨9, _⟩ => ⟨S16400, .i1⟩
  | .hbm, ⟨10, _⟩ => ⟨S_, .i32⟩
  | .hbm, ⟨11, _⟩ => ⟨S16400, .i32⟩
  | .hbm, ⟨12, _⟩ => ⟨S16400, .i32⟩
  | .hbm, ⟨13, _⟩ => ⟨S16400, .i32⟩
  | .hbm, ⟨14, _⟩ => ⟨S16400x1, .i32⟩
  | .hbm, ⟨15, _⟩ => ⟨S16400x14336, .bf16⟩
  | .local _ .vmem, ⟨0, _⟩ => ⟨S2560x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S2560x256, .bf16⟩
  | .local _ .vmem, ⟨6, _⟩ => ⟨S2560x256, .bf16⟩
  | .local _ .vmem, ⟨7, _⟩ => ⟨S4096x512, .bf16⟩
  | .local _ .smem, ⟨0, _⟩ => ⟨S14, .i32⟩
  | .local _ .smem, ⟨1, _⟩ => ⟨S14, .i32⟩
  | .local _ .smem, ⟨2, _⟩ => ⟨S14, .i32⟩
  | _, _ => ⟨S35840x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_arg3 : Ref sig .tc := ⟨.smem, 0, rfl⟩
abbrev main_arg4 : Ref sig .tc := ⟨.smem, 1, rfl⟩
abbrev main_arg5 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![14, 56], ![false, false]⟩

abbrev pre0 : Pipeline.Prefetch sig := ⟨3, ![main_arg3.idx, main_arg4.idx, main_arg5.idx], fun | 0 => main_arg3.names | 1 => main_arg4.names | 2 => main_arg5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (v1 : BitVec 32) : BitVec 1 :=
  let c0_i32_1 : BitVec 32 := 0#32
  let v6 : BitVec 1 := Scalar.cmpi .sgt v1 c0_i32_1
  let v7 : BitVec 32 := Scalar.extui v6
  let c0_i32_2 : BitVec 32 := 0#32
  let v8 : BitVec 1 := Scalar.cmpi .slt v1 c0_i32_2
  let v9 : BitVec 32 := Scalar.extui v8
  let v10 : BitVec 32 := Scalar.subi v7 v9
  let c2_i32 : BitVec 32 := 2#32
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi v1 c2_i32
  let c0_i32_5 : BitVec 32 := 0#32
  let v18 : BitVec 1 := Scalar.cmpi .ne v17 c0_i32_5
  let v19 : BitVec 1 := Scalar.andi v16 v18
  let v5 : BitVec 32 := Scalar.divsi v1 c2_i32
  let c1_i32 : BitVec 32 := 1#32
  let v20 : BitVec 32 := Scalar.subi v5 c1_i32
  let v21 : BitVec 32 := Scalar.select v19 v20 v5
  let c0_i32_12 : BitVec 32 := 0#32
  let v32 : BitVec 1 := Scalar.cmpi .sgt v21 c0_i32_12
  let v40 : BitVec 32 := Scalar.extui v32
  let c0_i32_17 : BitVec 32 := 0#32
  let v41 : BitVec 1 := Scalar.cmpi .ne v40 c0_i32_17
  v41

def k0_cond3 (v1 : BitVec 32) : BitVec 1 :=
  let c0_i32_1 : BitVec 32 := 0#32
  let v6 : BitVec 1 := Scalar.cmpi .sgt v1 c0_i32_1
  let v7 : BitVec 32 := Scalar.extui v6
  let c0_i32_2 : BitVec 32 := 0#32
  let v8 : BitVec 1 := Scalar.cmpi .slt v1 c0_i32_2
  let v9 : BitVec 32 := Scalar.extui v8
  let v10 : BitVec 32 := Scalar.subi v7 v9
  let c2_i32 : BitVec 32 := 2#32
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi v1 c2_i32
  let c0_i32_5 : BitVec 32 := 0#32
  let v18 : BitVec 1 := Scalar.cmpi .ne v17 c0_i32_5
  let v19 : BitVec 1 := Scalar.andi v16 v18
  let v5 : BitVec 32 := Scalar.divsi v1 c2_i32
  let c1_i32 : BitVec 32 := 1#32
  let v20 : BitVec 32 := Scalar.subi v5 c1_i32
  let v21 : BitVec 32 := Scalar.select v19 v20 v5
  let c0_i32_13 : BitVec 32 := 0#32
  let v33 : BitVec 1 := Scalar.cmpi .eq v21 c0_i32_13
  let c2_i32_6 : BitVec 32 := 2#32
  let c0_i32_7 : BitVec 32 := 0#32
  let v22 : BitVec 1 := Scalar.cmpi .eq c2_i32_6 c0_i32_7
  let c1_i32_8 : BitVec 32 := 1#32
  let v23 : BitVec 32 := Scalar.select v22 c1_i32_8 c2_i32_6
  let v24 : BitVec 32 := Scalar.remsi v1 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c1_i32_14 : BitVec 32 := 1#32
  let v34 : BitVec 1 := Scalar.cmpi .eq v31 c1_i32_14
  let v35 : BitVec 1 := Scalar.andi v33 v34
  let v42 : BitVec 32 := Scalar.extui v35
  let c0_i32_18 : BitVec 32 := 0#32
  let v43 : BitVec 1 := Scalar.cmpi .ne v42 c0_i32_18
  v43

def k0_cond4 (v1 : BitVec 32) : BitVec 1 :=
  let c0_i32_1 : BitVec 32 := 0#32
  let v6 : BitVec 1 := Scalar.cmpi .sgt v1 c0_i32_1
  let v7 : BitVec 32 := Scalar.extui v6
  let c0_i32_2 : BitVec 32 := 0#32
  let v8 : BitVec 1 := Scalar.cmpi .slt v1 c0_i32_2
  let v9 : BitVec 32 := Scalar.extui v8
  let v10 : BitVec 32 := Scalar.subi v7 v9
  let c2_i32 : BitVec 32 := 2#32
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi v1 c2_i32
  let c0_i32_5 : BitVec 32 := 0#32
  let v18 : BitVec 1 := Scalar.cmpi .ne v17 c0_i32_5
  let v19 : BitVec 1 := Scalar.andi v16 v18
  let v5 : BitVec 32 := Scalar.divsi v1 c2_i32
  let c1_i32 : BitVec 32 := 1#32
  let v20 : BitVec 32 := Scalar.subi v5 c1_i32
  let v21 : BitVec 32 := Scalar.select v19 v20 v5
  let c2_i32_6 : BitVec 32 := 2#32
  let c0_i32_7 : BitVec 32 := 0#32
  let v22 : BitVec 1 := Scalar.cmpi .eq c2_i32_6 c0_i32_7
  let c1_i32_8 : BitVec 32 := 1#32
  let v23 : BitVec 32 := Scalar.select v22 c1_i32_8 c2_i32_6
  let v24 : BitVec 32 := Scalar.remsi v1 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let v36 : BitVec 32 := Scalar.addi v21 v31
  let c0_i32_15 : BitVec 32 := 0#32
  let v37 : BitVec 1 := Scalar.cmpi .sle v36 c0_i32_15
  let c0_i32_16 : BitVec 32 := 0#32
  let v38 : BitVec 1 := Scalar.cmpi .sgt v1 c0_i32_16
  let v39 : BitVec 1 := Scalar.andi v37 v38
  let v44 : BitVec 32 := Scalar.extui v39
  let c0_i32_19 : BitVec 32 := 0#32
  let v45 : BitVec 1 := Scalar.cmpi .ne v44 c0_i32_19
  v45

def k0_cond5 (v1 : BitVec 32) : BitVec 1 :=
  let c0_i32_21 : BitVec 32 := 0#32
  let v47 : BitVec 1 := Scalar.cmpi .sgt v1 c0_i32_21
  let v48 : BitVec 32 := Scalar.extui v47
  let c0_i32_22 : BitVec 32 := 0#32
  let v49 : BitVec 1 := Scalar.cmpi .slt v1 c0_i32_22
  let v50 : BitVec 32 := Scalar.extui v49
  let v51 : BitVec 32 := Scalar.subi v48 v50
  let c2_i32_20 : BitVec 32 := 2#32
  let c0_i32_23 : BitVec 32 := 0#32
  let v52 : BitVec 1 := Scalar.cmpi .sgt c2_i32_20 c0_i32_23
  let v53 : BitVec 32 := Scalar.extui v52
  let c0_i32_24 : BitVec 32 := 0#32
  let v54 : BitVec 1 := Scalar.cmpi .slt c2_i32_20 c0_i32_24
  let v55 : BitVec 32 := Scalar.extui v54
  let v56 : BitVec 32 := Scalar.subi v53 v55
  let v57 : BitVec 1 := Scalar.cmpi .ne v51 v56
  let v58 : BitVec 32 := Scalar.remsi v1 c2_i32_20
  let c0_i32_25 : BitVec 32 := 0#32
  let v59 : BitVec 1 := Scalar.cmpi .ne v58 c0_i32_25
  let v60 : BitVec 1 := Scalar.andi v57 v59
  let v46 : BitVec 32 := Scalar.divsi v1 c2_i32_20
  let c1_i32_26 : BitVec 32 := 1#32
  let v61 : BitVec 32 := Scalar.subi v46 c1_i32_26
  let v62 : BitVec 32 := Scalar.select v60 v61 v46
  let c1_i32_33 : BitVec 32 := 1#32
  let v73 : BitVec 1 := Scalar.cmpi .sgt v62 c1_i32_33
  let v81 : BitVec 32 := Scalar.extui v73
  let c0_i32_38 : BitVec 32 := 0#32
  let v82 : BitVec 1 := Scalar.cmpi .ne v81 c0_i32_38
  v82

def k0_cond6 (v1 : BitVec 32) : BitVec 1 :=
  let c0_i32_21 : BitVec 32 := 0#32
  let v47 : BitVec 1 := Scalar.cmpi .sgt v1 c0_i32_21
  let v48 : BitVec 32 := Scalar.extui v47
  let c0_i32_22 : BitVec 32 := 0#32
  let v49 : BitVec 1 := Scalar.cmpi .slt v1 c0_i32_22
  let v50 : BitVec 32 := Scalar.extui v49
  let v51 : BitVec 32 := Scalar.subi v48 v50
  let c2_i32_20 : BitVec 32 := 2#32
  let c0_i32_23 : BitVec 32 := 0#32
  let v52 : BitVec 1 := Scalar.cmpi .sgt c2_i32_20 c0_i32_23
  let v53 : BitVec 32 := Scalar.extui v52
  let c0_i32_24 : BitVec 32 := 0#32
  let v54 : BitVec 1 := Scalar.cmpi .slt c2_i32_20 c0_i32_24
  let v55 : BitVec 32 := Scalar.extui v54
  let v56 : BitVec 32 := Scalar.subi v53 v55
  let v57 : BitVec 1 := Scalar.cmpi .ne v51 v56
  let v58 : BitVec 32 := Scalar.remsi v1 c2_i32_20
  let c0_i32_25 : BitVec 32 := 0#32
  let v59 : BitVec 1 := Scalar.cmpi .ne v58 c0_i32_25
  let v60 : BitVec 1 := Scalar.andi v57 v59
  let v46 : BitVec 32 := Scalar.divsi v1 c2_i32_20
  let c1_i32_26 : BitVec 32 := 1#32
  let v61 : BitVec 32 := Scalar.subi v46 c1_i32_26
  let v62 : BitVec 32 := Scalar.select v60 v61 v46
  let c1_i32_34 : BitVec 32 := 1#32
  let v74 : BitVec 1 := Scalar.cmpi .eq v62 c1_i32_34
  let c2_i32_27 : BitVec 32 := 2#32
  let c0_i32_28 : BitVec 32 := 0#32
  let v63 : BitVec 1 := Scalar.cmpi .eq c2_i32_27 c0_i32_28
  let c1_i32_29 : BitVec 32 := 1#32
  let v64 : BitVec 32 := Scalar.select v63 c1_i32_29 c2_i32_27
  let v65 : BitVec 32 := Scalar.remsi v1 v64
  let c0_i32_31 : BitVec 32 := 0#32
  let v67 : BitVec 1 := Scalar.cmpi .slt v65 c0_i32_31
  let c0_i32_32 : BitVec 32 := 0#32
  let v68 : BitVec 1 := Scalar.cmpi .slt v64 c0_i32_32
  let v69 : BitVec 1 := Scalar.xori v67 v68
  let c0_i32_30 : BitVec 32 := 0#32
  let v66 : BitVec 1 := Scalar.cmpi .ne v65 c0_i32_30
  let v70 : BitVec 1 := Scalar.andi v69 v66
  let v71 : BitVec 32 := Scalar.addi v65 v64
  let v72 : BitVec 32 := Scalar.select v70 v71 v65
  let c1_i32_35 : BitVec 32 := 1#32
  let v75 : BitVec 1 := Scalar.cmpi .eq v72 c1_i32_35
  let v76 : BitVec 1 := Scalar.andi v74 v75
  let v83 : BitVec 32 := Scalar.extui v76
  let c0_i32_39 : BitVec 32 := 0#32
  let v84 : BitVec 1 := Scalar.cmpi .ne v83 c0_i32_39
  v84

def k0_cond7 (v1 : BitVec 32) : BitVec 1 :=
  let c0_i32_21 : BitVec 32 := 0#32
  let v47 : BitVec 1 := Scalar.cmpi .sgt v1 c0_i32_21
  let v48 : BitVec 32 := Scalar.extui v47
  let c0_i32_22 : BitVec 32 := 0#32
  let v49 : BitVec 1 := Scalar.cmpi .slt v1 c0_i32_22
  let v50 : BitVec 32 := Scalar.extui v49
  let v51 : BitVec 32 := Scalar.subi v48 v50
  let c2_i32_20 : BitVec 32 := 2#32
  let c0_i32_23 : BitVec 32 := 0#32
  let v52 : BitVec 1 := Scalar.cmpi .sgt c2_i32_20 c0_i32_23
  let v53 : BitVec 32 := Scalar.extui v52
  let c0_i32_24 : BitVec 32 := 0#32
  let v54 : BitVec 1 := Scalar.cmpi .slt c2_i32_20 c0_i32_24
  let v55 : BitVec 32 := Scalar.extui v54
  let v56 : BitVec 32 := Scalar.subi v53 v55
  let v57 : BitVec 1 := Scalar.cmpi .ne v51 v56
  let v58 : BitVec 32 := Scalar.remsi v1 c2_i32_20
  let c0_i32_25 : BitVec 32 := 0#32
  let v59 : BitVec 1 := Scalar.cmpi .ne v58 c0_i32_25
  let v60 : BitVec 1 := Scalar.andi v57 v59
  let v46 : BitVec 32 := Scalar.divsi v1 c2_i32_20
  let c1_i32_26 : BitVec 32 := 1#32
  let v61 : BitVec 32 := Scalar.subi v46 c1_i32_26
  let v62 : BitVec 32 := Scalar.select v60 v61 v46
  let c2_i32_27 : BitVec 32 := 2#32
  let c0_i32_28 : BitVec 32 := 0#32
  let v63 : BitVec 1 := Scalar.cmpi .eq c2_i32_27 c0_i32_28
  let c1_i32_29 : BitVec 32 := 1#32
  let v64 : BitVec 32 := Scalar.select v63 c1_i32_29 c2_i32_27
  let v65 : BitVec 32 := Scalar.remsi v1 v64
  let c0_i32_31 : BitVec 32 := 0#32
  let v67 : BitVec 1 := Scalar.cmpi .slt v65 c0_i32_31
  let c0_i32_32 : BitVec 32 := 0#32
  let v68 : BitVec 1 := Scalar.cmpi .slt v64 c0_i32_32
  let v69 : BitVec 1 := Scalar.xori v67 v68
  let c0_i32_30 : BitVec 32 := 0#32
  let v66 : BitVec 1 := Scalar.cmpi .ne v65 c0_i32_30
  let v70 : BitVec 1 := Scalar.andi v69 v66
  let v71 : BitVec 32 := Scalar.addi v65 v64
  let v72 : BitVec 32 := Scalar.select v70 v71 v65
  let v77 : BitVec 32 := Scalar.addi v62 v72
  let c1_i32_36 : BitVec 32 := 1#32
  let v78 : BitVec 1 := Scalar.cmpi .sle v77 c1_i32_36
  let c0_i32_37 : BitVec 32 := 0#32
  let v79 : BitVec 1 := Scalar.cmpi .sgt v1 c0_i32_37
  let v80 : BitVec 1 := Scalar.andi v78 v79
  let v85 : BitVec 32 := Scalar.extui v80
  let c0_i32_40 : BitVec 32 := 0#32
  let v86 : BitVec 1 := Scalar.cmpi .ne v85 c0_i32_40
  v86

def k0_cond8 (v1 : BitVec 32) : BitVec 1 :=
  let c0_i32_42 : BitVec 32 := 0#32
  let v88 : BitVec 1 := Scalar.cmpi .sgt v1 c0_i32_42
  let v89 : BitVec 32 := Scalar.extui v88
  let c0_i32_43 : BitVec 32 := 0#32
  let v90 : BitVec 1 := Scalar.cmpi .slt v1 c0_i32_43
  let v91 : BitVec 32 := Scalar.extui v90
  let v92 : BitVec 32 := Scalar.subi v89 v91
  let c2_i32_41 : BitVec 32 := 2#32
  let c0_i32_44 : BitVec 32 := 0#32
  let v93 : BitVec 1 := Scalar.cmpi .sgt c2_i32_41 c0_i32_44
  let v94 : BitVec 32 := Scalar.extui v93
  let c0_i32_45 : BitVec 32 := 0#32
  let v95 : BitVec 1 := Scalar.cmpi .slt c2_i32_41 c0_i32_45
  let v96 : BitVec 32 := Scalar.extui v95
  let v97 : BitVec 32 := Scalar.subi v94 v96
  let v98 : BitVec 1 := Scalar.cmpi .ne v92 v97
  let v99 : BitVec 32 := Scalar.remsi v1 c2_i32_41
  let c0_i32_46 : BitVec 32 := 0#32
  let v100 : BitVec 1 := Scalar.cmpi .ne v99 c0_i32_46
  let v101 : BitVec 1 := Scalar.andi v98 v100
  let v87 : BitVec 32 := Scalar.divsi v1 c2_i32_41
  let c1_i32_47 : BitVec 32 := 1#32
  let v102 : BitVec 32 := Scalar.subi v87 c1_i32_47
  let v103 : BitVec 32 := Scalar.select v101 v102 v87
  let c2_i32_54 : BitVec 32 := 2#32
  let v114 : BitVec 1 := Scalar.cmpi .sgt v103 c2_i32_54
  let v122 : BitVec 32 := Scalar.extui v114
  let c0_i32_59 : BitVec 32 := 0#32
  let v123 : BitVec 1 := Scalar.cmpi .ne v122 c0_i32_59
  v123

def k0_cond9 (v1 : BitVec 32) : BitVec 1 :=
  let c0_i32_42 : BitVec 32 := 0#32
  let v88 : BitVec 1 := Scalar.cmpi .sgt v1 c0_i32_42
  let v89 : BitVec 32 := Scalar.extui v88
  let c0_i32_43 : BitVec 32 := 0#32
  let v90 : BitVec 1 := Scalar.cmpi .slt v1 c0_i32_43
  let v91 : BitVec 32 := Scalar.extui v90
  let v92 : BitVec 32 := Scalar.subi v89 v91
  let c2_i32_41 : BitVec 32 := 2#32
  let c0_i32_44 : BitVec 32 := 0#32
  let v93 : BitVec 1 := Scalar.cmpi .sgt c2_i32_41 c0_i32_44
  let v94 : BitVec 32 := Scalar.extui v93
  let c0_i32_45 : BitVec 32 := 0#32
  let v95 : BitVec 1 := Scalar.cmpi .slt c2_i32_41 c0_i32_45
  let v96 : BitVec 32 := Scalar.extui v95
  let v97 : BitVec 32 := Scalar.subi v94 v96
  let v98 : BitVec 1 := Scalar.cmpi .ne v92 v97
  let v99 : BitVec 32 := Scalar.remsi v1 c2_i32_41
  let c0_i32_46 : BitVec 32 := 0#32
  let v100 : BitVec 1 := Scalar.cmpi .ne v99 c0_i32_46
  let v101 : BitVec 1 := Scalar.andi v98 v100
  let v87 : BitVec 32 := Scalar.divsi v1 c2_i32_41
  let c1_i32_47 : BitVec 32 := 1#32
  let v102 : BitVec 32 := Scalar.subi v87 c1_i32_47
  let v103 : BitVec 32 := Scalar.select v101 v102 v87
  let c2_i32_55 : BitVec 32 := 2#32
  let v115 : BitVec 1 := Scalar.cmpi .eq v103 c2_i32_55
  let c2_i32_48 : BitVec 32 := 2#32
  let c0_i32_49 : BitVec 32 := 0#32
  let v104 : BitVec 1 := Scalar.cmpi .eq c2_i32_48 c0_i32_49
  let c1_i32_50 : BitVec 32 := 1#32
  let v105 : BitVec 32 := Scalar.select v104 c1_i32_50 c2_i32_48
  let v106 : BitVec 32 := Scalar.remsi v1 v105
  let c0_i32_52 : BitVec 32 := 0#32
  let v108 : BitVec 1 := Scalar.cmpi .slt v106 c0_i32_52
  let c0_i32_53 : BitVec 32 := 0#32
  let v109 : BitVec 1 := Scalar.cmpi .slt v105 c0_i32_53
  let v110 : BitVec 1 := Scalar.xori v108 v109
  let c0_i32_51 : BitVec 32 := 0#32
  let v107 : BitVec 1 := Scalar.cmpi .ne v106 c0_i32_51
  let v111 : BitVec 1 := Scalar.andi v110 v107
  let v112 : BitVec 32 := Scalar.addi v106 v105
  let v113 : BitVec 32 := Scalar.select v111 v112 v106
  let c1_i32_56 : BitVec 32 := 1#32
  let v116 : BitVec 1 := Scalar.cmpi .eq v113 c1_i32_56
  let v117 : BitVec 1 := Scalar.andi v115 v116
  let v124 : BitVec 32 := Scalar.extui v117
  let c0_i32_60 : BitVec 32 := 0#32
  let v125 : BitVec 1 := Scalar.cmpi .ne v124 c0_i32_60
  v125

def k0_cond10 (v1 : BitVec 32) : BitVec 1 :=
  let c0_i32_42 : BitVec 32 := 0#32
  let v88 : BitVec 1 := Scalar.cmpi .sgt v1 c0_i32_42
  let v89 : BitVec 32 := Scalar.extui v88
  let c0_i32_43 : BitVec 32 := 0#32
  let v90 : BitVec 1 := Scalar.cmpi .slt v1 c0_i32_43
  let v91 : BitVec 32 := Scalar.extui v90
  let v92 : BitVec 32 := Scalar.subi v89 v91
  let c2_i32_41 : BitVec 32 := 2#32
  let c0_i32_44 : BitVec 32 := 0#32
  let v93 : BitVec 1 := Scalar.cmpi .sgt c2_i32_41 c0_i32_44
  let v94 : BitVec 32 := Scalar.extui v93
  let c0_i32_45 : BitVec 32 := 0#32
  let v95 : BitVec 1 := Scalar.cmpi .slt c2_i32_41 c0_i32_45
  let v96 : BitVec 32 := Scalar.extui v95
  let v97 : BitVec 32 := Scalar.subi v94 v96
  let v98 : BitVec 1 := Scalar.cmpi .ne v92 v97
  let v99 : BitVec 32 := Scalar.remsi v1 c2_i32_41
  let c0_i32_46 : BitVec 32 := 0#32
  let v100 : BitVec 1 := Scalar.cmpi .ne v99 c0_i32_46
  let v101 : BitVec 1 := Scalar.andi v98 v100
  let v87 : BitVec 32 := Scalar.divsi v1 c2_i32_41
  let c1_i32_47 : BitVec 32 := 1#32
  let v102 : BitVec 32 := Scalar.subi v87 c1_i32_47
  let v103 : BitVec 32 := Scalar.select v101 v102 v87
  let c2_i32_48 : BitVec 32 := 2#32
  let c0_i32_49 : BitVec 32 := 0#32
  let v104 : BitVec 1 := Scalar.cmpi .eq c2_i32_48 c0_i32_49
  let c1_i32_50 : BitVec 32 := 1#32
  let v105 : BitVec 32 := Scalar.select v104 c1_i32_50 c2_i32_48
  let v106 : BitVec 32 := Scalar.remsi v1 v105
  let c0_i32_52 : BitVec 32 := 0#32
  let v108 : BitVec 1 := Scalar.cmpi .slt v106 c0_i32_52
  let c0_i32_53 : BitVec 32 := 0#32
  let v109 : BitVec 1 := Scalar.cmpi .slt v105 c0_i32_53
  let v110 : BitVec 1 := Scalar.xori v108 v109
  let c0_i32_51 : BitVec 32 := 0#32
  let v107 : BitVec 1 := Scalar.cmpi .ne v106 c0_i32_51
  let v111 : BitVec 1 := Scalar.andi v110 v107
  let v112 : BitVec 32 := Scalar.addi v106 v105
  let v113 : BitVec 32 := Scalar.select v111 v112 v106
  let v118 : BitVec 32 := Scalar.addi v103 v113
  let c2_i32_57 : BitVec 32 := 2#32
  let v119 : BitVec 1 := Scalar.cmpi .sle v118 c2_i32_57
  let c0_i32_58 : BitVec 32 := 0#32
  let v120 : BitVec 1 := Scalar.cmpi .sgt v1 c0_i32_58
  let v121 : BitVec 1 := Scalar.andi v119 v120
  let v126 : BitVec 32 := Scalar.extui v121
  let c0_i32_61 : BitVec 32 := 0#32
  let v127 : BitVec 1 := Scalar.cmpi .ne v126 c0_i32_61
  v127

def k0_cond11 (v1 : BitVec 32) : BitVec 1 :=
  let c0_i32_63 : BitVec 32 := 0#32
  let v129 : BitVec 1 := Scalar.cmpi .sgt v1 c0_i32_63
  let v130 : BitVec 32 := Scalar.extui v129
  let c0_i32_64 : BitVec 32 := 0#32
  let v131 : BitVec 1 := Scalar.cmpi .slt v1 c0_i32_64
  let v132 : BitVec 32 := Scalar.extui v131
  let v133 : BitVec 32 := Scalar.subi v130 v132
  let c2_i32_62 : BitVec 32 := 2#32
  let c0_i32_65 : BitVec 32 := 0#32
  let v134 : BitVec 1 := Scalar.cmpi .sgt c2_i32_62 c0_i32_65
  let v135 : BitVec 32 := Scalar.extui v134
  let c0_i32_66 : BitVec 32 := 0#32
  let v136 : BitVec 1 := Scalar.cmpi .slt c2_i32_62 c0_i32_66
  let v137 : BitVec 32 := Scalar.extui v136
  let v138 : BitVec 32 := Scalar.subi v135 v137
  let v139 : BitVec 1 := Scalar.cmpi .ne v133 v138
  let v140 : BitVec 32 := Scalar.remsi v1 c2_i32_62
  let c0_i32_67 : BitVec 32 := 0#32
  let v141 : BitVec 1 := Scalar.cmpi .ne v140 c0_i32_67
  let v142 : BitVec 1 := Scalar.andi v139 v141
  let v128 : BitVec 32 := Scalar.divsi v1 c2_i32_62
  let c1_i32_68 : BitVec 32 := 1#32
  let v143 : BitVec 32 := Scalar.subi v128 c1_i32_68
  let v144 : BitVec 32 := Scalar.select v142 v143 v128
  let c3_i32 : BitVec 32 := 3#32
  let v155 : BitVec 1 := Scalar.cmpi .sgt v144 c3_i32
  let v163 : BitVec 32 := Scalar.extui v155
  let c0_i32_79 : BitVec 32 := 0#32
  let v164 : BitVec 1 := Scalar.cmpi .ne v163 c0_i32_79
  v164

def k0_cond12 (v1 : BitVec 32) : BitVec 1 :=
  let c0_i32_63 : BitVec 32 := 0#32
  let v129 : BitVec 1 := Scalar.cmpi .sgt v1 c0_i32_63
  let v130 : BitVec 32 := Scalar.extui v129
  let c0_i32_64 : BitVec 32 := 0#32
  let v131 : BitVec 1 := Scalar.cmpi .slt v1 c0_i32_64
  let v132 : BitVec 32 := Scalar.extui v131
  let v133 : BitVec 32 := Scalar.subi v130 v132
  let c2_i32_62 : BitVec 32 := 2#32
  let c0_i32_65 : BitVec 32 := 0#32
  let v134 : BitVec 1 := Scalar.cmpi .sgt c2_i32_62 c0_i32_65
  let v135 : BitVec 32 := Scalar.extui v134
  let c0_i32_66 : BitVec 32 := 0#32
  let v136 : BitVec 1 := Scalar.cmpi .slt c2_i32_62 c0_i32_66
  let v137 : BitVec 32 := Scalar.extui v136
  let v138 : BitVec 32 := Scalar.subi v135 v137
  let v139 : BitVec 1 := Scalar.cmpi .ne v133 v138
  let v140 : BitVec 32 := Scalar.remsi v1 c2_i32_62
  let c0_i32_67 : BitVec 32 := 0#32
  let v141 : BitVec 1 := Scalar.cmpi .ne v140 c0_i32_67
  let v142 : BitVec 1 := Scalar.andi v139 v141
  let v128 : BitVec 32 := Scalar.divsi v1 c2_i32_62
  let c1_i32_68 : BitVec 32 := 1#32
  let v143 : BitVec 32 := Scalar.subi v128 c1_i32_68
  let v144 : BitVec 32 := Scalar.select v142 v143 v128
  let c3_i32_75 : BitVec 32 := 3#32
  let v156 : BitVec 1 := Scalar.cmpi .eq v144 c3_i32_75
  let c2_i32_69 : BitVec 32 := 2#32
  let c0_i32_70 : BitVec 32 := 0#32
  let v145 : BitVec 1 := Scalar.cmpi .eq c2_i32_69 c0_i32_70
  let c1_i32_71 : BitVec 32 := 1#32
  let v146 : BitVec 32 := Scalar.select v145 c1_i32_71 c2_i32_69
  let v147 : BitVec 32 := Scalar.remsi v1 v146
  let c0_i32_73 : BitVec 32 := 0#32
  let v149 : BitVec 1 := Scalar.cmpi .slt v147 c0_i32_73
  let c0_i32_74 : BitVec 32 := 0#32
  let v150 : BitVec 1 := Scalar.cmpi .slt v146 c0_i32_74
  let v151 : BitVec 1 := Scalar.xori v149 v150
  let c0_i32_72 : BitVec 32 := 0#32
  let v148 : BitVec 1 := Scalar.cmpi .ne v147 c0_i32_72
  let v152 : BitVec 1 := Scalar.andi v151 v148
  let v153 : BitVec 32 := Scalar.addi v147 v146
  let v154 : BitVec 32 := Scalar.select v152 v153 v147
  let c1_i32_76 : BitVec 32 := 1#32
  let v157 : BitVec 1 := Scalar.cmpi .eq v154 c1_i32_76
  let v158 : BitVec 1 := Scalar.andi v156 v157
  let v165 : BitVec 32 := Scalar.extui v158
  let c0_i32_80 : BitVec 32 := 0#32
  let v166 : BitVec 1 := Scalar.cmpi .ne v165 c0_i32_80
  v166

def k0_cond13 (v1 : BitVec 32) : BitVec 1 :=
  let c0_i32_63 : BitVec 32 := 0#32
  let v129 : BitVec 1 := Scalar.cmpi .sgt v1 c0_i32_63
  let v130 : BitVec 32 := Scalar.extui v129
  let c0_i32_64 : BitVec 32 := 0#32
  let v131 : BitVec 1 := Scalar.cmpi .slt v1 c0_i32_64
  let v132 : BitVec 32 := Scalar.extui v131
  let v133 : BitVec 32 := Scalar.subi v130 v132
  let c2_i32_62 : BitVec 32 := 2#32
  let c0_i32_65 : BitVec 32 := 0#32
  let v134 : BitVec 1 := Scalar.cmpi .sgt c2_i32_62 c0_i32_65
  let v135 : BitVec 32 := Scalar.extui v134
  let c0_i32_66 : BitVec 32 := 0#32
  let v136 : BitVec 1 := Scalar.cmpi .slt c2_i32_62 c0_i32_66
  let v137 : BitVec 32 := Scalar.extui v136
  let v138 : BitVec 32 := Scalar.subi v135 v137
  let v139 : BitVec 1 := Scalar.cmpi .ne v133 v138
  let v140 : BitVec 32 := Scalar.remsi v1 c2_i32_62
  let c0_i32_67 : BitVec 32 := 0#32
  let v141 : BitVec 1 := Scalar.cmpi .ne v140 c0_i32_67
  let v142 : BitVec 1 := Scalar.andi v139 v141
  let v128 : BitVec 32 := Scalar.divsi v1 c2_i32_62
  let c1_i32_68 : BitVec 32 := 1#32
  let v143 : BitVec 32 := Scalar.subi v128 c1_i32_68
  let v144 : BitVec 32 := Scalar.select v142 v143 v128
  let c2_i32_69 : BitVec 32 := 2#32
  let c0_i32_70 : BitVec 32 := 0#32
  let v145 : BitVec 1 := Scalar.cmpi .eq c2_i32_69 c0_i32_70
  let c1_i32_71 : BitVec 32 := 1#32
  let v146 : BitVec 32 := Scalar.select v145 c1_i32_71 c2_i32_69
  let v147 : BitVec 32 := Scalar.remsi v1 v146
  let c0_i32_73 : BitVec 32 := 0#32
  let v149 : BitVec 1 := Scalar.cmpi .slt v147 c0_i32_73
  let c0_i32_74 : BitVec 32 := 0#32
  let v150 : BitVec 1 := Scalar.cmpi .slt v146 c0_i32_74
  let v151 : BitVec 1 := Scalar.xori v149 v150
  let c0_i32_72 : BitVec 32 := 0#32
  let v148 : BitVec 1 := Scalar.cmpi .ne v147 c0_i32_72
  let v152 : BitVec 1 := Scalar.andi v151 v148
  let v153 : BitVec 32 := Scalar.addi v147 v146
  let v154 : BitVec 32 := Scalar.select v152 v153 v147
  let v159 : BitVec 32 := Scalar.addi v144 v154
  let c3_i32_77 : BitVec 32 := 3#32
  let v160 : BitVec 1 := Scalar.cmpi .sle v159 c3_i32_77
  let c0_i32_78 : BitVec 32 := 0#32
  let v161 : BitVec 1 := Scalar.cmpi .sgt v1 c0_i32_78
  let v162 : BitVec 1 := Scalar.andi v160 v161
  let v167 : BitVec 32 := Scalar.extui v162
  let c0_i32_81 : BitVec 32 := 0#32
  let v168 : BitVec 1 := Scalar.cmpi .ne v167 c0_i32_81
  v168

def k0_cond14 (v1 : BitVec 32) : BitVec 1 :=
  let c0_i32_83 : BitVec 32 := 0#32
  let v170 : BitVec 1 := Scalar.cmpi .sgt v1 c0_i32_83
  let v171 : BitVec 32 := Scalar.extui v170
  let c0_i32_84 : BitVec 32 := 0#32
  let v172 : BitVec 1 := Scalar.cmpi .slt v1 c0_i32_84
  let v173 : BitVec 32 := Scalar.extui v172
  let v174 : BitVec 32 := Scalar.subi v171 v173
  let c2_i32_82 : BitVec 32 := 2#32
  let c0_i32_85 : BitVec 32 := 0#32
  let v175 : BitVec 1 := Scalar.cmpi .sgt c2_i32_82 c0_i32_85
  let v176 : BitVec 32 := Scalar.extui v175
  let c0_i32_86 : BitVec 32 := 0#32
  let v177 : BitVec 1 := Scalar.cmpi .slt c2_i32_82 c0_i32_86
  let v178 : BitVec 32 := Scalar.extui v177
  let v179 : BitVec 32 := Scalar.subi v176 v178
  let v180 : BitVec 1 := Scalar.cmpi .ne v174 v179
  let v181 : BitVec 32 := Scalar.remsi v1 c2_i32_82
  let c0_i32_87 : BitVec 32 := 0#32
  let v182 : BitVec 1 := Scalar.cmpi .ne v181 c0_i32_87
  let v183 : BitVec 1 := Scalar.andi v180 v182
  let v169 : BitVec 32 := Scalar.divsi v1 c2_i32_82
  let c1_i32_88 : BitVec 32 := 1#32
  let v184 : BitVec 32 := Scalar.subi v169 c1_i32_88
  let v185 : BitVec 32 := Scalar.select v183 v184 v169
  let c4_i32 : BitVec 32 := 4#32
  let v196 : BitVec 1 := Scalar.cmpi .sgt v185 c4_i32
  let v204 : BitVec 32 := Scalar.extui v196
  let c0_i32_99 : BitVec 32 := 0#32
  let v205 : BitVec 1 := Scalar.cmpi .ne v204 c0_i32_99
  v205

def k0_cond15 (v1 : BitVec 32) : BitVec 1 :=
  let c0_i32_83 : BitVec 32 := 0#32
  let v170 : BitVec 1 := Scalar.cmpi .sgt v1 c0_i32_83
  let v171 : BitVec 32 := Scalar.extui v170
  let c0_i32_84 : BitVec 32 := 0#32
  let v172 : BitVec 1 := Scalar.cmpi .slt v1 c0_i32_84
  let v173 : BitVec 32 := Scalar.extui v172
  let v174 : BitVec 32 := Scalar.subi v171 v173
  let c2_i32_82 : BitVec 32 := 2#32
  let c0_i32_85 : BitVec 32 := 0#32
  let v175 : BitVec 1 := Scalar.cmpi .sgt c2_i32_82 c0_i32_85
  let v176 : BitVec 32 := Scalar.extui v175
  let c0_i32_86 : BitVec 32 := 0#32
  let v177 : BitVec 1 := Scalar.cmpi .slt c2_i32_82 c0_i32_86
  let v178 : BitVec 32 := Scalar.extui v177
  let v179 : BitVec 32 := Scalar.subi v176 v178
  let v180 : BitVec 1 := Scalar.cmpi .ne v174 v179
  let v181 : BitVec 32 := Scalar.remsi v1 c2_i32_82
  let c0_i32_87 : BitVec 32 := 0#32
  let v182 : BitVec 1 := Scalar.cmpi .ne v181 c0_i32_87
  let v183 : BitVec 1 := Scalar.andi v180 v182
  let v169 : BitVec 32 := Scalar.divsi v1 c2_i32_82
  let c1_i32_88 : BitVec 32 := 1#32
  let v184 : BitVec 32 := Scalar.subi v169 c1_i32_88
  let v185 : BitVec 32 := Scalar.select v183 v184 v169
  let c4_i32_95 : BitVec 32 := 4#32
  let v197 : BitVec 1 := Scalar.cmpi .eq v185 c4_i32_95
  let c2_i32_89 : BitVec 32 := 2#32
  let c0_i32_90 : BitVec 32 := 0#32
  let v186 : BitVec 1 := Scalar.cmpi .eq c2_i32_89 c0_i32_90
  let c1_i32_91 : BitVec 32 := 1#32
  let v187 : BitVec 32 := Scalar.select v186 c1_i32_91 c2_i32_89
  let v188 : BitVec 32 := Scalar.remsi v1 v187
  let c0_i32_93 : BitVec 32 := 0#32
  let v190 : BitVec 1 := Scalar.cmpi .slt v188 c0_i32_93
  let c0_i32_94 : BitVec 32 := 0#32
  let v191 : BitVec 1 := Scalar.cmpi .slt v187 c0_i32_94
  let v192 : BitVec 1 := Scalar.xori v190 v191
  let c0_i32_92 : BitVec 32 := 0#32
  let v189 : BitVec 1 := Scalar.cmpi .ne v188 c0_i32_92
  let v193 : BitVec 1 := Scalar.andi v192 v189
  let v194 : BitVec 32 := Scalar.addi v188 v187
  let v195 : BitVec 32 := Scalar.select v193 v194 v188
  let c1_i32_96 : BitVec 32 := 1#32
  let v198 : BitVec 1 := Scalar.cmpi .eq v195 c1_i32_96
  let v199 : BitVec 1 := Scalar.andi v197 v198
  let v206 : BitVec 32 := Scalar.extui v199
  let c0_i32_100 : BitVec 32 := 0#32
  let v207 : BitVec 1 := Scalar.cmpi .ne v206 c0_i32_100
  v207

def k0_cond16 (v1 : BitVec 32) : BitVec 1 :=
  let c0_i32_83 : BitVec 32 := 0#32
  let v170 : BitVec 1 := Scalar.cmpi .sgt v1 c0_i32_83
  let v171 : BitVec 32 := Scalar.extui v170
  let c0_i32_84 : BitVec 32 := 0#32
  let v172 : BitVec 1 := Scalar.cmpi .slt v1 c0_i32_84
  let v173 : BitVec 32 := Scalar.extui v172
  let v174 : BitVec 32 := Scalar.subi v171 v173
  let c2_i32_82 : BitVec 32 := 2#32
  let c0_i32_85 : BitVec 32 := 0#32
  let v175 : BitVec 1 := Scalar.cmpi .sgt c2_i32_82 c0_i32_85
  let v176 : BitVec 32 := Scalar.extui v175
  let c0_i32_86 : BitVec 32 := 0#32
  let v177 : BitVec 1 := Scalar.cmpi .slt c2_i32_82 c0_i32_86
  let v178 : BitVec 32 := Scalar.extui v177
  let v179 : BitVec 32 := Scalar.subi v176 v178
  let v180 : BitVec 1 := Scalar.cmpi .ne v174 v179
  let v181 : BitVec 32 := Scalar.remsi v1 c2_i32_82
  let c0_i32_87 : BitVec 32 := 0#32
  let v182 : BitVec 1 := Scalar.cmpi .ne v181 c0_i32_87
  let v183 : BitVec 1 := Scalar.andi v180 v182
  let v169 : BitVec 32 := Scalar.divsi v1 c2_i32_82
  let c1_i32_88 : BitVec 32 := 1#32
  let v184 : BitVec 32 := Scalar.subi v169 c1_i32_88
  let v185 : BitVec 32 := Scalar.select v183 v184 v169
  let c2_i32_89 : BitVec 32 := 2#32
  let c0_i32_90 : BitVec 32 := 0#32
  let v186 : BitVec 1 := Scalar.cmpi .eq c2_i32_89 c0_i32_90
  let c1_i32_91 : BitVec 32 := 1#32
  let v187 : BitVec 32 := Scalar.select v186 c1_i32_91 c2_i32_89
  let v188 : BitVec 32 := Scalar.remsi v1 v187
  let c0_i32_93 : BitVec 32 := 0#32
  let v190 : BitVec 1 := Scalar.cmpi .slt v188 c0_i32_93
  let c0_i32_94 : BitVec 32 := 0#32
  let v191 : BitVec 1 := Scalar.cmpi .slt v187 c0_i32_94
  let v192 : BitVec 1 := Scalar.xori v190 v191
  let c0_i32_92 : BitVec 32 := 0#32
  let v189 : BitVec 1 := Scalar.cmpi .ne v188 c0_i32_92
  let v193 : BitVec 1 := Scalar.andi v192 v189
  let v194 : BitVec 32 := Scalar.addi v188 v187
  let v195 : BitVec 32 := Scalar.select v193 v194 v188
  let v200 : BitVec 32 := Scalar.addi v185 v195
  let c4_i32_97 : BitVec 32 := 4#32
  let v201 : BitVec 1 := Scalar.cmpi .sle v200 c4_i32_97
  let c0_i32_98 : BitVec 32 := 0#32
  let v202 : BitVec 1 := Scalar.cmpi .sgt v1 c0_i32_98
  let v203 : BitVec 1 := Scalar.andi v201 v202
  let v208 : BitVec 32 := Scalar.extui v203
  let c0_i32_101 : BitVec 32 := 0#32
  let v209 : BitVec 1 := Scalar.cmpi .ne v208 c0_i32_101
  v209

def cc0_transform_0 (k0_off1_inb : ∀ i : grid0.Coords, ∀ a, (k0_off1 i) a + S1.size a ≤ S14.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S14) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S14.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S14) ![v0.toNat] S1.size (k0_off1_inb i)) numel1_S1
  let v2 : Index := Scalar.indexCast arg0
  let v3 : BitVec 32 := pf.at 2 (Rect.unit (s := S14) ![v2.toNat] S1.size (k0_off1_inb i)) numel1_S1
  let c0_i32 : BitVec 32 := 0#32
  let v4 : BitVec 1 := Scalar.cmpi .eq v3 c0_i32
  let c55_i32 : BitVec 32 := 55#32
  let v5 : BitVec 32 := Scalar.select v4 c55_i32 arg1
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S14.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S14) ![v0.toNat] S1.size (k0_off1_inb i)) numel1_S1
  let v2 : Index := Scalar.indexCast arg0
  let v3 : BitVec 32 := pf.at 2 (Rect.unit (s := S14) ![v2.toNat] S1.size (k0_off1_inb i)) numel1_S1
  let c0_i32 : BitVec 32 := 0#32
  let v4 : BitVec 1 := Scalar.cmpi .eq v3 c0_i32
  let c55_i32 : BitVec 32 := 55#32
  let v5 : BitVec 32 := Scalar.select v4 c55_i32 arg1
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S14.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S14) ![v0.toNat] S1.size (k0_off1_inb i)) numel1_S1
  let v2 : Index := Scalar.indexCast arg0
  let v3 : BitVec 32 := pf.at 2 (Rect.unit (s := S14) ![v2.toNat] S1.size (k0_off1_inb i)) numel1_S1
  let c0_i32 : BitVec 32 := 0#32
  let v4 : BitVec 1 := Scalar.cmpi .eq v3 c0_i32
  let c55_i32 : BitVec 32 := 55#32
  let v5 : BitVec 32 := Scalar.select v4 c55_i32 arg1
  let c0_i32_0 : BitVec 32 := 0#32
  ![v1.toNat, v5.toNat]

abbrev stage0_0 : Fin 1 → Memref sig .tc .vmem S2560x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2560x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S35840x4096 : Shape := ⟨2, ![35840, 4096]⟩
abbrev S16400 : Shape := ⟨1, ![16400]⟩
abbrev S14 : Shape := ⟨1, ![14]⟩
abbrev S8x4096x14336 : Shape := ⟨3, ![8, 4096, 14336]⟩
abbrev S_ : Shape := ⟨0, ![]⟩
abbrev S16400x1 : Shape := ⟨2, ![16400, 1]⟩
abbrev S16400x4096 : Shape := ⟨2, ![16400, 4096]⟩
abbrev S16400x4096x14336 : Shape := ⟨3, ![16400, 4096, 14336]⟩
abbrev S16400x14336 : Shape := ⟨2, ![16400, 14336]⟩

abbrev nBuf : Space → Nat
  | .hbm => 48
  | .vmem => 0
  | .smem => 0
  | _ => 0

abbrev bufTy : (tb : Table) → Fin (tcTables nBuf tb) → BufTy
  | .hbm, ⟨0, _⟩ => ⟨S35840x4096, .f32⟩
  | .hbm, ⟨1, _⟩ => ⟨S16400, .i32⟩
  | .hbm, ⟨2, _⟩ => ⟨S16400, .i32⟩
  | .hbm, ⟨3, _⟩ => ⟨S14, .i32⟩
  | .hbm, ⟨4, _⟩ => ⟨S14, .i32⟩
  | .hbm, ⟨5, _⟩ => ⟨S14, .i32⟩
  | .hbm, ⟨6, _⟩ => ⟨S8x4096x14336, .f32⟩
  | .hbm, ⟨7, _⟩ => ⟨S8x4096x14336, .f32⟩
  | .hbm, ⟨8, _⟩ => ⟨S_, .i32⟩
  | .hbm, ⟨9, _⟩ => ⟨S16400, .i32⟩
  | .hbm, ⟨10, _⟩ => ⟨S16400, .i1⟩
  | .hbm, ⟨11, _⟩ => ⟨S_, .i32⟩
  | .hbm, ⟨12, _⟩ => ⟨S16400, .i32⟩
  | .hbm, ⟨13, _⟩ => ⟨S16400, .i32⟩
  | .hbm, ⟨14, _⟩ => ⟨S16400, .i32⟩
  | .hbm, ⟨15, _⟩ => ⟨S16400x1, .i32⟩
  | .hbm, ⟨16, _⟩ => ⟨S16400x4096, .f32⟩
  | .hbm, ⟨17, _⟩ => ⟨S_, .i32⟩
  | .hbm, ⟨18, _⟩ => ⟨S16400, .i32⟩
  | .hbm, ⟨19, _⟩ => ⟨S16400, .i1⟩
  | .hbm, ⟨20, _⟩ => ⟨S_, .i32⟩
  | .hbm, ⟨21, _⟩ => ⟨S16400, .i32⟩
  | .hbm, ⟨22, _⟩ => ⟨S16400, .i32⟩
  | .hbm, ⟨23, _⟩ => ⟨S16400, .i32⟩
  | .hbm, ⟨24, _⟩ => ⟨S16400x1, .i32⟩
  | .hbm, ⟨25, _⟩ => ⟨S16400x4096x14336, .f32⟩
  | .hbm, ⟨26, _⟩ => ⟨S16400x14336, .f32⟩
  | .hbm, ⟨27, _⟩ => ⟨S_, .i32⟩
  | .hbm, ⟨28, _⟩ => ⟨S16400, .i32⟩
  | .hbm, ⟨29, _⟩ => ⟨S16400, .i1⟩
  | .hbm, ⟨30, _⟩ => ⟨S_, .i32⟩
  | .hbm, ⟨31, _⟩ => ⟨S16400, .i32⟩
  | .hbm, ⟨32, _⟩ => ⟨S16400, .i32⟩
  | .hbm, ⟨33, _⟩ => ⟨S16400, .i32⟩
  | .hbm, ⟨34, _⟩ => ⟨S16400x1, .i32⟩
  | .hbm, ⟨35, _⟩ => ⟨S16400x4096x14336, .f32⟩
  | .hbm, ⟨36, _⟩ => ⟨S16400x14336, .f32⟩
  | .hbm, ⟨37, _⟩ => ⟨S16400x14336, .f32⟩
  | .hbm, ⟨38, _⟩ => ⟨S16400x14336, .f32⟩
  | .hbm, ⟨39, _⟩ => ⟨S_, .f32⟩
  | .hbm, ⟨40, _⟩ => ⟨S16400x14336, .f32⟩
  | .hbm, ⟨41, _⟩ => ⟨S16400x14336, .f32⟩
  | .hbm, ⟨42, _⟩ => ⟨S_, .f32⟩
  | .hbm, ⟨43, _⟩ => ⟨S16400x14336, .f32⟩
  | .hbm, ⟨44, _⟩ => ⟨S16400x14336, .f32⟩
  | .hbm, ⟨45, _⟩ => ⟨S16400x14336, .f32⟩
  | .hbm, ⟨46, _⟩ => ⟨S16400x14336, .f32⟩
  | .hbm, ⟨47, _⟩ => ⟨S16400x14336, .bf16⟩
  | _, _ => ⟨S35840x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩

abbrev nD : Nat := 1
abbrev τ : Topo := Topo.v7x

variable {F : FTy → Type} [FloatOps F]
-- ==== Proof.Fox.Math.lean ====
module

public import Idealize.ShloMosaic.PureOps.Ideal
public import Idealize.ShloMosaic.Lib.Pointwise
public import Mathlib.Data.EReal.Inv

@[expose] public section

noncomputable section

/-!
# One row of a softmax-weighted sum, over the extended reals

`att` is the row as a blocked kernel computes it: the weights are summed against the values first and the sum is divided
once, over the keys up to the end of the row's own block. `attR` is the row as a plain softmax computes it: each weight
is divided first, over all keys. `att_eq_attR` says they agree when the keys left out are masked, no logit is `⊤`, and
one logit is finite.
-/

namespace Cert.Soft

open Idealize.ShloMosaic

/-- The greatest of finitely many logits. -/
def rowMax {n : ℕ} (s : Fin n → EReal) : EReal := Finset.univ.fold max ⊥ s

/-- The unnormalised weight of one key. -/
def wt {n : ℕ} (s : Fin n → EReal) (j : Fin n) : EReal := Ideal.exp (s j - rowMax s)

/-- Sum against the values, then divide. -/
def att {n : ℕ} (s v : Fin n → EReal) : EReal := Ideal.div (∑ j, wt s j * v j) (∑ j, wt s j)

/-- Divide each weight, then sum against the values. -/
def attR {n : ℕ} (s v : Fin n → EReal) : EReal := ∑ j, Ideal.div (wt s j) (∑ j, wt s j) * v j

theorem rowMax_eq_sup {n : ℕ} (s : Fin n → EReal) : rowMax s = Finset.univ.sup s := rfl

theorem rowMax_castLE {n N : ℕ} (h : n ≤ N) (s : Fin N → EReal) (hs : ∀ j : Fin N, n ≤ j.val → s j = ⊥) :
    rowMax (fun j : Fin n => s (Fin.castLE h j)) = rowMax s := by
  simp only [rowMax_eq_sup]
  refine le_antisymm (Finset.sup_le fun j _ => Finset.le_sup (f := s) (Finset.mem_univ _)) (Finset.sup_le fun j _ => ?_)
  by_cases hj : n ≤ j.val
  · rw [hs j hj]; exact bot_le
  · exact Finset.le_sup (f := fun j : Fin n => s (Fin.castLE h j)) (b := ⟨j.val, not_le.mp hj⟩) (Finset.mem_univ _)

theorem sum_castLE {n N : ℕ} (h : n ≤ N) (f : Fin N → EReal) (hf : ∀ j : Fin N, n ≤ j.val → f j = 0) :
    ∑ j : Fin n, f (Fin.castLE h j) = ∑ j, f j := by
  obtain ⟨d, rfl⟩ := Nat.exists_eq_add_of_le h
  rw [Fin.sum_univ_add, Finset.sum_eq_zero (s := Finset.univ) (f := fun i : Fin d => f (Fin.natAdd n i)), add_zero]
  · rfl
  · intro i _; exact hf _ (by simp)

theorem sum_mul_real {n : ℕ} (f : Fin n → EReal) {c : ℝ} (hc : 0 ≤ c) : (∑ j, f j) * (c : EReal) = ∑ j, f j * (c : EReal) := by
  induction n with
  | zero => simp
  | succ n ih =>
    rw [Fin.sum_univ_succ, Fin.sum_univ_succ, ← ih, mul_comm,
      EReal.left_distrib_of_nonneg_of_ne_top (EReal.coe_nonneg.mpr hc) (EReal.coe_ne_top c), mul_comm, mul_comm (c : EReal)]

theorem coe_sum {n : ℕ} (p : Fin n → ℝ) : ((∑ j, p j : ℝ) : EReal) = ∑ j, (p j : EReal) := by
  induction n with
  | zero => simp
  | succ n ih => rw [Fin.sum_univ_succ, Fin.sum_univ_succ, EReal.coe_add, ih]

/-- With no logit `⊤` and one logit finite, the greatest logit is a real number. -/
theorem rowMax_real {n : ℕ} (s : Fin n → EReal) (r : Fin n) (ht : ∀ j, s j ≠ ⊤) (hr : s r ≠ ⊥) : ∃ M : ℝ, rowMax s = (M : EReal) := by
  rw [rowMax_eq_sup]
  have h1 : Finset.univ.sup s ≠ ⊥ := fun h => hr (le_bot_iff.mp (h ▸ Finset.le_sup (f := s) (Finset.mem_univ r)))
  have h2 : Finset.univ.sup s ≠ ⊤ :=
    ((Finset.sup_lt_iff (bot_lt_top)).mpr fun j _ => lt_top_iff_ne_top.mpr (ht j)).ne
  exact ⟨_, (EReal.coe_toReal h2 h1).symm⟩

theorem wt_real {n : ℕ} (s : Fin n → EReal) (r : Fin n) (ht : ∀ j, s j ≠ ⊤) (hr : s r ≠ ⊥) :
    ∃ p : Fin n → ℝ, (∀ j, wt s j = (p j : EReal)) ∧ (∀ j, 0 ≤ p j) ∧ 0 < p r := by
  obtain ⟨M, hM⟩ := rowMax_real s r ht hr
  have key : ∀ j, ∃ p : ℝ, wt s j = (p : EReal) ∧ 0 ≤ p ∧ (s j ≠ ⊥ → 0 < p) := by
    intro j
    by_cases hj : s j = ⊥
    · exact ⟨0, by rw [wt, hj, hM, EReal.bot_sub]; rfl, le_refl _, fun h => absurd hj h⟩
    · obtain ⟨x, hx⟩ : ∃ x : ℝ, s j = (x : EReal) := ⟨_, (EReal.coe_toReal (ht j) hj).symm⟩
      exact ⟨Real.exp (x - M), by rw [wt, hx, hM, ← EReal.coe_sub]; rfl, (Real.exp_pos _).le, fun _ => Real.exp_pos _⟩
  choose p hp using key
  exact ⟨p, fun j => (hp j).1, fun j => (hp j).2.1, (hp r).2.2 hr⟩

/-- Dividing once after the sum is dividing each term before it. -/
theorem att_eq_attR_same {n : ℕ} (s v : Fin n → EReal) (r : Fin n) (ht : ∀ j, s j ≠ ⊤) (hr : s r ≠ ⊥) : att s v = attR s v := by
  obtain ⟨p, hp, h0, hpos⟩ := wt_real s r ht hr
  have hl : ∑ j, wt s j = ((∑ j, p j : ℝ) : EReal) := by rw [coe_sum]; exact Finset.sum_congr rfl fun j _ => hp j
  have hlpos : 0 < ∑ j, p j := Finset.sum_pos' (fun j _ => h0 j) ⟨r, Finset.mem_univ r, hpos⟩
  have hne : ((∑ j, p j : ℝ) : EReal) ≠ 0 := fun h => hlpos.ne' (EReal.coe_eq_zero.mp h)
  have hdiv : ∀ x : EReal, Ideal.div x (∑ j, wt s j) = x * (((∑ j, p j)⁻¹ : ℝ) : EReal) := by
    intro x; rw [hl, Ideal.div, if_neg hne, EReal.coe_inv]
  rw [att, attR, hdiv, sum_mul_real _ (inv_nonneg.mpr hlpos.le)]
  refine Finset.sum_congr rfl fun j _ => ?_
  rw [hdiv, mul_assoc, mul_comm (v j), ← mul_assoc]

/-- The kernel's row over the first `n` keys is the reference's row over all `N`, when the keys from `n` on are masked. -/
theorem att_eq_attR {n N : ℕ} (h : n ≤ N) (s v : Fin N → EReal) (r : Fin N) (hs : ∀ j : Fin N, n ≤ j.val → s j = ⊥)
    (ht : ∀ j, s j ≠ ⊤) (hr : s r ≠ ⊥) :
    att (fun j : Fin n => s (Fin.castLE h j)) (fun j : Fin n => v (Fin.castLE h j)) = attR s v := by
  rw [← att_eq_attR_same s v r ht hr]
  obtain ⟨M, hM⟩ := rowMax_real s r ht hr
  have hw : ∀ j : Fin n, wt (fun j : Fin n => s (Fin.castLE h j)) j = wt s (Fin.castLE h j) := by
    intro j; rw [wt, wt, rowMax_castLE h s hs]
  have h0 : ∀ j : Fin N, n ≤ j.val → wt s j = 0 := by
    intro j hj; rw [wt, hs j hj, hM, EReal.bot_sub]; rfl
  simp only [att, hw]
  rw [sum_castLE h (fun j => wt s j * v j) fun j hj => by rw [h0 j hj, zero_mul], sum_castLE h (fun j => wt s j) h0]

/-- A row given in two parts, as a concatenation of its past and its own block leaves it. -/
theorem att_of_parts {a b n : ℕ} (hn : n = a + b) {s v F : Fin n → EReal} {s1 v1 : Fin a → EReal} {s2 v2 : Fin b → EReal} {c : EReal}
    (hc : c = ⊥) (hF : ∀ j, F j = s j)
    (h1 : ∀ j : Fin a, s1 j = s ⟨j.val, by omega⟩) (h2 : ∀ j : Fin b, s2 j = s ⟨a + j.val, by omega⟩)
    (k1 : ∀ j : Fin a, v1 j = v ⟨j.val, by omega⟩) (k2 : ∀ j : Fin b, v2 j = v ⟨a + j.val, by omega⟩) :
    Ideal.div
      ((∑ j, Ideal.exp (s1 j - Finset.univ.fold max c F) * v1 j) + ∑ j, Ideal.exp (s2 j - Finset.univ.fold max c F) * v2 j)
      ((∑ j, Ideal.exp (s1 j - Finset.univ.fold max c F)) + ∑ j, Ideal.exp (s2 j - Finset.univ.fold max c F)) = att s v := by
  subst hn hc
  have hFs : Finset.univ.fold max ⊥ F = rowMax s := by rw [rowMax, show F = s from funext hF]
  rw [att, Fin.sum_univ_add, Fin.sum_univ_add, hFs]
  simp only [wt, h1, h2, k1, k2]
  rfl

/-- The same for a row that is one block. -/
theorem att_of_whole {n : ℕ} {s v F s1 v1 : Fin n → EReal} {c : EReal} (hc : c = ⊥) (hF : ∀ j, F j = s j) (h1 : ∀ j, s1 j = s j)
    (k1 : ∀ j, v1 j = v j) :
    Ideal.div (∑ j, Ideal.exp (s1 j - Finset.univ.fold max c F) * v1 j) (∑ j, Ideal.exp (s1 j - Finset.univ.fold max c F)) = att s v := by
  subst hc
  obtain rfl : F = s := funext hF
  obtain rfl : s1 = F := funext h1
  obtain rfl : v1 = v := funext k1
  rfl

/-- The word of −∞ denotes `⊥`. -/
theorem ofBits_neg_inf : Ideal.ofBits .f32 4286578688#32 = ⊥ := by
  have h1 : ((4286578688#32 : BitVec 32).extractLsb' 23 8).toNat = 2 ^ 8 - 1 := by decide
  have h2 : ((4286578688#32 : BitVec 32).extractLsb' 0 23).toNat = 0 := by decide
  have h3 : ((4286578688#32 : BitVec 32).extractLsb' (8 + 23) 1 == 1#1) = true := by decide
  show Ideal.ieee 8 23 4286578688#32 = ⊥
  simp only [Ideal.ieee, h1, h2, h3, if_true]

/-- The word of +∞ denotes `⊤`. -/
theorem ofBits_inf : Ideal.ofBits .f32 2139095040#32 = ⊤ := by
  have h1 : ((2139095040#32 : BitVec 32).extractLsb' 23 8).toNat = 2 ^ 8 - 1 := by decide
  have h2 : ((2139095040#32 : BitVec 32).extractLsb' 0 23).toNat = 0 := by decide
  have h3 : ((2139095040#32 : BitVec 32).extractLsb' (8 + 23) 1 == 1#1) = false := by decide
  show Ideal.ieee 8 23 2139095040#32 = ⊤
  simp [Ideal.ieee, h1, h2, h3]

/-- The scale's word denotes a real number. -/
theorem ofBits_scale : ∃ x : ℝ, Ideal.ofBits .f32 1035273459#32 = (x : EReal) := by
  have h1 : ((1035273459#32 : BitVec 32).extractLsb' 23 8).toNat = 123 := by decide
  show ∃ x : ℝ, Ideal.ieee 8 23 1035273459#32 = (x : EReal)
  simp only [Ideal.ieee, h1]
  rw [if_neg (by decide), if_neg (by decide)]
  exact ⟨_, rfl⟩

end Cert.Soft

end
-- ==== Proof.Fox.Block.lean ====
module

public import proofs.«01_k».proof.Proof.Gen.KernelIdeal.Value
public import Idealize.ShloMosaic.Lib.Pointwise
public import Idealize.ShloMosaic.Lib.Pipeline.ValueKit
public import Idealize.ShloMosaic.Lib.Claim
public import Idealize.ShloMosaic.Lib.WordCmp
public import proofs.«01_k».proof.Proof.Fox.Math

@[expose] public section

set_option maxRecDepth 16384

noncomputable section

/-!
# What one grid point of the prompt leaves in its block

`sc` is the masked logit, read from the point's own blocks. Each of the 32 stores (8 query blocks, 4 heads) writes rows of
`Cert.Soft.att` over the keys up to the end of its query block. `point_A` puts them together as rows of `Cert.Soft.attR` over
all 2048 keys.
-/

namespace Cert.Fox

open Cert.KernelIdeal Cert.KernelIdeal.Gen Idealize.ShloMosaic Idealize.ShloMosaic.TcCoe Idealize.SL.Sem
open Idealize.ShloMosaic.Pipeline (Dat)
open Idealize.ShloMosaic.Tactic

/-- The logit of key `j` for the query in row `r` of head `h`: `⊥` after the row. -/
def sc (Q : Vec Ideal S2048x512 .bf16) (K : Vec Ideal S2048x128 .f32) (CQ : Vec Ideal S1x1x2048x4 .f32) (CK : Vec Ideal S1x1x4x2048 .f32)
    (r : Fin 2048) (h : Fin 4) (j : Fin 2048) : EReal :=
  if j.val ≤ r.val then (∑ e : Fin 128, Q (ix2 r ⟨h.val * 128 + e.val, by omega⟩) * K (ix2 j e)) * Ideal.ofBits .f32 1035273459#32
    + (CQ (ix4 0 0 r h) - CK (ix4 0 0 h j)) else ⊥

theorem eq_sc {Q K CQ CK} {r : Fin 2048} {h : Fin 4} {j : Fin 2048} {A B : Fin 128 → EReal} {p q : EReal} (hj : j.val ≤ r.val)
    (hA : ∀ e, A e = Q (ix2 r ⟨h.val * 128 + e.val, by omega⟩)) (hB : ∀ e, B e = K (ix2 j e)) (hp : p = CQ (ix4 0 0 r h)) (hq : q = CK (ix4 0 0 h j)) :
    (∑ e, A e * B e) * Ideal.ofBits .f32 1035273459#32 + (p - q) = sc Q K CQ CK r h j := by
  rw [sc, if_pos hj, hp, hq, Finset.sum_congr rfl fun e _ => by rw [hA e, hB e]]

theorem sc_of_gt {Q K CQ CK} {r : Fin 2048} {h : Fin 4} {j : Fin 2048} (hj : r.val < j.val) : sc Q K CQ CK r h j = ⊥ := if_neg (by omega)

/-- The causal mask's select is the masked logit. -/
theorem select_eq_sc {Q K CQ CK} {r : Fin 2048} {h : Fin 4} {j : Fin 2048} {a b : ℕ} {c : EReal} {A B : Fin 128 → EReal} {p q : EReal}
    (ha : a < 256) (hb : b < 256) (hc : c = ⊥) (hab : a ≤ b ↔ j.val ≤ r.val)
    (hA : ∀ e, A e = Q (ix2 r ⟨h.val * 128 + e.val, by omega⟩)) (hB : ∀ e, B e = K (ix2 j e)) (hp : p = CQ (ix4 0 0 r h)) (hq : q = CK (ix4 0 0 h j)) :
    Scalar.select (IntOp.cmpi CmpIPredicate.sle (BitVec.ofNat 32 a) (BitVec.ofNat 32 b))
      ((∑ e, A e * B e) * Ideal.ofBits .f32 1035273459#32 + (p - q)) c = sc Q K CQ CK r h j := by
  rw [WordCmp.cmpi_sle_ofNat (by omega) (by omega)]
  by_cases h' : a ≤ b
  · rw [decide_eq_true h']; exact eq_sc (hab.mp h') hA hB hp hq
  · rw [decide_eq_false h', sc_of_gt (not_le.mp fun hh => h' (hab.mpr hh))]; exact hc

theorem row_of_parts {a : ℕ} (ha : a + 256 ≤ 2048) {Q K CQ CK} {V : Vec Ideal S2048x128 .f32} {r : Fin 2048} {h : Fin 4} {d : Fin 128}
    (ht : ∀ r h j, sc Q K CQ CK r h j ≠ ⊤) (hr : ∀ r h, sc Q K CQ CK r h r ≠ ⊥) (hlo : r.val < a + 256)
    {F : Fin (a + 256) → EReal} {s1 v1 : Fin a → EReal} {s2 v2 : Fin 256 → EReal} {c : EReal} (hc : c = ⊥)
    (hF : ∀ j, F j = sc Q K CQ CK r h ⟨j.val, by omega⟩) (h1 : ∀ j, s1 j = sc Q K CQ CK r h ⟨j.val, by omega⟩)
    (h2 : ∀ j, s2 j = sc Q K CQ CK r h ⟨a + j.val, by omega⟩) (k1 : ∀ j, v1 j = V (ix2 ⟨j.val, by omega⟩ d))
    (k2 : ∀ j, v2 j = V (ix2 ⟨a + j.val, by omega⟩ d)) :
    Ideal.div
      ((∑ j, Ideal.exp (s1 j - Finset.univ.fold max c F) * v1 j) + ∑ j, Ideal.exp (s2 j - Finset.univ.fold max c F) * v2 j)
      ((∑ j, Ideal.exp (s1 j - Finset.univ.fold max c F)) + ∑ j, Ideal.exp (s2 j - Finset.univ.fold max c F))
      = Cert.Soft.attR (sc Q K CQ CK r h) (fun j => V (ix2 j d)) := by
  rw [← Cert.Soft.att_eq_attR ha (sc Q K CQ CK r h) (fun j => V (ix2 j d)) r (fun j hj => sc_of_gt (by omega)) (ht r h) (hr r h)]
  exact Cert.Soft.att_of_parts rfl hc hF h1 h2 k1 k2

theorem row_of_whole {Q K CQ CK} {V : Vec Ideal S2048x128 .f32} {r : Fin 2048} {h : Fin 4} {d : Fin 128}
    (ht : ∀ r h j, sc Q K CQ CK r h j ≠ ⊤) (hr : ∀ r h, sc Q K CQ CK r h r ≠ ⊥) (hlo : r.val < 256)
    {F s1 v1 : Fin 256 → EReal} {c : EReal} (hc : c = ⊥)
    (hF : ∀ j, F j = sc Q K CQ CK r h ⟨j.val, by omega⟩) (h1 : ∀ j, s1 j = sc Q K CQ CK r h ⟨j.val, by omega⟩)
    (k1 : ∀ j, v1 j = V (ix2 ⟨j.val, by omega⟩ d)) :
    Ideal.div (∑ j, Ideal.exp (s1 j - Finset.univ.fold max c F) * v1 j) (∑ j, Ideal.exp (s1 j - Finset.univ.fold max c F))
      = Cert.Soft.attR (sc Q K CQ CK r h) (fun j => V (ix2 j d)) := by
  rw [← Cert.Soft.att_eq_attR (show 256 ≤ 2048 by omega) (sc Q K CQ CK r h) (fun j => V (ix2 j d)) r (fun j hj => sc_of_gt (by omega)) (ht r h) (hr r h)]
  exact Cert.Soft.att_of_whole hc hF h1 k1

set_option maxHeartbeats 16000000 in
/-- What a grid point of the prompt leaves in its block, row by row: 32 stores, one per query block and head. -/
theorem point_A (c : Dev nD) (i : grid0.Coords) (arg2 : Memref sig .tc .vmem S2048x512 .bf16) (harg2 : arg2.IsWhole)
    (arg3 : Memref sig .tc .vmem S2048x128 .f32) (harg3 : arg3.IsWhole) (arg4 : Memref sig .tc .vmem S2048x128 .f32) (harg4 : arg4.IsWhole)
    (arg5 : Memref sig .tc .vmem S1x1x2048x4 .f32) (harg5 : arg5.IsWhole) (arg6 : Memref sig .tc .vmem S1x1x4x2048 .f32) (harg6 : arg6.IsWhole)
    (arg7 : Memref sig .tc .vmem S2048x512 .bf16) (harg7 : arg7.IsWhole) (hc0 : cond0_0 i) (hc1 : ¬cond0_1 i)
    (x0 : Vec Ideal S2048x512 .bf16) (x1 : Vec Ideal S2048x128 .f32) (x2 : Vec Ideal S2048x128 .f32) (x3 : Vec Ideal S1x1x2048x4 .f32)
    (x4 : Vec Ideal S1x1x4x2048 .f32) (y : S2048x512.Idx)
    (ht : ∀ r h j, sc x0 x1 x3 x4 r h j ≠ ⊤) (hr : ∀ r h, sc x0 x1 x3 x4 r h r ≠ ⊥) :
    out0_A_5 c i arg2 harg2 arg3 harg3 arg4 harg4 arg5 harg5 arg6 harg6 arg7 harg7 hc0 hc1 x0 x1 x2 x3 x4 y
      = Cert.Soft.attR (sc x0 x1 x3 x4 (y 0) ⟨(y 1).val / 128, by have := (y 1).isLt; simp at this; omega⟩)
          (fun j => x2 (ix2 j ⟨(y 1).val % 128, by omega⟩)) := by
  frame_out
  canon_tiles x h
  case piece28 | piece29 | piece30 | piece31 =>
    open_payloads
    pointwise
    refine row_of_whole ht hr (by omega) Cert.Soft.ofBits_neg_inf (fun j => ?_) (fun j => ?_) (fun j => ?_)
    · refine select_eq_sc (by omega) (by omega) Cert.Soft.ofBits_neg_inf (by dsimp only; omega) (fun e => ?_) (fun e => ?_) ?_ ?_ <;> blk_ext
    · refine select_eq_sc (by omega) (by omega) Cert.Soft.ofBits_neg_inf (by dsimp only; omega) (fun e => ?_) (fun e => ?_) ?_ ?_ <;> blk_ext
    · blk_ext
  case piece0 | piece1 | piece2 | piece3 | piece4 | piece5 | piece6 | piece7 | piece8 | piece9 | piece10 | piece11 | piece12 | piece13 | piece14 | piece15 | piece16 | piece17 | piece18 | piece19 | piece20 | piece21 | piece22 | piece23 | piece24 | piece25 | piece26 | piece27 =>
    open_payloads
    pointwise
    refine row_of_parts (by omega) ht hr (by omega) Cert.Soft.ofBits_neg_inf (fun j => ?_) (fun j => ?_) (fun j => ?_) (fun j => ?_) (fun j => ?_)
    · split
      · refine eq_sc (by dsimp only; omega) (fun e => ?_) (fun e => ?_) ?_ ?_ <;> blk_ext
      · refine select_eq_sc (by omega) (by omega) Cert.Soft.ofBits_neg_inf (by dsimp only; omega) (fun e => ?_) (fun e => ?_) ?_ ?_ <;> blk_ext
    · refine eq_sc (by dsimp only; omega) (fun e => ?_) (fun e => ?_) ?_ ?_ <;> blk_ext
    · refine select_eq_sc (by omega) (by omega) Cert.Soft.ofBits_neg_inf (by dsimp only; omega) (fun e => ?_) (fun e => ?_) ?_ ?_ <;> blk_ext
    · blk_ext
    · blk_ext

end Cert.Fox

end
-- ==== Proof.Fox.Ref.lean ====
module

public import proofs.«01_k».proof.Proof.Gen.ReferenceIdeal.Run
public import Idealize.ShloMosaic.Lib.Pointwise
public import Idealize.ShloMosaic.Lib.Pipeline.ValueKit
public import Idealize.ShloMosaic.Lib.Claim
public import Idealize.ShloMosaic.Lib.WordCmp
public import proofs.«01_k».proof.Proof.Fox.Math

@[expose] public section

set_option maxRecDepth 16384

noncomputable section

/-! # The reference's result, read at one index -/

namespace Cert.Fox

open Cert.ReferenceIdeal Cert.ReferenceIdeal.Gen Idealize.ShloMosaic Idealize.ShloMosaic.TcCoe Idealize.SL.Sem
open Idealize.ShloMosaic.Tactic

/-- The logit of key `j` for the query in row `r` of batch `b` and head `h`, read from the arguments: `⊥` after the row. -/
def logit (q : FVec Ideal S4x2048x32x128 .f32) (k : FVec Ideal S4x2048x8x128 .f32) (c : FVec Ideal S4x2048x32 .f32)
    (b : Fin 4) (h : Fin 32) (r j : Fin 2048) : EReal :=
  if j.val ≤ r.val then
    (∑ e : Fin 128, q (ix4 b r h e) * k (ix4 b j ⟨h.val / 4, by omega⟩ e)) * Ideal.ofBits .f32 1035273459#32 + (c (ix3 b r h) - c (ix3 b j h))
  else ⊥

/-- The prompt's attention: row by row in the prompt's rows, zero in the rows kept for the sample. -/
def prompt (q : FVec Ideal S4x2048x32x128 .f32) (k v : FVec Ideal S4x2048x8x128 .f32) (c : FVec Ideal S4x2048x32 .f32)
    (b : Fin 4) (r : Fin 2048) (h : Fin 32) (d : Fin 128) : EReal :=
  Cert.Soft.attR (logit q k c b h r) (fun j => v (ix4 b j ⟨h.val / 4, by omega⟩ d))

/-- The reference's logits before the causal mask. -/
def refL (q : FVec Ideal S4x2048x32x128 .f32) (k : FVec Ideal S4x2048x8x128 .f32) (c : FVec Ideal S4x2048x32 .f32) : FVec Ideal S4x8x4x2048x2048 .f32 :=
    addf (mulf (Host.dotGeneral dot_S4x8x4x2048x128_S4x8x2048x128_S4x8x4x2048x2048_4_3_23_2_01_01 none (transpose
    S4x8x4x2048x128 [0, 2, 3, 1, 4] (shapeCast _ q shapeCasts_S4x2048x32x128_S4x2048x8x4x128)
    transposes_S4x2048x8x4x128_S4x8x4x2048x128_0_2_3_1_4) (transpose S4x8x2048x128 [0, 2, 1, 3] k
    transposes_S4x2048x8x128_S4x8x2048x128_0_2_1_3)) (broadcastInDim S4x8x4x2048x2048 ![] bcast_S_S4x8x4x2048x2048
    (constant S_ .f32 0x3DB504F3#32))) (subf (broadcastInDim S4x8x4x2048x2048 ![0, 1, 2, 3, 4]
    bcast_S4x8x4x2048x1_S4x8x4x2048x2048_0_1_2_3_4 (broadcastInDim S4x8x4x2048x1 ![0, 1, 2, 3]
    bcast_S4x8x4x2048_S4x8x4x2048x1_0_1_2_3 (transpose S4x8x4x2048 [0, 2, 3, 1] (shapeCast _ c
    shapeCasts_S4x2048x32_S4x2048x8x4) transposes_S4x2048x8x4_S4x8x4x2048_0_2_3_1))) (broadcastInDim S4x8x4x2048x2048
    ![0, 1, 2, 3, 4] bcast_S4x8x4x1x2048_S4x8x4x2048x2048_0_1_2_3_4 (broadcastInDim S4x8x4x1x2048 ![0, 1, 2, 4]
    bcast_S4x8x4x2048_S4x8x4x1x2048_0_1_2_4 (transpose S4x8x4x2048 [0, 2, 3, 1] (shapeCast _ c
    shapeCasts_S4x2048x32_S4x2048x8x4) transposes_S4x2048x8x4_S4x8x4x2048_0_2_3_1))))

/-- The causal mask, spread over batch and heads. -/
def refMask : IVec S4x8x4x2048x2048 1 :=
    broadcastInDim S4x8x4x2048x2048 ![3, 4] bcast_S2048x2048_S4x8x4x2048x2048_3_4 (cmpi .sle (broadcastInDim
    S2048x2048 ![0, 1] bcast_S1x2048_S2048x2048_0_1 (broadcastInDim S1x2048 ![1] bcast_S2048_S1x2048_1 (iotaInDim
    S2048 32 0))) (broadcastInDim S2048x2048 ![0, 1] bcast_S2048x1_S2048x2048_0_1 (broadcastInDim S2048x1 ![0]
    bcast_S2048_S2048x1_0 (iotaInDim S2048 32 0))))

/-- The masked logits. -/
def refS (q : FVec Ideal S4x2048x32x128 .f32) (k : FVec Ideal S4x2048x8x128 .f32) (c : FVec Ideal S4x2048x32 .f32) : FVec Ideal S4x8x4x2048x2048 .f32 :=
    select refMask (refL q k c) (broadcastInDim S4x8x4x2048x2048 ![] bcast_S_S4x8x4x2048x2048 (id (constant S_ .f32
    0xFF800000#32)))

/-- The softmax weights. -/
def refP (E : FVec Ideal S4x8x4x2048x2048 .f32) : FVec Ideal S4x8x4x2048x2048 .f32 :=
    Host.divf E (broadcastInDim S4x8x4x2048x2048 ![0, 1, 2, 3, 4] bcast_S4x8x4x2048x1_S4x8x4x2048x2048_0_1_2_3_4
    (broadcastInDim S4x8x4x2048x1 ![0, 1, 2, 3] bcast_S4x8x4x2048_S4x8x4x2048x1_0_1_2_3 (Host.reduceAdd E (constant
    S_ .f32 0x00000000#32) reducesTo_S4x8x4x2048x2048_S4x8x4x2048_d4 h_S_)))

/-- The weighted values, in the layout of the result. -/
def refO (P : FVec Ideal S4x8x4x2048x2048 .f32) (v : FVec Ideal S4x2048x8x128 .f32) : FVec Ideal S8320x4096 .bf16 :=
    truncf .bf16 (pad S8320x4096 ![0, 0] ![128, 0] ![0, 0] (shapeCast _ (transpose S4x2048x8x4x128 [0, 3, 1, 2, 4]
    (Host.dotGeneral dot_S4x8x4x2048x2048_S4x8x2048x128_S4x8x4x2048x128_4_2_23_3_01_01 none P (transpose
    S4x8x2048x128 [0, 2, 1, 3] v transposes_S4x2048x8x128_S4x8x2048x128_0_2_1_3))
    transposes_S4x8x4x2048x128_S4x2048x8x4x128_0_3_1_2_4) shapeCasts_S4x2048x8x4x128_S8192x4096) (sitofp .f32
    (constantI S_ 32 0#32)) pads_S8192x4096_S8320x4096_01280_000 h_S_) bitsLt_bf16_f32

theorem refL_at (q : FVec Ideal S4x2048x32x128 .f32) (k : FVec Ideal S4x2048x8x128 .f32) (c : FVec Ideal S4x2048x32 .f32)
    (b : Fin 4) (g : Fin 8) (h : Fin 4) (r j : Fin 2048) :
    refL q k c (ix5 b g h r j) = (∑ e : Fin 128, q (ix4 b r ⟨g.val * 4 + h.val, by omega⟩ e) * k (ix4 b j g e)) * Ideal.ofBits .f32 1035273459#32 + (c (ix3 b r ⟨g.val * 4 + h.val, by omega⟩) - c (ix3 b j ⟨g.val * 4 + h.val, by omega⟩)) := by
  pointwise [refL]

theorem refMask_at (b : Fin 4) (g : Fin 8) (h : Fin 4) (r j : Fin 2048) :
    refMask (ix5 b g h r j) = IntOp.cmpi .sle (BitVec.ofNat 32 j.val) (BitVec.ofNat 32 r.val) := by
  pointwise [refMask]

theorem reduce_max {n0 n1 n2 n3 n4 : Nat} (v : FVec Ideal ⟨5, ![n0, n1, n2, n3, n4]⟩ .f32) (z : FVec Ideal S_ .f32)
    (hr : (⟨5, ![n0, n1, n2, n3, n4]⟩ : Shape).ReducesTo [4] ⟨4, ![n0, n1, n2, n3]⟩) (hu : 0 < S_.numel)
    (b : Fin n0) (g : Fin n1) (h : Fin n2) (r : Fin n3) :
    Host.reduce FloatOps.maximumf v z hr hu (ix4 b g h r)
      = Finset.univ.fold max (z (Shape.Idx.first hu)) fun j : Fin n4 => v (ix5 b g h r j) := by
  simp only [pointwise]

/-- The greatest logit of each row. -/
def refM (S : FVec Ideal S4x8x4x2048x2048 .f32) : FVec Ideal S4x8x4x2048 .f32 :=
    maximumf (broadcastInDim S4x8x4x2048 ![] bcast_S_S4x8x4x2048 (constant S_ .f32 0xFF800000#32)) (Host.reduce
    FloatOps.maximumf S (constant S_ .f32 0xFF800000#32) reducesTo_S4x8x4x2048x2048_S4x8x4x2048_d4 h_S_)

theorem refM_at (S : FVec Ideal S4x8x4x2048x2048 .f32) (b : Fin 4) (g : Fin 8) (h : Fin 4) (r : Fin 2048) :
    refM S (ix4 b g h r) = Cert.Soft.rowMax (fun j => S (ix5 b g h r j)) := by
  have e := reduce_max S (constant S_ .f32 0xFF800000#32) reducesTo_S4x8x4x2048x2048_S4x8x4x2048_d4 h_S_ b g h r
  unfold refM
  rw [maximumf_apply, e]
  unfold Cert.Soft.rowMax
  pointwise
  rw [Cert.Soft.ofBits_neg_inf]
  exact bot_sup_eq _

/-- The exponentials of the logits less their row's greatest. -/
def refE (S : FVec Ideal S4x8x4x2048x2048 .f32) : FVec Ideal S4x8x4x2048x2048 .f32 :=
    Host.exp (subf S (broadcastInDim S4x8x4x2048x2048 ![0, 1, 2, 3, 4] bcast_S4x8x4x2048x1_S4x8x4x2048x2048_0_1_2_3_4
    (broadcastInDim S4x8x4x2048x1 ![0, 1, 2, 3] bcast_S4x8x4x2048_S4x8x4x2048x1_0_1_2_3 (refM S))))

theorem refE_at (S : FVec Ideal S4x8x4x2048x2048 .f32) (b : Fin 4) (g : Fin 8) (h : Fin 4) (r j : Fin 2048) :
    refE S (ix5 b g h r j) = Cert.Soft.wt (fun j => S (ix5 b g h r j)) j := by
  unfold Cert.Soft.wt
  rw [← refM_at]
  pointwise [refE]

theorem refP_at (E : FVec Ideal S4x8x4x2048x2048 .f32) (b : Fin 4) (g : Fin 8) (h : Fin 4) (r j : Fin 2048) :
    refP E (ix5 b g h r j) = Ideal.div (E (ix5 b g h r j)) (∑ j : Fin 2048, E (ix5 b g h r j)) := by
  pointwise [refP]

theorem refO_at (P : FVec Ideal S4x8x4x2048x2048 .f32) (v : FVec Ideal S4x2048x8x128 .f32) (i : S8320x4096.Idx) (hi : (i 0).val < 8192) (hi1 : (i 1).val < 4096) :
    refO P v i = ∑ j : Fin 2048, P (ix5 ⟨(i 0).val / 2048, by omega⟩ ⟨(i 1).val / 512, by omega⟩ ⟨(i 1).val / 128 % 4, by omega⟩ ⟨(i 0).val % 2048, by omega⟩ j) * v (ix4 ⟨(i 0).val / 2048, by omega⟩ j ⟨(i 1).val / 512, by omega⟩ ⟨(i 1).val % 128, by omega⟩) := by
  pointwise [refO]
  rw [dif_pos hi]

theorem refO_at' (P : FVec Ideal S4x8x4x2048x2048 .f32) (v : FVec Ideal S4x2048x8x128 .f32) (i : S8320x4096.Idx) (hi : 8192 ≤ (i 0).val) :
    refO P v i = 0 := by
  pointwise [refO]
  rw [dif_neg (by omega)]
  show ((((0#32 : BitVec 32).toInt : ℝ)) : EReal) = 0
  simp

theorem res_eq (m : (ℓ : Loc nD τ sig) → Buf (Elt Ideal) ℓ) (c : Dev nD) :
    Value.res_main_v37 (F := Ideal) m c
      = refO (refP (refE (refS (m ((c.tc : Thread nD τ).loc main_arg0)) (m ((c.tc : Thread nD τ).loc main_arg1))
          (m ((c.tc : Thread nD τ).loc main_arg3))))) (m ((c.tc : Thread nD τ).loc main_arg2)) := rfl

/-- One masked logit of the reference. -/
theorem refS_at (q : FVec Ideal S4x2048x32x128 .f32) (k : FVec Ideal S4x2048x8x128 .f32) (c : FVec Ideal S4x2048x32 .f32)
    (b : Fin 4) (g : Fin 8) (h : Fin 4) (r j : Fin 2048) :
    refS q k c (ix5 b g h r j) = logit q k c b ⟨g.val * 4 + h.val, by omega⟩ r j := by
  have e : refS q k c (ix5 b g h r j)
      = Scalar.select (refMask (ix5 b g h r j)) (refL q k c (ix5 b g h r j)) (Ideal.ofBits .f32 4286578688#32) := by
    pointwise [refS]
    rfl
  have e4 : (⟨(g.val * 4 + h.val) / 4, by omega⟩ : Fin 8) = g := Fin.ext (by simp only; omega)
  rw [e, refMask_at, refL_at, Cert.Soft.ofBits_neg_inf]
  unfold logit
  rw [e4]
  by_cases hj : j.val ≤ r.val
  · rw [if_pos hj, WordCmp.cmpi_sle_ofNat (by omega) (by omega), decide_eq_true hj]
    rfl
  · rw [if_neg hj, WordCmp.cmpi_sle_ofNat (by omega) (by omega), decide_eq_false hj]
    rfl

/-- The reference's result in the prompt's rows. -/
theorem ref_at (q : FVec Ideal S4x2048x32x128 .f32) (k v : FVec Ideal S4x2048x8x128 .f32) (c : FVec Ideal S4x2048x32 .f32)
    (i : S8320x4096.Idx) (hi : (i 0).val < 8192) (hi1 : (i 1).val < 4096) :
    refO (refP (refE (refS q k c))) v i
      = prompt q k v c ⟨(i 0).val / 2048, by omega⟩ ⟨(i 0).val % 2048, by omega⟩
          ⟨(i 1).val / 128, by omega⟩ ⟨(i 1).val % 128, by omega⟩ := by
  rw [refO_at _ _ i hi hi1]
  unfold prompt Cert.Soft.attR
  have eh : (⟨(i 1).val / 512 * 4 + (i 1).val / 128 % 4, by omega⟩ : Fin 32) = ⟨(i 1).val / 128, by omega⟩ := Fin.ext (by simp only; omega)
  have eg : (⟨(i 1).val / 128 / 4, by omega⟩ : Fin 8) = ⟨(i 1).val / 512, by omega⟩ := Fin.ext (by simp only; omega)
  refine Finset.sum_congr rfl fun j _ => ?_
  rw [refP_at]
  simp only [refE_at, refS_at, eh, eg]

/-- The reference's result in the rows kept for the sample. -/
theorem ref_at' (P : FVec Ideal S4x8x4x2048x2048 .f32) (v : FVec Ideal S4x2048x8x128 .f32) (i : S8320x4096.Idx) (hi : 8192 ≤ (i 0).val) :
    refO P v i = (0 : EReal) := refO_at' _ _ i hi

end Cert.Fox

end
-- ==== Proof.Fox.Finite.lean ====
module

public import proofs.«01_k».proof.Pre_finite
public import proofs.«01_k».proof.Proof.Fox.Ref
public import Idealize.ShloMosaic.Lib.ReduceAll

@[expose] public section

noncomputable section

/-! # What the precondition gives: real queries, keys and forget sums, hence real logits -/

namespace Cert.Fox

open Idealize.ShloMosaic
open Cert.ReferenceIdeal (S4x2048x32x128 S4x2048x8x128 S4x2048x32)

theorem real_of_abs_lt {x : EReal} (h : max x (-x) < (⊤ : EReal)) : ∃ y : ℝ, x = y := by
  induction x with
  | bot => simp at h
  | top => simp at h
  | coe y => exact ⟨y, rfl⟩

theorem real_of_cmp {s : Shape} {x y : FVec Ideal s .f32} {i : s.Idx} (hy : y i = Ideal.ofBits .f32 2139095040#32)
    (h : cmpf .olt (Host.absf x) y i = 1#1) : ∃ z : ℝ, x i = z := by
  have h' : Ideal.cmp .olt (max (x i) (-(x i)) : EReal) (y i) = 1#1 := h
  rw [hy, Cert.Soft.ofBits_inf] at h'
  refine real_of_abs_lt ?_
  by_contra hn
  simp [Ideal.cmp, hn] at h'

instance : Subsingleton (Cert.Pre_finite.S_).Idx := ⟨fun a b => funext fun i => i.elim0⟩

theorem finite_real [Cert.Pre_finite.Facts] (q : FVec Ideal S4x2048x32x128 .f32) (k v : FVec Ideal S4x2048x8x128 .f32) (c : FVec Ideal S4x2048x32 .f32)
    (h : Cert.Pre_finite.fn (F := Ideal) q k v c = fun _ => 1#1) :
    (∀ i, ∃ x : ℝ, q i = x) ∧ (∀ i, ∃ x : ℝ, k i = x) ∧ ∀ i, ∃ x : ℝ, c i = x := by
  have h0 := congrFun h ix0
  unfold Cert.Pre_finite.fn at h0
  dsimp only at h0
  simp only [andi_apply] at h0
  obtain ⟨h1, h2⟩ := IntOp.andi_eq_one.mp h0
  obtain ⟨h1, h3⟩ := IntOp.andi_eq_one.mp h1
  exact ⟨fun i => real_of_cmp rfl (Host.reduce_andi_all _ _ _ _ _ h1 i), fun i => real_of_cmp rfl (Host.reduce_andi_all _ _ _ _ _ h3 i),
    fun i => real_of_cmp rfl (Host.reduce_andi_all _ _ _ _ _ h2 i)⟩

/-- A sum of real products is real. -/
theorem sum_real {n : ℕ} {a b : Fin n → EReal} (ha : ∀ e, ∃ x : ℝ, a e = x) (hb : ∀ e, ∃ x : ℝ, b e = x) :
    ∃ x : ℝ, (∑ e, a e * b e) = x := by
  choose f hf using ha
  choose g hg using hb
  refine ⟨∑ e, f e * g e, ?_⟩
  rw [Cert.Soft.coe_sum]
  exact Finset.sum_congr rfl fun e _ => by rw [hf, hg, EReal.coe_mul]

theorem logit_real {q : FVec Ideal S4x2048x32x128 .f32} {k : FVec Ideal S4x2048x8x128 .f32} {c : FVec Ideal S4x2048x32 .f32}
    (hq : ∀ i, ∃ x : ℝ, q i = x) (hk : ∀ i, ∃ x : ℝ, k i = x) (hc : ∀ i, ∃ x : ℝ, c i = x)
    (b : Fin 4) (h : Fin 32) (r j : Fin 2048) (hj : j.val ≤ r.val) : ∃ x : ℝ, logit q k c b h r j = x := by
  obtain ⟨s, hs⟩ := sum_real (a := fun e : Fin 128 => q (ix4 b r h e)) (b := fun e : Fin 128 => k (ix4 b j ⟨h.val / 4, by omega⟩ e))
    (fun e => hq _) (fun e => hk _)
  obtain ⟨w, hw⟩ := Cert.Soft.ofBits_scale
  obtain ⟨x, hx⟩ := hc (ix3 b r h)
  obtain ⟨y, hy⟩ := hc (ix3 b j h)
  refine ⟨s * w + (x - y), ?_⟩
  rw [logit, if_pos hj, hs, hw, hx, hy, ← EReal.coe_mul, ← EReal.coe_sub, ← EReal.coe_add]

theorem logit_ne_top {q : FVec Ideal S4x2048x32x128 .f32} {k : FVec Ideal S4x2048x8x128 .f32} {c : FVec Ideal S4x2048x32 .f32}
    (hq : ∀ i, ∃ x : ℝ, q i = x) (hk : ∀ i, ∃ x : ℝ, k i = x) (hc : ∀ i, ∃ x : ℝ, c i = x)
    (b : Fin 4) (h : Fin 32) (r j : Fin 2048) : logit q k c b h r j ≠ ⊤ := by
  by_cases hj : j.val ≤ r.val
  · obtain ⟨x, hx⟩ := logit_real hq hk hc b h r j hj
    rw [hx]; exact EReal.coe_ne_top x
  · rw [logit, if_neg hj]; exact bot_ne_top

theorem logit_diag_ne_bot {q : FVec Ideal S4x2048x32x128 .f32} {k : FVec Ideal S4x2048x8x128 .f32} {c : FVec Ideal S4x2048x32 .f32}
    (hq : ∀ i, ∃ x : ℝ, q i = x) (hk : ∀ i, ∃ x : ℝ, k i = x) (hc : ∀ i, ∃ x : ℝ, c i = x)
    (b : Fin 4) (h : Fin 32) (r : Fin 2048) : logit q k c b h r r ≠ ⊥ := by
  obtain ⟨x, hx⟩ := logit_real hq hk hc b h r r le_rfl
  rw [hx]; exact EReal.coe_ne_bot x

end Cert.Fox

end
-- ==== Proof.Fox.Final.lean ====
module

public import proofs.«01_k».proof.Proof.Fox.Block
public import proofs.«01_k».proof.Proof.Fox.Finite

@[expose] public section

set_option maxRecDepth 16384

noncomputable section

/-! # The kernel's array after the run, read at one index -/

namespace Cert.Fox

open Cert.KernelIdeal Cert.KernelIdeal.Gen Idealize.ShloMosaic Idealize.ShloMosaic.TcCoe Idealize.SL.Sem
open Idealize.ShloMosaic.Pipeline (Dat)
open Idealize.ShloMosaic.Tactic

variable (m : (ℓ : Loc nD τ sig) → Buf (Elt Ideal) ℓ) (c : Dev nD)

abbrev aq : FVec Ideal S4x2048x32x128 .f32 := m ((c.tc : Thread nD τ).loc main_arg0)
abbrev ak : FVec Ideal S4x2048x8x128 .f32 := m ((c.tc : Thread nD τ).loc main_arg1)
abbrev av : FVec Ideal S4x2048x8x128 .f32 := m ((c.tc : Thread nD τ).loc main_arg2)
abbrev ac : FVec Ideal S4x2048x32 .f32 := m ((c.tc : Thread nD τ).loc main_arg3)

theorem idxs : ∀ t : Fin grid0.N, t.val < 32 →
    (win0_0.index t 0 = t.val / 8 ∧ win0_0.index t 1 = t.val % 8) ∧ (win0_1.index t 0 = t.val / 8 ∧ win0_1.index t 1 = t.val % 8)
      ∧ (win0_2.index t 0 = t.val / 8 ∧ win0_2.index t 1 = t.val % 8) := by decide +kernel

theorem V5 : V m c main_v5 = truncf (F := Ideal) .bf16 (pad S8320x4096 ![0, 0] ![128, 0] ![0, 0] (shapeCast S8192x4096 (aq m c) shapeCasts_S4x2048x32x128_S8192x4096) (sitofp .f32 (constantI S_ 32 0#32)) pads_S8192x4096_S8320x4096_01280_000 h_S_) bitsLt_bf16_f32 := by
  unfold V; simp only [hostOps0, hostOps0_1, hostOps0_2, hostOps0_3, hostOps0_4, hostOps0_5, List.flatten_cons, List.flatten_nil, List.append_nil, List.cons_append, List.nil_append, StableHlo.TRef.binary, StableHlo.TRef.ternary, StableHlo.TRef.unary, StableHlo.TRef.toBuf, StableHlo.TRef.ofBuf, cast_eq]; after_results_simp <;> rfl

theorem V7 : V m c main_v7 = pad S8320x1024 ![0, 0] ![128, 0] ![0, 0] (shapeCast S8192x1024 (ak m c) shapeCasts_S4x2048x8x128_S8192x1024) (sitofp .f32 (constantI S_ 32 0#32)) pads_S8192x1024_S8320x1024_01280_000 h_S_ := by
  unfold V; simp only [hostOps0, hostOps0_1, hostOps0_2, hostOps0_3, hostOps0_4, hostOps0_5, List.flatten_cons, List.flatten_nil, List.append_nil, List.cons_append, List.nil_append, StableHlo.TRef.binary, StableHlo.TRef.ternary, StableHlo.TRef.unary, StableHlo.TRef.toBuf, StableHlo.TRef.ofBuf, cast_eq]; after_results_simp <;> rfl

theorem V9 : V m c main_v9 = pad S8320x1024 ![0, 0] ![128, 0] ![0, 0] (shapeCast S8192x1024 (av m c) shapeCasts_S4x2048x8x128_S8192x1024) (sitofp .f32 (constantI S_ 32 0#32)) pads_S8192x1024_S8320x1024_01280_000 h_S_ := by
  unfold V; simp only [hostOps0, hostOps0_1, hostOps0_2, hostOps0_3, hostOps0_4, hostOps0_5, List.flatten_cons, List.flatten_nil, List.append_nil, List.cons_append, List.nil_append, StableHlo.TRef.binary, StableHlo.TRef.ternary, StableHlo.TRef.unary, StableHlo.TRef.toBuf, StableHlo.TRef.ofBuf, cast_eq]; after_results_simp <;> rfl

theorem V1 : V m c main_v1 = shapeCast S4x8x4x2048 (transpose S4x32x2048 [0, 2, 1] (ac m c) transposes_S4x2048x32_S4x32x2048_0_2_1) shapeCasts_S4x32x2048_S4x8x4x2048 := by
  unfold V; simp only [hostOps0, hostOps0_1, hostOps0_2, hostOps0_3, hostOps0_4, hostOps0_5, List.flatten_cons, List.flatten_nil, List.append_nil, List.cons_append, List.nil_append, StableHlo.TRef.binary, StableHlo.TRef.ternary, StableHlo.TRef.unary, StableHlo.TRef.toBuf, StableHlo.TRef.ofBuf, cast_eq]; after_results_simp <;> rfl

theorem V2 : V m c main_v2 = transpose S4x8x2048x4 [0, 1, 3, 2] (shapeCast S4x8x4x2048 (transpose S4x32x2048 [0, 2, 1] (ac m c) transposes_S4x2048x32_S4x32x2048_0_2_1) shapeCasts_S4x32x2048_S4x8x4x2048) transposes_S4x8x4x2048_S4x8x2048x4_0_1_3_2 := by
  unfold V; simp only [hostOps0, hostOps0_1, hostOps0_2, hostOps0_3, hostOps0_4, hostOps0_5, List.flatten_cons, List.flatten_nil, List.append_nil, List.cons_append, List.nil_append, StableHlo.TRef.binary, StableHlo.TRef.ternary, StableHlo.TRef.unary, StableHlo.TRef.toBuf, StableHlo.TRef.ofBuf, cast_eq]; after_results_simp <;> rfl

theorem Vq_at (i : S8320x4096.Idx) (hi : (i 0).val < 8192) (hi1 : (i 1).val < 4096) :
    V m c main_v5 i = aq m c (ix4 ⟨(i 0).val / 2048, by omega⟩ ⟨(i 0).val % 2048, by omega⟩ ⟨(i 1).val / 128, by omega⟩ ⟨(i 1).val % 128, by omega⟩) := by
  rw [V5]
  pointwise
  rw [dif_pos hi]

theorem Vk_at (i : S8320x1024.Idx) (hi : (i 0).val < 8192) (hi1 : (i 1).val < 1024) :
    V m c main_v7 i = ak m c (ix4 ⟨(i 0).val / 2048, by omega⟩ ⟨(i 0).val % 2048, by omega⟩ ⟨(i 1).val / 128, by omega⟩ ⟨(i 1).val % 128, by omega⟩) := by
  rw [V7]
  pointwise
  rw [dif_pos hi]

theorem Vv_at (i : S8320x1024.Idx) (hi : (i 0).val < 8192) (hi1 : (i 1).val < 1024) :
    V m c main_v9 i = av m c (ix4 ⟨(i 0).val / 2048, by omega⟩ ⟨(i 0).val % 2048, by omega⟩ ⟨(i 1).val / 128, by omega⟩ ⟨(i 1).val % 128, by omega⟩) := by
  rw [V9]
  pointwise
  rw [dif_pos hi]

theorem Vck_at (b : Fin 4) (g : Fin 8) (h : Fin 4) (r : Fin 2048) :
    V m c main_v1 (ix4 b g h r) = ac m c (ix3 b r ⟨g.val * 4 + h.val, by omega⟩) := by
  rw [V1]
  pointwise

theorem Vcq_at (b : Fin 4) (g : Fin 8) (h : Fin 4) (r : Fin 2048) :
    V m c main_v2 (ix4 b g r h) = ac m c (ix3 b r ⟨g.val * 4 + h.val, by omega⟩) := by
  rw [V2]
  pointwise

theorem idxs34 : ∀ t : Fin grid0.N, t.val < 32 →
    (win0_3.index t 0 = t.val / 8 ∧ win0_3.index t 1 = t.val % 8 ∧ win0_3.index t 2 = 0 ∧ win0_3.index t 3 = 0)
      ∧ (win0_4.index t 0 = t.val / 8 ∧ win0_4.index t 1 = t.val % 8 ∧ win0_4.index t 2 = 0 ∧ win0_4.index t 3 = 0) := by decide +kernel

theorem X0_at (t : Fin cfg0.N) (ht : t.val < 32) (r : Fin 2048) (e : Fin 512) :
    X0_0 m c t (ix2 r e) = aq m c (ix4 ⟨t.val / 8, by omega⟩ r ⟨t.val % 8 * 4 + e.val / 128, by omega⟩ ⟨e.val % 128, by omega⟩) := by
  unfold X0_0 Pipeline.Window.fill
  rw [dif_pos (moved0_0 t _)]
  have hi := (idxs t ht).1
  blk_simp [iblk]
  refine (Vq_at m c _ ?_ ?_).trans ?_
  · blk_simp [hi]; pointwise; omega
  · blk_simp [hi]; pointwise; omega
  · blk_ext [hi]

theorem X1_at (t : Fin cfg0.N) (ht : t.val < 32) (r : Fin 2048) (e : Fin 128) :
    X0_1 m c t (ix2 r e) = ak m c (ix4 ⟨t.val / 8, by omega⟩ r ⟨t.val % 8, by omega⟩ e) := by
  unfold X0_1 Pipeline.Window.fill
  rw [dif_pos (moved0_1 t _)]
  have hi := (idxs t ht).2.1
  blk_simp [iblk]
  refine (Vk_at m c _ ?_ ?_).trans ?_
  · blk_simp [hi]; pointwise; omega
  · blk_simp [hi]; pointwise; omega
  · blk_ext [hi]

theorem X2_at (t : Fin cfg0.N) (ht : t.val < 32) (r : Fin 2048) (e : Fin 128) :
    X0_2 m c t (ix2 r e) = av m c (ix4 ⟨t.val / 8, by omega⟩ r ⟨t.val % 8, by omega⟩ e) := by
  unfold X0_2 Pipeline.Window.fill
  rw [dif_pos (moved0_2 t _)]
  have hi := (idxs t ht).2.2
  blk_simp [iblk]
  refine (Vv_at m c _ ?_ ?_).trans ?_
  · blk_simp [hi]; pointwise; omega
  · blk_simp [hi]; pointwise; omega
  · blk_ext [hi]

theorem I3_at (t : Fin cfg0.N) (ht : t.val < 32) (r : Fin 2048) (h : Fin 4) :
    iblk m c 3 t (ix4 0 0 r h) = ac m c (ix3 ⟨t.val / 8, by omega⟩ r ⟨t.val % 8 * 4 + h.val, by omega⟩) := by
  have hi := (idxs34 t ht).1
  rw [← Vcq_at m c ⟨t.val / 8, by omega⟩ ⟨t.val % 8, by omega⟩ h r]
  blk_point [iblk, hi]

theorem I4_at (t : Fin cfg0.N) (ht : t.val < 32) (r : Fin 2048) (h : Fin 4) :
    iblk m c 4 t (ix4 0 0 h r) = ac m c (ix3 ⟨t.val / 8, by omega⟩ r ⟨t.val % 8 * 4 + h.val, by omega⟩) := by
  have hi := (idxs34 t ht).2
  rw [← Vck_at m c ⟨t.val / 8, by omega⟩ ⟨t.val % 8, by omega⟩ h r]
  blk_point [iblk, hi]

/-- The logits a grid point of the prompt forms are the logits of its batch and heads. -/
theorem sc_eq (t : Fin cfg0.N) (ht : t.val < 32) (r : Fin 2048) (h : Fin 4) (j : Fin 2048) :
    sc (X0_0 m c t) (X0_1 m c t) (iblk m c 3 t) (iblk m c 4 t) r h j
      = logit (aq m c) (ak m c) (ac m c) ⟨t.val / 8, by omega⟩ ⟨t.val % 8 * 4 + h.val, by omega⟩ r j := by
  unfold sc logit
  have e4 : (⟨(t.val % 8 * 4 + h.val) / 4, by omega⟩ : Fin 8) = ⟨t.val % 8, by omega⟩ := Fin.ext (by simp only; omega)
  rw [I3_at m c t ht, I4_at m c t ht, e4]
  refine if_congr Iff.rfl ?_ rfl
  refine congrArg (· * Ideal.ofBits .f32 1035273459#32 + _) (Finset.sum_congr rfl fun e _ => ?_)
  rw [X0_at m c t ht, X1_at m c t ht]
  have e1 : (⟨t.val % 8 * 4 + (h.val * 128 + e.val) / 128, by omega⟩ : Fin 32) = ⟨t.val % 8 * 4 + h.val, by omega⟩ := Fin.ext (by simp only; omega)
  have e2 : (⟨(h.val * 128 + e.val) % 128, by omega⟩ : Fin 128) = e := Fin.ext (by simp only; omega)
  rw [e1, e2]

/-- A grid point past the prompt leaves zeros. -/
theorem point_B (i : grid0.Coords) (arg2 : Memref sig .tc .vmem S2048x512 .bf16) (harg2 : arg2.IsWhole)
    (arg3 : Memref sig .tc .vmem S2048x128 .f32) (harg3 : arg3.IsWhole) (arg4 : Memref sig .tc .vmem S2048x128 .f32) (harg4 : arg4.IsWhole)
    (arg5 : Memref sig .tc .vmem S1x1x2048x4 .f32) (harg5 : arg5.IsWhole) (arg6 : Memref sig .tc .vmem S1x1x4x2048 .f32) (harg6 : arg6.IsWhole)
    (arg7 : Memref sig .tc .vmem S2048x512 .bf16) (harg7 : arg7.IsWhole) (hc0 : ¬cond0_0 i) (hc1 : cond0_1 i)
    (x0 : Vec Ideal S2048x512 .bf16) (x1 : Vec Ideal S2048x128 .f32) (x2 : Vec Ideal S2048x128 .f32) (x3 : Vec Ideal S1x1x2048x4 .f32)
    (x4 : Vec Ideal S1x1x4x2048 .f32) (y : S2048x512.Idx) :
    out0_B_5 c i arg2 harg2 arg3 harg3 arg4 harg4 arg5 harg5 arg6 harg6 arg7 harg7 hc0 hc1 x0 x1 x2 x3 x4 y = (0 : EReal) := by
  frame_out
  open_payloads
  pointwise

theorem idx5 : ∀ t : Fin cfg0.N, win0_5.index t 0 = t.val / 8 ∧ win0_5.index t 1 = t.val % 8 :=
  (by decide +kernel : ∀ t : Fin grid0.N, win0_5.index t 0 = t.val / 8 ∧ win0_5.index t 1 = t.val % 8)

/-- A row of a grid point of the prompt is the reference's row at the row's place in the array. -/
theorem point_ref (t : Fin cfg0.N) (ht : t.val < 32) (r : Fin 2048) (e : Fin 512) (i : S8320x4096.Idx)
    (h0 : (i 0).val = t.val / 8 * 2048 + r.val) (h1 : (i 1).val = t.val % 8 * 512 + e.val) :
    Cert.Soft.attR (sc (X0_0 m c t) (X0_1 m c t) (iblk m c 3 t) (iblk m c 4 t) r ⟨e.val / 128, by omega⟩)
        (fun j => X0_2 m c t (ix2 j ⟨e.val % 128, by omega⟩))
      = refO (refP (refE (refS (aq m c) (ak m c) (ac m c)))) (av m c) i := by
  rw [ref_at _ _ _ _ i (by omega) (by omega)]
  unfold prompt
  have es : sc (X0_0 m c t) (X0_1 m c t) (iblk m c 3 t) (iblk m c 4 t) r ⟨e.val / 128, by omega⟩
      = logit (aq m c) (ak m c) (ac m c) ⟨t.val / 8, by omega⟩ ⟨t.val % 8 * 4 + e.val / 128, by omega⟩ r := funext fun j => sc_eq m c t ht r _ j
  have ev : (fun j : Fin 2048 => X0_2 m c t (ix2 j ⟨e.val % 128, by omega⟩))
      = fun j => av m c (ix4 ⟨t.val / 8, by omega⟩ j ⟨t.val % 8, by omega⟩ ⟨e.val % 128, by omega⟩) := funext fun j => X2_at m c t ht j _
  rw [es, ev]
  have f0 : (⟨(i 0).val / 2048, by omega⟩ : Fin 4) = ⟨t.val / 8, by omega⟩ := Fin.ext (by simp only; omega)
  have f1 : (⟨(i 0).val % 2048, by omega⟩ : Fin 2048) = r := Fin.ext (by simp only; omega)
  have f2 : (⟨(i 1).val / 128, by omega⟩ : Fin 32) = ⟨t.val % 8 * 4 + e.val / 128, by omega⟩ := Fin.ext (by simp only; omega)
  have f3 : (⟨(i 1).val % 128, by omega⟩ : Fin 128) = ⟨e.val % 128, by omega⟩ := Fin.ext (by simp only; omega)
  have f4 : (⟨(t.val % 8 * 4 + e.val / 128) / 4, by omega⟩ : Fin 8) = ⟨t.val % 8, by omega⟩ := Fin.ext (by simp only; omega)
  rw [f0, f1, f2, f3, f4]

/-- The array after the run is the reference's result at the kernel's arguments. -/
theorem final (hq : ∀ i, ∃ x : ℝ, aq m c i = x) (hk : ∀ i, ∃ x : ℝ, ak m c i = x) (hc : ∀ i, ∃ x : ℝ, ac m c i = x) :
    (dats m 0 c).arrAt 5 cfg0.N = refO (refP (refE (refS (aq m c) (ak m c) (ac m c)))) (av m c) := by
  refine (dats m 0 c).arrAt_eq_of_covers 5 _ (by decide +kernel) fun t hf y => ?_
  have hi := idx5 t
  blk_simp
  rw [after0_5]
  by_cases ht : t.val < 32
  · rw [outsAt0_A m c t ht (by omega)]
    refine Eq.trans (point_A c _ _ _ _ _ _ _ _ _ _ _ _ _ _ _ _ _ _ _ _ _ ?_ ?_) (point_ref m c t ht _ _ _ ?_ ?_)
    · intro r h j; rw [sc_eq m c t ht]; exact logit_ne_top hq hk hc _ _ _ _
    · intro r h; rw [sc_eq m c t ht]; exact logit_diag_ne_bot hq hk hc _ _ _
    · blk_simp [hi]
    · blk_simp [hi]
  · rw [outsAt0_B m c t ht (by omega)]
    refine Eq.trans (point_B c _ _ _ _ _ _ _ _ _ _ _ _ _ _ _ _ _ _ _ _ _) (ref_at' _ _ _ ?_).symm
    blk_simp [hi]
    omega

end Cert.Fox

end
-- ==== Proof.Rows.Call4.lean ====
module

public import proofs.«01_k».proof.Proof.Gen.Kernel4Ideal.Frame
public import proofs.«01_k».proof.Proof.Gen.Reference4Ideal.Run
public import Idealize.ShloMosaic.PureOps.Ideal
public import Idealize.ShloMosaic.Lib.Pointwise
public import Idealize.ShloMosaic.Lib.Pipeline.ValueKit
public import Idealize.ShloMosaic.Lib.Claim
public import Idealize.ShloMosaic.Lib.WordCmp

@[expose] public section

set_option maxRecDepth 16384

noncomputable section

/-! # A projection of the tokens' rows: the kernel's array is the product, row by row -/

namespace Cert.Rows4

open Cert.Kernel4Ideal Cert.Kernel4Ideal.Gen Idealize.ShloMosaic Idealize.ShloMosaic.TcCoe Idealize.SL.Sem
open Idealize.ShloMosaic.Pipeline (Dat)
open Idealize.ShloMosaic.Tactic

variable (m : (ℓ : Loc nD τ sig) → Buf (Elt Ideal) ℓ) (c : Dev nD)

abbrev ap : FVec Ideal S4x2048x4096 .f32 := m ((c.tc : Thread nD τ).loc main_arg0)
abbrev asm : FVec Ideal S8x1x4096 .f32 := m ((c.tc : Thread nD τ).loc main_arg1)
abbrev aw : FVec Ideal S4096x6144 .f32 := m ((c.tc : Thread nD τ).loc main_arg2)

/-- The rows the kernel takes: the prompt's, the sample's, zeros. -/
def rows (p : FVec Ideal S4x2048x4096 .f32) (s : FVec Ideal S8x1x4096 .f32) : FVec Ideal S8320x4096 .bf16 :=
  truncf (F := Ideal) .bf16 (concatenate S8320x4096 0 [⟨S8192x4096, shapeCast S8192x4096 p shapeCasts_S4x2048x4096_S8192x4096⟩, ⟨S8x4096, shapeCast S8x4096 s shapeCasts_S8x1x4096_S8x4096⟩, ⟨S120x4096, broadcastInDim S120x4096 ![] bcast_S_S120x4096 (constant (F := Ideal) S_ .f32 0x00000000#32)⟩] concatenates_S8192x4096_S8x4096_S120x4096_S8320x4096_d0) bitsLt_bf16_f32

theorem V4 : V m c main_v4 = rows (ap m c) (asm m c) := by
  unfold V V0 rows
  simp only [hostOps0, List.flatten_cons, List.flatten_nil, List.append_nil, List.cons_append, List.nil_append]
  after_results
  rfl

theorem rows_p (p : FVec Ideal S4x2048x4096 .f32) (s : FVec Ideal S8x1x4096 .f32) (b : Fin 4) (r : Fin 2048) (k : Fin 4096) :
    rows p s (ix2 ⟨b.val * 2048 + r.val, by omega⟩ k) = p (ix3 b r k) := by
  unfold rows
  pointwise
  rw [dif_pos (by omega)]

theorem rows_s (p : FVec Ideal S4x2048x4096 .f32) (s : FVec Ideal S8x1x4096 .f32) (b : Fin 8) (k : Fin 4096) :
    rows p s (ix2 ⟨8192 + b.val, by omega⟩ k) = s (ix3 b 0 k) := by
  unfold rows
  pointwise

/-- The product of the kernel's rows and the weights. -/
def G : FVec Ideal S8320x6144 .f32 := fun i => ∑ k : Fin 4096, rows (ap m c) (asm m c) (ix2 ⟨(i 0).val, (i 0).isLt⟩ k) * aw m c (ix2 k ⟨(i 1).val, (i 1).isLt⟩)

theorem idx : ∀ t : Fin cfg0.N, (win0_0.index t 0 = t.val / 12 ∧ win0_0.index t 1 = 0) ∧ (win0_1.index t 0 = 0 ∧ win0_1.index t 1 = t.val % 12)
    ∧ win0_2.index t 0 = t.val / 12 ∧ win0_2.index t 1 = t.val % 12 :=
  (by decide +kernel : ∀ t : Fin grid0.N, (win0_0.index t 0 = t.val / 12 ∧ win0_0.index t 1 = 0) ∧ (win0_1.index t 0 = 0 ∧ win0_1.index t 1 = t.val % 12)
    ∧ win0_2.index t 0 = t.val / 12 ∧ win0_2.index t 1 = t.val % 12)

theorem point (i : grid0.Coords) (arg2 : Memref sig .tc .vmem S1040x4096 .bf16) (harg2 : arg2.IsWhole) (arg3 : Memref sig .tc .vmem S4096x512 .f32) (harg3 : arg3.IsWhole)
    (arg4 : Memref sig .tc .vmem S1040x512 .f32) (harg4 : arg4.IsWhole) (arg5 : Memref sig .tc .vmem S4096x512 .bf16) (harg5 : arg5.IsWhole)
    (x0 : Vec Ideal S1040x4096 .bf16) (x1 : Vec Ideal S4096x512 .f32) (y : S1040x512.Idx) :
    out0_A_2 c i arg2 harg2 arg3 harg3 arg4 harg4 arg5 harg5 x0 x1 y
      = ∑ k : Fin 4096, (x0 (ix2 ⟨(y 0).val, (y 0).isLt⟩ k) : EReal) * x1 (ix2 k ⟨(y 1).val, (y 1).isLt⟩) := by
  frame_out
  open_payloads
  pointwise

theorem final : (dats m 0 c).arrAt 2 cfg0.N = G m c := by
  refine (dats m 0 c).arrAt_eq_of_covers 2 _ (by decide +kernel) fun t hf y => ?_
  obtain ⟨⟨h00, h01⟩, ⟨h10, h11⟩, h20, h21⟩ := idx t
  blk_simp
  rw [after0_2]
  unfold outsAt0
  refine (point c _ _ _ _ _ _ _ _ _ _ _ _).trans ?_
  unfold G
  refine Finset.sum_congr rfl fun k _ => congrArg₂ (· * ·) ?_ ?_
  · rw [← V4]
    blk_point [iblk, h00, h01, h20, h21]
  · blk_point [iblk, h10, h11, h20, h21]

theorem tail7 : Pipeline.afterTail₀ cfgs (dats m) 0 (V0 m) [hostOps1] c main_v7
    = shapeCast S4x2048x6144 (extractStridedSlice S8192x6144 ![0, 0] (G m c) slices_S8320x6144_S8192x6144_0_0) shapeCasts_S8192x6144_S4x2048x6144 := by
  rw [← final]
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.devRef .tc main_v5) = (dats m 0 c).arrAt 2 cfg0.N :=
    Pipeline.withArrays_arr spec0 (by decide) c _ _ 2
  exact congrArg (fun A : FVec Ideal S8320x6144 .f32 => shapeCast S4x2048x6144 (extractStridedSlice S8192x6144 ![0, 0] A slices_S8320x6144_S8192x6144_0_0) shapeCasts_S8192x6144_S4x2048x6144) e

theorem tail9 : Pipeline.afterTail₀ cfgs (dats m) 0 (V0 m) [hostOps1] c main_v9
    = shapeCast S8x1x6144 (extractStridedSlice S8x6144 ![8192, 0] (G m c) slices_S8320x6144_S8x6144_8192_0) shapeCasts_S8x6144_S8x1x6144 := by
  rw [← final]
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.devRef .tc main_v5) = (dats m 0 c).arrAt 2 cfg0.N :=
    Pipeline.withArrays_arr spec0 (by decide) c _ _ 2
  exact congrArg (fun A : FVec Ideal S8320x6144 .f32 => shapeCast S8x1x6144 (extractStridedSlice S8x6144 ![8192, 0] A slices_S8320x6144_S8x6144_8192_0) shapeCasts_S8x6144_S8x1x6144) e

/-- The prompt's rows of the product are the reference's. -/
theorem res_p : shapeCast S4x2048x6144 (extractStridedSlice S8192x6144 ![0, 0] (G m c) slices_S8320x6144_S8192x6144_0_0) shapeCasts_S8192x6144_S4x2048x6144
    = Host.dotGeneral Cert.Reference4Ideal.dot_S4x2048x4096_S4096x6144_S4x2048x6144_2_0_01_1_n_n none (ap m c) (aw m c) := by
  funext i
  pointwise
  unfold G
  refine Finset.sum_congr rfl fun k _ => congrArg₂ (· * ·) ?_ rfl
  exact rows_p _ _ _ _ _

theorem res_s : shapeCast S8x1x6144 (extractStridedSlice S8x6144 ![8192, 0] (G m c) slices_S8320x6144_S8x6144_8192_0) shapeCasts_S8x6144_S8x1x6144
    = Host.dotGeneral Cert.Reference4Ideal.dot_S8x1x4096_S4096x6144_S8x1x6144_2_0_01_1_n_n none (asm m c) (aw m c) := by
  funext i
  pointwise
  unfold G
  refine Finset.sum_congr rfl fun k _ => congrArg₂ (· * ·) ?_ rfl
  rw [show i 1 = (0 : Fin 1) from Subsingleton.elim (α := Fin 1) _ _]
  exact rows_s _ _ _ _

/-- The run of the kernel, its results named. -/
theorem run (ρ : Dev nD → PrngReg) : θ_run defs (onTc (τ := τ) (main (F := Ideal))) ⟨m, fun _ => 0, ρ⟩ (fun r => ∀ c : Dev nD,
    r.2.mem ((c.tc : Thread nD τ).loc main_v7) = Host.dotGeneral Cert.Reference4Ideal.dot_S4x2048x4096_S4096x6144_S4x2048x6144_2_0_01_1_n_n none (ap m c) (aw m c)
    ∧ r.2.mem ((c.tc : Thread nD τ).loc main_v9) = Host.dotGeneral Cert.Reference4Ideal.dot_S8x1x4096_S4096x6144_S8x1x6144_2_0_01_1_n_n none (asm m c) (aw m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨((h.2 c).2 main_v7 (Pipeline.mem_restRefs_of main_v7 (by decide) (by decide))).trans ((tail7 m c).trans (res_p m c)),
    ((h.2 c).2 main_v9 (Pipeline.mem_restRefs_of main_v9 (by decide) (by decide))).trans ((tail9 m c).trans (res_s m c)), h.1 c⟩)
    (θ_run_and (unchanged m ρ) (run_main m ρ))

end Cert.Rows4

end
-- ==== Proof.Rows.Call5.lean ====
module

public import proofs.«01_k».proof.Proof.Gen.Kernel5Ideal.Frame
public import proofs.«01_k».proof.Proof.Gen.Reference5Ideal.Run
public import Idealize.ShloMosaic.PureOps.Ideal
public import Idealize.ShloMosaic.Lib.Pointwise
public import Idealize.ShloMosaic.Lib.Pipeline.ValueKit
public import Idealize.ShloMosaic.Lib.Claim
public import Idealize.ShloMosaic.Lib.WordCmp

@[expose] public section

set_option maxRecDepth 16384

noncomputable section

/-! # A projection of the tokens' rows: the kernel's array is the product, row by row -/

namespace Cert.Rows5

open Cert.Kernel5Ideal Cert.Kernel5Ideal.Gen Idealize.ShloMosaic Idealize.ShloMosaic.TcCoe Idealize.SL.Sem
open Idealize.ShloMosaic.Pipeline (Dat)
open Idealize.ShloMosaic.Tactic

variable (m : (ℓ : Loc nD τ sig) → Buf (Elt Ideal) ℓ) (c : Dev nD)

abbrev ap : FVec Ideal S4x2048x4096 .f32 := m ((c.tc : Thread nD τ).loc main_arg0)
abbrev asm : FVec Ideal S8x1x4096 .f32 := m ((c.tc : Thread nD τ).loc main_arg1)
abbrev aw : FVec Ideal S4096x6176 .f32 := m ((c.tc : Thread nD τ).loc main_arg2)

/-- The rows the kernel takes: the prompt's, the sample's, zeros. -/
def rows (p : FVec Ideal S4x2048x4096 .f32) (s : FVec Ideal S8x1x4096 .f32) : FVec Ideal S8320x4096 .bf16 :=
  truncf (F := Ideal) .bf16 (concatenate S8320x4096 0 [⟨S8192x4096, shapeCast S8192x4096 p shapeCasts_S4x2048x4096_S8192x4096⟩, ⟨S8x4096, shapeCast S8x4096 s shapeCasts_S8x1x4096_S8x4096⟩, ⟨S120x4096, broadcastInDim S120x4096 ![] bcast_S_S120x4096 (constant (F := Ideal) S_ .f32 0x00000000#32)⟩] concatenates_S8192x4096_S8x4096_S120x4096_S8320x4096_d0) bitsLt_bf16_f32

theorem V4 : V m c main_v4 = rows (ap m c) (asm m c) := by
  unfold V V0 rows
  simp only [hostOps0, List.flatten_cons, List.flatten_nil, List.append_nil, List.cons_append, List.nil_append]
  after_results
  rfl

theorem rows_p (p : FVec Ideal S4x2048x4096 .f32) (s : FVec Ideal S8x1x4096 .f32) (b : Fin 4) (r : Fin 2048) (k : Fin 4096) :
    rows p s (ix2 ⟨b.val * 2048 + r.val, by omega⟩ k) = p (ix3 b r k) := by
  unfold rows
  pointwise
  rw [dif_pos (by omega)]

theorem rows_s (p : FVec Ideal S4x2048x4096 .f32) (s : FVec Ideal S8x1x4096 .f32) (b : Fin 8) (k : Fin 4096) :
    rows p s (ix2 ⟨8192 + b.val, by omega⟩ k) = s (ix3 b 0 k) := by
  unfold rows
  pointwise

/-- The product of the kernel's rows and the weights. -/
def G : FVec Ideal S8320x6144 .f32 := fun i => ∑ k : Fin 4096, rows (ap m c) (asm m c) (ix2 ⟨(i 0).val, (i 0).isLt⟩ k) * aw m c (ix2 k ⟨(i 1).val, by have := (i 1).isLt; change (i 1).val < 6144 at this; omega⟩)

theorem idx : ∀ t : Fin cfg0.N, (win0_0.index t 0 = t.val / 12 ∧ win0_0.index t 1 = 0) ∧ (win0_1.index t 0 = 0 ∧ win0_1.index t 1 = t.val % 12)
    ∧ win0_2.index t 0 = t.val / 12 ∧ win0_2.index t 1 = t.val % 12 :=
  (by decide +kernel : ∀ t : Fin grid0.N, (win0_0.index t 0 = t.val / 12 ∧ win0_0.index t 1 = 0) ∧ (win0_1.index t 0 = 0 ∧ win0_1.index t 1 = t.val % 12)
    ∧ win0_2.index t 0 = t.val / 12 ∧ win0_2.index t 1 = t.val % 12)

theorem point (i : grid0.Coords) (arg2 : Memref sig .tc .vmem S1040x4096 .bf16) (harg2 : arg2.IsWhole) (arg3 : Memref sig .tc .vmem S4096x512 .f32) (harg3 : arg3.IsWhole)
    (arg4 : Memref sig .tc .vmem S1040x512 .f32) (harg4 : arg4.IsWhole) (arg5 : Memref sig .tc .vmem S4096x512 .bf16) (harg5 : arg5.IsWhole)
    (x0 : Vec Ideal S1040x4096 .bf16) (x1 : Vec Ideal S4096x512 .f32) (y : S1040x512.Idx) :
    out0_A_2 c i arg2 harg2 arg3 harg3 arg4 harg4 arg5 harg5 x0 x1 y
      = ∑ k : Fin 4096, (x0 (ix2 ⟨(y 0).val, (y 0).isLt⟩ k) : EReal) * x1 (ix2 k ⟨(y 1).val, (y 1).isLt⟩) := by
  frame_out
  open_payloads
  pointwise

theorem final : (dats m 0 c).arrAt 2 cfg0.N = G m c := by
  refine (dats m 0 c).arrAt_eq_of_covers 2 _ (by decide +kernel) fun t hf y => ?_
  obtain ⟨⟨h00, h01⟩, ⟨h10, h11⟩, h20, h21⟩ := idx t
  blk_simp
  rw [after0_2]
  unfold outsAt0
  refine (point c _ _ _ _ _ _ _ _ _ _ _ _).trans ?_
  unfold G
  refine Finset.sum_congr rfl fun k _ => congrArg₂ (· * ·) ?_ ?_
  · rw [← V4]
    blk_point [iblk, h00, h01, h20, h21]
  · unfold X0_1 Pipeline.Window.fill
    rw [dif_pos (moved0_1 t _)]
    blk_point [iblk, h10, h11, h20, h21]

theorem tail7 : Pipeline.afterTail₀ cfgs (dats m) 0 (V0 m) [hostOps1] c main_v7
    = shapeCast S4x2048x6144 (extractStridedSlice S8192x6144 ![0, 0] (G m c) slices_S8320x6144_S8192x6144_0_0) shapeCasts_S8192x6144_S4x2048x6144 := by
  rw [← final]
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.devRef .tc main_v5) = (dats m 0 c).arrAt 2 cfg0.N :=
    Pipeline.withArrays_arr spec0 (by decide) c _ _ 2
  exact congrArg (fun A : FVec Ideal S8320x6144 .f32 => shapeCast S4x2048x6144 (extractStridedSlice S8192x6144 ![0, 0] A slices_S8320x6144_S8192x6144_0_0) shapeCasts_S8192x6144_S4x2048x6144) e

theorem tail9 : Pipeline.afterTail₀ cfgs (dats m) 0 (V0 m) [hostOps1] c main_v9
    = shapeCast S8x1x6144 (extractStridedSlice S8x6144 ![8192, 0] (G m c) slices_S8320x6144_S8x6144_8192_0) shapeCasts_S8x6144_S8x1x6144 := by
  rw [← final]
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.devRef .tc main_v5) = (dats m 0 c).arrAt 2 cfg0.N :=
    Pipeline.withArrays_arr spec0 (by decide) c _ _ 2
  exact congrArg (fun A : FVec Ideal S8320x6144 .f32 => shapeCast S8x1x6144 (extractStridedSlice S8x6144 ![8192, 0] A slices_S8320x6144_S8x6144_8192_0) shapeCasts_S8x6144_S8x1x6144) e

/-- The prompt's rows of the product are the reference's. -/
theorem res_p : shapeCast S4x2048x6144 (extractStridedSlice S8192x6144 ![0, 0] (G m c) slices_S8320x6144_S8192x6144_0_0) shapeCasts_S8192x6144_S4x2048x6144
    = extractStridedSlice S4x2048x6144 ![0, 0, 0] (Host.dotGeneral (F := Ideal) Cert.Reference5Ideal.dot_S4x2048x4096_S4096x6176_S4x2048x6176_2_0_01_1_n_n none (ap m c) (aw m c)) Cert.Reference5Ideal.Gen.slices_S4x2048x6176_S4x2048x6144_0_0_0 := by
  funext i
  pointwise
  unfold G
  refine Finset.sum_congr rfl fun k _ => congrArg₂ (· * ·) ?_ rfl
  exact rows_p _ _ _ _ _

theorem res_s : shapeCast S8x1x6144 (extractStridedSlice S8x6144 ![8192, 0] (G m c) slices_S8320x6144_S8x6144_8192_0) shapeCasts_S8x6144_S8x1x6144
    = extractStridedSlice S8x1x6144 ![0, 0, 0] (Host.dotGeneral (F := Ideal) Cert.Reference5Ideal.dot_S8x1x4096_S4096x6176_S8x1x6176_2_0_01_1_n_n none (asm m c) (aw m c)) Cert.Reference5Ideal.Gen.slices_S8x1x6176_S8x1x6144_0_0_0 := by
  funext i
  pointwise
  unfold G
  refine Finset.sum_congr rfl fun k _ => congrArg₂ (· * ·) ?_ rfl
  exact rows_s _ _ _ _

/-- The run of the kernel, its results named. -/
theorem run (ρ : Dev nD → PrngReg) : θ_run defs (onTc (τ := τ) (main (F := Ideal))) ⟨m, fun _ => 0, ρ⟩ (fun r => ∀ c : Dev nD,
    r.2.mem ((c.tc : Thread nD τ).loc main_v7) = extractStridedSlice S4x2048x6144 ![0, 0, 0] (Host.dotGeneral (F := Ideal) Cert.Reference5Ideal.dot_S4x2048x4096_S4096x6176_S4x2048x6176_2_0_01_1_n_n none (ap m c) (aw m c)) Cert.Reference5Ideal.Gen.slices_S4x2048x6176_S4x2048x6144_0_0_0
    ∧ r.2.mem ((c.tc : Thread nD τ).loc main_v9) = extractStridedSlice S8x1x6144 ![0, 0, 0] (Host.dotGeneral (F := Ideal) Cert.Reference5Ideal.dot_S8x1x4096_S4096x6176_S8x1x6176_2_0_01_1_n_n none (asm m c) (aw m c)) Cert.Reference5Ideal.Gen.slices_S8x1x6176_S8x1x6144_0_0_0
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨((h.2 c).2 main_v7 (Pipeline.mem_restRefs_of main_v7 (by decide) (by decide))).trans ((tail7 m c).trans (res_p m c)),
    ((h.2 c).2 main_v9 (Pipeline.mem_restRefs_of main_v9 (by decide) (by decide))).trans ((tail9 m c).trans (res_s m c)), h.1 c⟩)
    (θ_run_and (unchanged m ρ) (run_main m ρ))

end Cert.Rows5

end
-- ==== Proof.Rows.Call6.lean ====
module

public import proofs.«01_k».proof.Proof.Gen.Kernel6Ideal.Frame
public import proofs.«01_k».proof.Proof.Gen.Reference6Ideal.Run
public import Idealize.ShloMosaic.PureOps.Ideal
public import Idealize.ShloMosaic.Lib.Pointwise
public import Idealize.ShloMosaic.Lib.Pipeline.ValueKit
public import Idealize.ShloMosaic.Lib.Claim
public import Idealize.ShloMosaic.Lib.WordCmp

@[expose] public section

set_option maxRecDepth 16384

noncomputable section

/-! # A projection of the tokens' rows: the kernel's array is the product, row by row -/

namespace Cert.Rows6

open Cert.Kernel6Ideal Cert.Kernel6Ideal.Gen Idealize.ShloMosaic Idealize.ShloMosaic.TcCoe Idealize.SL.Sem
open Idealize.ShloMosaic.Pipeline (Dat)
open Idealize.ShloMosaic.Tactic

variable (m : (ℓ : Loc nD τ sig) → Buf (Elt Ideal) ℓ) (c : Dev nD)

abbrev ap : FVec Ideal S4x2048x4096 .f32 := m ((c.tc : Thread nD τ).loc main_arg0)
abbrev asm : FVec Ideal S8x1x4096 .f32 := m ((c.tc : Thread nD τ).loc main_arg1)
abbrev aw : FVec Ideal S4096x4096 .f32 := m ((c.tc : Thread nD τ).loc main_arg2)

/-- The rows the kernel takes: the prompt's, the sample's, zeros. -/
def rows (p : FVec Ideal S4x2048x4096 .f32) (s : FVec Ideal S8x1x4096 .f32) : FVec Ideal S8320x4096 .bf16 :=
  truncf (F := Ideal) .bf16 (concatenate S8320x4096 0 [⟨S8192x4096, shapeCast S8192x4096 p shapeCasts_S4x2048x4096_S8192x4096⟩, ⟨S8x4096, shapeCast S8x4096 s shapeCasts_S8x1x4096_S8x4096⟩, ⟨S120x4096, broadcastInDim S120x4096 ![] bcast_S_S120x4096 (constant (F := Ideal) S_ .f32 0x00000000#32)⟩] concatenates_S8192x4096_S8x4096_S120x4096_S8320x4096_d0) bitsLt_bf16_f32

theorem V4 : V m c main_v4 = rows (ap m c) (asm m c) := by
  unfold V V0 rows
  simp only [hostOps0, List.flatten_cons, List.flatten_nil, List.append_nil, List.cons_append, List.nil_append]
  after_results
  rfl

theorem rows_p (p : FVec Ideal S4x2048x4096 .f32) (s : FVec Ideal S8x1x4096 .f32) (b : Fin 4) (r : Fin 2048) (k : Fin 4096) :
    rows p s (ix2 ⟨b.val * 2048 + r.val, by omega⟩ k) = p (ix3 b r k) := by
  unfold rows
  pointwise
  rw [dif_pos (by omega)]

theorem rows_s (p : FVec Ideal S4x2048x4096 .f32) (s : FVec Ideal S8x1x4096 .f32) (b : Fin 8) (k : Fin 4096) :
    rows p s (ix2 ⟨8192 + b.val, by omega⟩ k) = s (ix3 b 0 k) := by
  unfold rows
  pointwise

/-- The product of the kernel's rows and the weights. -/
def G : FVec Ideal S8320x4096 .f32 := fun i => ∑ k : Fin 4096, rows (ap m c) (asm m c) (ix2 ⟨(i 0).val, (i 0).isLt⟩ k) * aw m c (ix2 k ⟨(i 1).val, (i 1).isLt⟩)

theorem idx : ∀ t : Fin cfg0.N, (win0_0.index t 0 = t.val / 8 ∧ win0_0.index t 1 = 0) ∧ (win0_1.index t 0 = 0 ∧ win0_1.index t 1 = t.val % 8)
    ∧ win0_2.index t 0 = t.val / 8 ∧ win0_2.index t 1 = t.val % 8 :=
  (by decide +kernel : ∀ t : Fin grid0.N, (win0_0.index t 0 = t.val / 8 ∧ win0_0.index t 1 = 0) ∧ (win0_1.index t 0 = 0 ∧ win0_1.index t 1 = t.val % 8)
    ∧ win0_2.index t 0 = t.val / 8 ∧ win0_2.index t 1 = t.val % 8)

theorem point (i : grid0.Coords) (arg2 : Memref sig .tc .vmem S1040x4096 .bf16) (harg2 : arg2.IsWhole) (arg3 : Memref sig .tc .vmem S4096x512 .f32) (harg3 : arg3.IsWhole)
    (arg4 : Memref sig .tc .vmem S1040x512 .f32) (harg4 : arg4.IsWhole) (arg5 : Memref sig .tc .vmem S4096x512 .bf16) (harg5 : arg5.IsWhole)
    (x0 : Vec Ideal S1040x4096 .bf16) (x1 : Vec Ideal S4096x512 .f32) (y : S1040x512.Idx) :
    out0_A_2 c i arg2 harg2 arg3 harg3 arg4 harg4 arg5 harg5 x0 x1 y
      = ∑ k : Fin 4096, (x0 (ix2 ⟨(y 0).val, (y 0).isLt⟩ k) : EReal) * x1 (ix2 k ⟨(y 1).val, (y 1).isLt⟩) := by
  frame_out
  open_payloads
  pointwise

theorem final : (dats m 0 c).arrAt 2 cfg0.N = G m c := by
  refine (dats m 0 c).arrAt_eq_of_covers 2 _ (by decide +kernel) fun t hf y => ?_
  obtain ⟨⟨h00, h01⟩, ⟨h10, h11⟩, h20, h21⟩ := idx t
  blk_simp
  rw [after0_2]
  unfold outsAt0
  refine (point c _ _ _ _ _ _ _ _ _ _ _ _).trans ?_
  unfold G
  refine Finset.sum_congr rfl fun k _ => congrArg₂ (· * ·) ?_ ?_
  · rw [← V4]
    blk_point [iblk, h00, h01, h20, h21]
  · blk_point [iblk, h10, h11, h20, h21]

theorem tail7 : Pipeline.afterTail₀ cfgs (dats m) 0 (V0 m) [hostOps1] c main_v7
    = shapeCast S4x2048x4096 (extractStridedSlice S8192x4096 ![0, 0] (G m c) slices_S8320x4096_S8192x4096_0_0) shapeCasts_S8192x4096_S4x2048x4096 := by
  rw [← final]
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.devRef .tc main_v5) = (dats m 0 c).arrAt 2 cfg0.N :=
    Pipeline.withArrays_arr spec0 (by decide) c _ _ 2
  exact congrArg (fun A : FVec Ideal S8320x4096 .f32 => shapeCast S4x2048x4096 (extractStridedSlice S8192x4096 ![0, 0] A slices_S8320x4096_S8192x4096_0_0) shapeCasts_S8192x4096_S4x2048x4096) e

theorem tail9 : Pipeline.afterTail₀ cfgs (dats m) 0 (V0 m) [hostOps1] c main_v9
    = shapeCast S8x1x4096 (extractStridedSlice S8x4096 ![8192, 0] (G m c) slices_S8320x4096_S8x4096_8192_0) shapeCasts_S8x4096_S8x1x4096 := by
  rw [← final]
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.devRef .tc main_v5) = (dats m 0 c).arrAt 2 cfg0.N :=
    Pipeline.withArrays_arr spec0 (by decide) c _ _ 2
  exact congrArg (fun A : FVec Ideal S8320x4096 .f32 => shapeCast S8x1x4096 (extractStridedSlice S8x4096 ![8192, 0] A slices_S8320x4096_S8x4096_8192_0) shapeCasts_S8x4096_S8x1x4096) e

/-- The prompt's rows of the product are the reference's. -/
theorem res_p : shapeCast S4x2048x4096 (extractStridedSlice S8192x4096 ![0, 0] (G m c) slices_S8320x4096_S8192x4096_0_0) shapeCasts_S8192x4096_S4x2048x4096
    = Host.dotGeneral Cert.Reference6Ideal.dot_S4x2048x4096_S4096x4096_S4x2048x4096_2_0_01_1_n_n none (ap m c) (aw m c) := by
  funext i
  pointwise
  unfold G
  refine Finset.sum_congr rfl fun k _ => congrArg₂ (· * ·) ?_ rfl
  exact rows_p _ _ _ _ _

theorem res_s : shapeCast S8x1x4096 (extractStridedSlice S8x4096 ![8192, 0] (G m c) slices_S8320x4096_S8x4096_8192_0) shapeCasts_S8x4096_S8x1x4096
    = Host.dotGeneral Cert.Reference6Ideal.dot_S8x1x4096_S4096x4096_S8x1x4096_2_0_01_1_n_n none (asm m c) (aw m c) := by
  funext i
  pointwise
  unfold G
  refine Finset.sum_congr rfl fun k _ => congrArg₂ (· * ·) ?_ rfl
  rw [show i 1 = (0 : Fin 1) from Subsingleton.elim (α := Fin 1) _ _]
  exact rows_s _ _ _ _

/-- The run of the kernel, its results named. -/
theorem run (ρ : Dev nD → PrngReg) : θ_run defs (onTc (τ := τ) (main (F := Ideal))) ⟨m, fun _ => 0, ρ⟩ (fun r => ∀ c : Dev nD,
    r.2.mem ((c.tc : Thread nD τ).loc main_v7) = Host.dotGeneral Cert.Reference6Ideal.dot_S4x2048x4096_S4096x4096_S4x2048x4096_2_0_01_1_n_n none (ap m c) (aw m c)
    ∧ r.2.mem ((c.tc : Thread nD τ).loc main_v9) = Host.dotGeneral Cert.Reference6Ideal.dot_S8x1x4096_S4096x4096_S8x1x4096_2_0_01_1_n_n none (asm m c) (aw m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨((h.2 c).2 main_v7 (Pipeline.mem_restRefs_of main_v7 (by decide) (by decide))).trans ((tail7 m c).trans (res_p m c)),
    ((h.2 c).2 main_v9 (Pipeline.mem_restRefs_of main_v9 (by decide) (by decide))).trans ((tail9 m c).trans (res_s m c)), h.1 c⟩)
    (θ_run_and (unchanged m ρ) (run_main m ρ))

end Cert.Rows6

end
-- ==== Proof.Ffn.Run.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! # The run of the feed-forward call's first half, its tables admissible -/

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S4 .i32 := Memref.whole main_v5
abbrev htbM0_0 : tbM0_0.IsWhole := Memref.isWhole_whole _
abbrev tbM0_1 : Memref sig .tc .smem S4 .i32 := Memref.whole main_v6
abbrev htbM0_1 : tbM0_1.IsWhole := Memref.isWhole_whole _
abbrev tbM0_2 : Memref sig .tc .smem S4 .i32 := Memref.whole main_v7
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c))⟩) h

abbrev VO0_3 : View sig .tc .vmem S2080x256 .bf16 := (Memref.whole cc0_stg3_0 : Memref sig .tc .vmem S2080x256 .bf16).view
abbrev ms0_0 (hO : Ok m) (t : Fin (cfgM m hO).N) : Memref sig .tc .vmem S2080x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2080x256 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev scM0_0 : Memref sig .tc .vmem S4096x512 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl
set_option maxHeartbeats 1000000 in
noncomputable def kernelRun0_A (c : Dev nD) (i : grid0.Coords) (arg5 : Memref sig .tc .vmem S2080x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2080x256 .bf16) (harg8 : arg8.IsWhole) (arg9 : Memref sig .tc .vmem S4096x512 .bf16) (harg9 : arg9.IsWhole)
    (x0 : Vec F S2080x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2) :
    Σ' (L3 : List (View.Piece (Elt F) S2080x256 .bf16)), { LT0 : List (View.Piece (Elt F) S4096x512 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f LT0) ∗ tbPt0 c tbM0_0 xt0 ∗ tbPt0 c tbM0_1 xt1 ∗ tbPt0 c tbM0_2 xt2) -∗ K ⟨⟩))
          ⊢ wp frame (wpE (defs₀ (F := F)) Variants.none c none) E (cc0_ffn_gate_up i tbM0_0 htbM0_0 tbM0_1 htbM0_1 tbM0_2 htbM0_2 arg5 harg5 arg6 harg6 arg7 harg7 arg8 harg8 arg9 harg9) K } := by
  refine ⟨?_, ?_, fun E K => ?run⟩
  case run =>
    simp only [cc0_ffn_gate_up_eq_skeleton]; unfold cc0_ffn_gate_up_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HT0, HT1, HT2, Hk⟩
    obtain rfl := harg5.eq_unread hf0; obtain rfl := harg6.eq_unread hf1; obtain rfl := harg7.eq_unread hf2
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]; · iexists _; iexact H3
    isplitl [HS0]; · iexists _; iexact HS0
    isplitl [HT0]; · iexact HT0
    isplitl [HT1]; · iexact HT1
    iexact HT2

theorem cover0_A_3 (c : Dev nD) (i : grid0.Coords) (arg5 : Memref sig .tc .vmem S2080x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2080x256 .bf16) (harg8 : arg8.IsWhole) (arg9 : Memref sig .tc .vmem S4096x512 .bf16) (harg9 : arg9.IsWhole)
    (x0 : Vec F S2080x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2) (y : S2080x256.Idx) :
    ∃ pc ∈ (kernelRun0_A c i arg5 harg5 arg6 harg6 arg7 harg7 arg8 harg8 arg9 harg9 x0 x1 x2 xt0 xt1 xt2).1, y ∈ pc.1.set :=
  View.cover_of_tiledL (kernelRun0_A c i arg5 harg5 arg6 harg6 arg7 harg7 arg8 harg8 arg9 harg9 x0 x1 x2 xt0 xt1 xt2).1 S416x256.size (by sl_kernel_rfl) y

def out0_A_3 (c : Dev nD) (i : grid0.Coords) (arg5 : Memref sig .tc .vmem S2080x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2080x256 .bf16) (harg8 : arg8.IsWhole) (arg9 : Memref sig .tc .vmem S4096x512 .bf16) (harg9 : arg9.IsWhole)
    (x0 : Vec F S2080x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2) : Vec F S2080x256 .bf16 :=
  VO0_3.read (Elt F) (VO0_3.writes (Elt F) VO0_3.junk (kernelRun0_A c i arg5 harg5 arg6 harg6 arg7 harg7 arg8 harg8 arg9 harg9 x0 x1 x2 xt0 xt1 xt2).1)

def outsAt0 (hO : Ok m) (c : Dev nD) (t : Fin (cfgM m hO).N) : Vec F S2080x256 .bf16 :=
  out0_A_3 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) (tbl m 0) (tbl m 1) (tbl m 2)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq, PhiA0_eq]
  unfold outsAt0
  unfold out0_A_3
  iintro ⟨⟨⟨HS0, Hg⟩, ⟨HT0, HT1, HT2⟩⟩, Ho, ⟨%d0, H0⟩, ⟨%d1, H1⟩, ⟨%d2, H2⟩, ⟨%d3, H3⟩⟩
  iapply ((kernelRun0_A c (grid0.coords t) _ _ _ _ _ _ _ _ _ _ (iblk m hO c 0 t) (iblk m hO c 1 t) (iblk m hO c 2 t) (tbl m 0) (tbl m 1) (tbl m 2)).2.2 Set.univ _)
  isplitl [H0]; · iexact H0
  isplitl [H1]; · iexact H1
  isplitl [H2]; · iexact H2
  isplitl [H3]; · iexists _; iexact H3
  isplitl [HS0]; · iexact HS0
  isplitl [HT0]; · iexact HT0
  isplitl [HT1]; · iexact HT1
  isplitl [HT2]; · iexact HT2
  iintro ⟨H0, H1, H2, ⟨%e3, H3⟩, ⟨%fT0, HS0⟩, HT0, HT1, HT2⟩
  isplitl [HS0 Hg HT0 HT1 HT2]
  · isplitl [HS0 Hg]
    · isplitl [HS0]
      · iexists _; unfold owns; iexists _; isplitr
        swap; · iexact HS0
        ipureintro; rfl
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl
set_option backward.isDefEq.respectTransparency.types false in
set_option maxHeartbeats 800000 in
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.Ffn

end
-- ==== Proof.Ffn.Tables.lean ====
module

public import proofs.«01_k».proof.Proof.Ffn.Run
public import Idealize.ShloMosaic.PureOps.Ideal
public import Idealize.ShloMosaic.Lib.Pointwise
public import Idealize.ShloMosaic.Lib.Pipeline.ValueKit
public import Idealize.ShloMosaic.Lib.Claim
public import Idealize.ShloMosaic.Lib.WordCmp

@[expose] public section

set_option maxRecDepth 16384

noncomputable section

/-! # The block tables of the feed-forward call: block `s` takes rows `s`, expert 0, ten units -/

namespace Cert.Ffn

open Cert.Kernel2Ideal Cert.Kernel2Ideal.Gen Idealize.ShloMosaic Idealize.ShloMosaic.TcCoe Idealize.SL.Sem

variable {F : FTy → Type} [FloatOps F]

/-- The three tables as the host writes them. -/
def tables : (j : Fin 3) → ((pre0.ref j).ty.Contents (Elt F)) := fun
  | 0 => (iotaInDim S4 32 0 : IVec S4 32)
  | 1 => broadcastInDim S4 ![] bcast_S_S4 (constantI S_ 32 0#32)
  | 2 => broadcastInDim S4 ![] bcast_S_S4 (constantI S_ 32 10#32)
  | ⟨_ + 3, h⟩ => absurd h (Nat.not_lt.2 (Nat.le_add_left _ _))

theorem tbl_eq (m : (ℓ : Loc nD τ sig) → Buf (Elt F) ℓ) : tbl m = tables := by
  funext j
  fin_cases j
  all_goals
    show V m 0 _ = _
    unfold V V0
    simp only [hostOps0, List.flatten_cons, List.flatten_nil, List.append_nil, List.cons_append, List.nil_append]
    after_results
    try rfl

theorem ok_tables : ok0 (F := Ideal) tables := by
  decide +kernel

theorem ok (m : (ℓ : Loc nD τ sig) → Buf (Elt Ideal) ℓ) : Ok m := by
  unfold Ok; rw [tbl_eq]; exact ok_tables

end Cert.Ffn

end
-- ==== Proof.Ffn.Bits.lean ====
module

public import proofs.«01_k».proof.Defs
public import proofs.«01_k».proof.Proof.Gen.Kernel2
public import proofs.«01_k».proof.Proof.Ffn.Tables

@[expose] public section

noncomputable section

/-! # The kernel as it stands is the same program text as the ideal one, so the one run serves both -/

namespace Cert.Ffn

open Idealize.ShloMosaic Idealize.ShloMosaic.TcCoe Idealize.SL.Sem

theorem ok_tables_bits : Cert.Kernel2Ideal.ok0 (F := Bits) tables := by
  decide +kernel

theorem ok_bits (m : (ℓ : Loc Cert.Kernel2Ideal.nD Cert.Kernel2Ideal.τ Cert.Kernel2Ideal.sig) → Buf (Elt Bits) ℓ) : Ok m := by
  unfold Ok; rw [tbl_eq]; exact ok_tables_bits

theorem body_eq : @Cert.Kernel2.cc0_ffn_gate_up Bits _ _ = @Cert.Kernel2Ideal.cc0_ffn_gate_up Bits _ _ := rfl

theorem defs₀_eq : Cert.Kernel2.defs₀ (F := Bits) = Cert.Kernel2Ideal.defs₀ (F := Bits) := by
  unfold Cert.Kernel2.defs₀ Cert.Kernel2Ideal.defs₀
  refine congrArg _ ?_
  funext l a
  match l, a with
  | 0, (t, s) => rfl

theorem pcfgs_eq : Cert.Kernel2.pcfgs (F := Bits) = Cert.Kernel2Ideal.pcfgs (F := Bits) := rfl

theorem defs_eq : Cert.Kernel2.defs (F := Bits) = Cert.Kernel2Ideal.defs (F := Bits) :=
  congrArg (Pipeline.defs (Cert.Kernel2Ideal.pcfgs (F := Bits))) defs₀_eq

set_option maxHeartbeats 4000000 in
theorem main_eq : Cert.Kernel2.main (F := Bits) = Cert.Kernel2Ideal.main (F := Bits) := rfl

theorem frame_kernel : Cert.quiescent_Kernel2 (hKernel2 := Cert.Kernel2.Gen.facts) := by
  intro m ρ _
  rw [defs_eq, main_eq]
  exact (θ_run Cert.Kernel2Ideal.defs _ _).mono (fun _ h => h) (frame (F := Bits) m ρ (ok_bits m))

end Cert.Ffn

end
-- ==== Proof.Ffn.Value.lean ====
module

public import proofs.«01_k».proof.Proof.Ffn.Tables
public import proofs.«01_k».proof.Proof.Gen.Reference2Ideal.Run

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.Pipeline (Dat)
open Idealize.ShloMosaic.Tactic

variable (m : (ℓ : Loc nD τ sig) → Buf (Elt Ideal) ℓ) (c : Dev nD)

/-- The two halves of the scratch buffer side by side. -/
def join (a b : Vec Ideal S4096x256 .bf16) : Vec Ideal S4096x512 .bf16 := fun i =>
  if h : (i 1).val < 256 then a (ix2 ⟨(i 0).val, (i 0).isLt⟩ ⟨(i 1).val, h⟩)
  else b (ix2 ⟨(i 0).val, (i 0).isLt⟩ ⟨(i 1).val - 256, by have := (i 1).isLt; change (i 1).val < 512 at this; omega⟩)

theorem readCov_join (v : View sig .tc .vmem S4096x512 .bf16) (a b : Vec Ideal S4096x256 .bf16) :
    v.readCov [⟨Rect.unit (s := S4096x512) ![0, 256] ![4096, 256] inb_S4096x512_S4096x256_0_256, b⟩,
      ⟨Rect.unit (s := S4096x512) ![0, 0] ![4096, 256] inb_S4096x512_S4096x256_0_0, a⟩]
      (Rect.unit (s := S4096x512) ![0, 0] ![4096, 512] inb_S4096x512_S4096x512_0_0).toLoadRect = join a b := by
  rw [View.readCov_eq_canon']
  funext y
  refine Eq.trans (b := join a b ((Rect.unit (s := S4096x512) ![0, 0] ![4096, 512] inb_S4096x512_S4096x512_0_0).toLoadRect.idx y)) ?_ ?_
  · generalize (Rect.unit (s := S4096x512) ![0, 0] ![4096, 512] inb_S4096x512_S4096x512_0_0).toLoadRect.idx y = z
    canon_tiles x h
    · unfold join; rw [dif_neg (by omega)]; blk_ext
    · unfold join; rw [dif_pos (by omega)]; blk_ext
  · refine congrArg (join a b) ?_
    funext d
    fin_cases d
    all_goals exact Fin.ext (by simp [Rect.unit])

/-- What the point writes at `y`: the gate's product through silu, times the up product. -/
def glu (g u : EReal) : EReal := g * Ideal.logistic g * u

/-- The product of a block's row and a column of one expert's weights. -/
def col (x0 : Vec Ideal S2080x4096 .bf16) (x : Vec Ideal S1x4096x256 .f32) (y : S2080x256.Idx) : EReal :=
  ∑ k : Fin 4096, (x0 (ix2 ⟨(y 0).val, (y 0).isLt⟩ k) : EReal) * x (ix3 0 k ⟨(y 1).val, (y 1).isLt⟩)

theorem join_left (x1 x2 : Vec Ideal S1x4096x256 .f32) (k : Fin 4096) (n : Fin 512) (h : n.val < 256) :
    join (truncf (F := Ideal) .bf16 (shapeCast S4096x256 x1 shapeCasts_S1x4096x256_S4096x256) bitsLt_bf16_f32)
      (truncf (F := Ideal) .bf16 (shapeCast S4096x256 x2 shapeCasts_S1x4096x256_S4096x256) bitsLt_bf16_f32) (ix2 k n) = x1 (ix3 0 k ⟨n.val, h⟩) := by
  unfold join
  rw [dif_pos (show ((ix2 k n : S4096x512.Idx) 1).val < 256 from h)]
  pointwise

theorem join_right (x1 x2 : Vec Ideal S1x4096x256 .f32) (k : Fin 4096) (n : Fin 512) (h : 256 ≤ n.val) :
    join (truncf (F := Ideal) .bf16 (shapeCast S4096x256 x1 shapeCasts_S1x4096x256_S4096x256) bitsLt_bf16_f32)
      (truncf (F := Ideal) .bf16 (shapeCast S4096x256 x2 shapeCasts_S1x4096x256_S4096x256) bitsLt_bf16_f32) (ix2 k n)
      = x2 (ix3 0 k ⟨n.val - 256, by omega⟩) := by
  unfold join
  rw [dif_neg (show ¬ ((ix2 k n : S4096x512.Idx) 1).val < 256 from Nat.not_lt.2 h)]
  pointwise

theorem point (i : grid0.Coords) (arg5 : Memref sig .tc .vmem S2080x4096 .bf16) (harg5 : arg5.IsWhole) (arg6 : Memref sig .tc .vmem S1x4096x256 .f32) (harg6 : arg6.IsWhole)
    (arg7 : Memref sig .tc .vmem S1x4096x256 .f32) (harg7 : arg7.IsWhole) (arg8 : Memref sig .tc .vmem S2080x256 .bf16) (harg8 : arg8.IsWhole)
    (arg9 : Memref sig .tc .vmem S4096x512 .bf16) (harg9 : arg9.IsWhole)
    (x0 : Vec Ideal S2080x4096 .bf16) (x1 : Vec Ideal S1x4096x256 .f32) (x2 : Vec Ideal S1x4096x256 .f32)
    (xt0 : TbBuf0 (F := Ideal) c tbM0_0) (xt1 : TbBuf0 (F := Ideal) c tbM0_1) (xt2 : TbBuf0 (F := Ideal) c tbM0_2) (y : S2080x256.Idx) :
    out0_A_3 c i arg5 harg5 arg6 harg6 arg7 harg7 arg8 harg8 arg9 harg9 x0 x1 x2 xt0 xt1 xt2 y = glu (col x0 x1 y) (col x0 x2 y) := by
  frame_out
  simp only [readCov_join]
  canon_tiles x h
  all_goals
    open_payloads
    pointwise
    unfold glu col
    refine congrArg₂ (· * ·) (congrArg (fun g : EReal => g * Ideal.logistic g) ?_) ?_
    · refine Finset.sum_congr rfl fun k _ => congrArg₂ (· * ·) (congrArg x0 ?_) ((join_left x1 x2 k _ (by assumption)).trans (congrArg x1 ?_))
      · blk_ext
      · blk_ext
    · refine Finset.sum_congr rfl fun k _ => congrArg₂ (· * ·) (congrArg x0 ?_) ((join_right x1 x2 k _ (by simp)).trans (congrArg x2 ?_))
      · blk_ext
      · blk_ext

abbrev ap : FVec Ideal S4x2048x4096 .f32 := m ((c.tc : Thread nD τ).loc main_arg0)
abbrev asm : FVec Ideal S8x1x4096 .f32 := m ((c.tc : Thread nD τ).loc main_arg1)
abbrev ag : FVec Ideal S4096x14336 .f32 := m ((c.tc : Thread nD τ).loc main_arg2)
abbrev au : FVec Ideal S4096x14336 .f32 := m ((c.tc : Thread nD τ).loc main_arg3)

/-- The rows the kernel takes: the prompt's, the sample's, zeros. -/
def rows (p : FVec Ideal S4x2048x4096 .f32) (s : FVec Ideal S8x1x4096 .f32) : FVec Ideal S8320x4096 .bf16 :=
  truncf (F := Ideal) .bf16 (concatenate S8320x4096 0 [⟨S8192x4096, shapeCast S8192x4096 p shapeCasts_S4x2048x4096_S8192x4096⟩, ⟨S8x4096, shapeCast S8x4096 s shapeCasts_S8x1x4096_S8x4096⟩, ⟨S120x4096, broadcastInDim S120x4096 ![] bcast_S_S120x4096 (constant (F := Ideal) S_ .f32 0x00000000#32)⟩] concatenates_S8192x4096_S8x4096_S120x4096_S8320x4096_d0) bitsLt_bf16_f32

theorem V4 : V m c main_v4 = rows (ap m c) (asm m c) := by
  unfold V V0 rows
  simp only [hostOps0, List.flatten_cons, List.flatten_nil, List.append_nil, List.cons_append, List.nil_append]
  after_results
  rfl

theorem V8 : V m c main_v8 = broadcastInDim S1x4096x14336 ![1, 2] bcast_S4096x14336_S1x4096x14336_1_2 (ag m c) := by
  unfold V V0
  simp only [hostOps0, List.flatten_cons, List.flatten_nil, List.append_nil, List.cons_append, List.nil_append]
  after_results

theorem V9 : V m c main_v9 = broadcastInDim S1x4096x14336 ![1, 2] bcast_S4096x14336_S1x4096x14336_1_2 (au m c) := by
  unfold V V0
  simp only [hostOps0, List.flatten_cons, List.flatten_nil, List.append_nil, List.cons_append, List.nil_append]
  after_results

theorem V8_at (k : Fin 4096) (n : Fin 14336) : V m c main_v8 (ix3 0 k n : S1x4096x14336.Idx) = ag m c (ix2 k n) := by
  rw [V8]
  pointwise

theorem V9_at (k : Fin 4096) (n : Fin 14336) : V m c main_v9 (ix3 0 k n : S1x4096x14336.Idx) = au m c (ix2 k n) := by
  rw [V9]
  pointwise

theorem rows_p (p : FVec Ideal S4x2048x4096 .f32) (s : FVec Ideal S8x1x4096 .f32) (b : Fin 4) (r : Fin 2048) (k : Fin 4096) :
    rows p s (ix2 ⟨b.val * 2048 + r.val, by omega⟩ k) = p (ix3 b r k) := by
  unfold rows
  pointwise
  rw [dif_pos (by omega)]

theorem rows_s (p : FVec Ideal S4x2048x4096 .f32) (s : FVec Ideal S8x1x4096 .f32) (b : Fin 8) (k : Fin 4096) :
    rows p s (ix2 ⟨8192 + b.val, by omega⟩ k) = s (ix3 b 0 k) := by
  unfold rows
  pointwise

/-- A row of the kernel's rows times a column of one of the weights. -/
def prod (w : FVec Ideal S4096x14336 .f32) (i : S8320x14336.Idx) : EReal :=
  ∑ k : Fin 4096, rows (ap m c) (asm m c) (ix2 ⟨(i 0).val, (i 0).isLt⟩ k) * w (ix2 k ⟨(i 1).val, (i 1).isLt⟩)

/-- The array the kernel leaves. -/
def G : FVec Ideal S8320x14336 .bf16 := fun i => glu (prod m c (ag m c) i) (prod m c (au m c) i)

/-- Which block each window holds at a point, the tables being the host's. -/
theorem idx_tables : ∀ t : Fin grid0.N,
    (((cfg0 (F := Ideal) ⟨tables, ok_tables⟩).win 0).index t (0 : Fin 2) = t.val / 56 ∧ ((cfg0 (F := Ideal) ⟨tables, ok_tables⟩).win 0).index t (1 : Fin 2) = 0)
    ∧ (((cfg0 (F := Ideal) ⟨tables, ok_tables⟩).win 1).index t (0 : Fin 3) = 0 ∧ ((cfg0 (F := Ideal) ⟨tables, ok_tables⟩).win 1).index t (1 : Fin 3) = 0
      ∧ ((cfg0 (F := Ideal) ⟨tables, ok_tables⟩).win 1).index t (2 : Fin 3) = t.val % 56)
    ∧ (((cfg0 (F := Ideal) ⟨tables, ok_tables⟩).win 2).index t (0 : Fin 3) = 0 ∧ ((cfg0 (F := Ideal) ⟨tables, ok_tables⟩).win 2).index t (1 : Fin 3) = 0
      ∧ ((cfg0 (F := Ideal) ⟨tables, ok_tables⟩).win 2).index t (2 : Fin 3) = t.val % 56)
    ∧ ((cfg0 (F := Ideal) ⟨tables, ok_tables⟩).win 3).index t (0 : Fin 2) = t.val / 56 ∧ ((cfg0 (F := Ideal) ⟨tables, ok_tables⟩).win 3).index t (1 : Fin 2) = t.val % 56 := by
  decide +kernel

theorem covers_tables : ((cfg0 (F := Ideal) ⟨tables, ok_tables⟩).win 3).Covers := by
  decide +kernel

theorem adm_eq : adm m (ok m) = ⟨tables, ok_tables⟩ := Subtype.ext (tbl_eq m)

theorem covers : ((cfgM m (ok m)).win 3).Covers := by
  unfold cfgM; rw [adm_eq]; exact covers_tables

theorem idx : ∀ t : Fin (cfgM m (ok m)).N,
    (((cfgM m (ok m)).win 0).index t (0 : Fin 2) = t.val / 56 ∧ ((cfgM m (ok m)).win 0).index t (1 : Fin 2) = 0)
    ∧ (((cfgM m (ok m)).win 1).index t (0 : Fin 3) = 0 ∧ ((cfgM m (ok m)).win 1).index t (1 : Fin 3) = 0 ∧ ((cfgM m (ok m)).win 1).index t (2 : Fin 3) = t.val % 56)
    ∧ (((cfgM m (ok m)).win 2).index t (0 : Fin 3) = 0 ∧ ((cfgM m (ok m)).win 2).index t (1 : Fin 3) = 0 ∧ ((cfgM m (ok m)).win 2).index t (2 : Fin 3) = t.val % 56)
    ∧ ((cfgM m (ok m)).win 3).index t (0 : Fin 2) = t.val / 56 ∧ ((cfgM m (ok m)).win 3).index t (1 : Fin 2) = t.val % 56 := by
  unfold cfgM; rw [adm_eq]; exact idx_tables

theorem final : (dats m (ok m) 0 c).arrAt 3 (cfgM m (ok m)).N = G m c := by
  refine (dats m (ok m) 0 c).arrAt_eq_of_covers 3 _ (covers m) fun t hf y => ?_
  obtain ⟨⟨h00, h01⟩, ⟨h10, h11, h12⟩, ⟨h20, h21, h22⟩, h30, h31⟩ := idx m t
  blk_simp
  rw [after0_3]
  unfold outsAt0
  refine (point c _ _ _ _ _ _ _ _ _ _ _ _ _ _ _ _ _ _).trans ?_
  unfold G
  refine congrArg₂ glu ?_ ?_
  · unfold col prod
    refine Finset.sum_congr rfl fun k _ => congrArg₂ (· * ·) ?_ ?_
    · rw [← V4]
      blk_point [iblk, h00, h01, h30, h31]
    · rw [← V8_at]
      blk_point [iblk, h10, h11, h12, h30, h31]
  · unfold col prod
    refine Finset.sum_congr rfl fun k _ => congrArg₂ (· * ·) ?_ ?_
    · rw [← V4]
      blk_point [iblk, h00, h01, h30, h31]
    · rw [← V9_at]
      blk_point [iblk, h20, h21, h22, h30, h31]

/-- The reference's array over the prompt. -/
abbrev refp (p : FVec Ideal S4x2048x4096 .f32) (g u : FVec Ideal S4096x14336 .f32) : FVec Ideal S4x2048x14336 .bf16 :=
  truncf (F := Ideal) .bf16 (mulf (mulf (Host.dotGeneral Cert.Reference2Ideal.dot_S4x2048x4096_S4096x14336_S4x2048x14336_2_0_01_1_n_n none p g)
    (Host.divf (broadcastInDim S4x2048x14336 ![] Cert.Reference2Ideal.Gen.bcast_S_S4x2048x14336 (constant S_ .f32 0x3F800000#32))
      (addf (broadcastInDim S4x2048x14336 ![] Cert.Reference2Ideal.Gen.bcast_S_S4x2048x14336 (constant S_ .f32 0x3F800000#32))
        (Host.exp (Host.negf (Host.dotGeneral Cert.Reference2Ideal.dot_S4x2048x4096_S4096x14336_S4x2048x14336_2_0_01_1_n_n none p g))))))
    (Host.dotGeneral Cert.Reference2Ideal.dot_S4x2048x4096_S4096x14336_S4x2048x14336_2_0_01_1_n_n none p u)) Cert.Reference2Ideal.Gen.bitsLt_bf16_f32

/-- The reference's array over the sample. -/
abbrev refs (s : FVec Ideal S8x1x4096 .f32) (g u : FVec Ideal S4096x14336 .f32) : FVec Ideal S8x1x14336 .bf16 :=
  truncf (F := Ideal) .bf16 (mulf (mulf (Host.dotGeneral Cert.Reference2Ideal.dot_S8x1x4096_S4096x14336_S8x1x14336_2_0_01_1_n_n none s g)
    (Host.divf (broadcastInDim S8x1x14336 ![] Cert.Reference2Ideal.Gen.bcast_S_S8x1x14336 (constant S_ .f32 0x3F800000#32))
      (addf (broadcastInDim S8x1x14336 ![] Cert.Reference2Ideal.Gen.bcast_S_S8x1x14336 (constant S_ .f32 0x3F800000#32))
        (Host.exp (Host.negf (Host.dotGeneral Cert.Reference2Ideal.dot_S8x1x4096_S4096x14336_S8x1x14336_2_0_01_1_n_n none s g))))))
    (Host.dotGeneral Cert.Reference2Ideal.dot_S8x1x4096_S4096x14336_S8x1x14336_2_0_01_1_n_n none s u)) Cert.Reference2Ideal.Gen.bitsLt_bf16_f32

theorem tail12 : Pipeline.afterTail pcfgs (fun _ => adm m (ok m)) (dats m (ok m)) 0 (V0 m) [hostOps1] c main_v12
    = shapeCast S4x2048x14336 (extractStridedSlice S8192x14336 ![0, 0] (G m c) slices_S8320x14336_S8192x14336_0_0) shapeCasts_S8192x14336_S4x2048x14336 := by
  rw [← final]
  unfold Pipeline.afterTail
  simp only [hostOps1, List.flatten_cons, List.flatten_nil, List.append_nil, List.cons_append, List.nil_append]
  after_results
  have e : Pipeline.withArrays spec0 c (V0 m c) (fun w => (dats m (ok m) 0 c).arrAt w (cfgM m (ok m)).N) (Proc.devRef .tc main_v10) = (dats m (ok m) 0 c).arrAt 3 (cfgM m (ok m)).N :=
    Pipeline.withArrays_arr spec0 (by decide) c _ _ 3
  exact congrArg (fun A : FVec Ideal S8320x14336 .bf16 => shapeCast S4x2048x14336 (extractStridedSlice S8192x14336 ![0, 0] A slices_S8320x14336_S8192x14336_0_0) shapeCasts_S8192x14336_S4x2048x14336) e

theorem tail14 : Pipeline.afterTail pcfgs (fun _ => adm m (ok m)) (dats m (ok m)) 0 (V0 m) [hostOps1] c main_v14
    = shapeCast S8x1x14336 (extractStridedSlice S8x14336 ![8192, 0] (G m c) slices_S8320x14336_S8x14336_8192_0) shapeCasts_S8x14336_S8x1x14336 := by
  rw [← final]
  unfold Pipeline.afterTail
  simp only [hostOps1, List.flatten_cons, List.flatten_nil, List.append_nil, List.cons_append, List.nil_append]
  after_results
  have e : Pipeline.withArrays spec0 c (V0 m c) (fun w => (dats m (ok m) 0 c).arrAt w (cfgM m (ok m)).N) (Proc.devRef .tc main_v10) = (dats m (ok m) 0 c).arrAt 3 (cfgM m (ok m)).N :=
    Pipeline.withArrays_arr spec0 (by decide) c _ _ 3
  exact congrArg (fun A : FVec Ideal S8320x14336 .bf16 => shapeCast S8x1x14336 (extractStridedSlice S8x14336 ![8192, 0] A slices_S8320x14336_S8x14336_8192_0) shapeCasts_S8x14336_S8x1x14336) e

/-- The prompt's rows of the kernel's array are the reference's. -/
theorem res_p : shapeCast S4x2048x14336 (extractStridedSlice S8192x14336 ![0, 0] (G m c) slices_S8320x14336_S8192x14336_0_0) shapeCasts_S8192x14336_S4x2048x14336
    = refp (ap m c) (ag m c) (au m c) := by
  funext i
  pointwise
  unfold G glu prod
  refine congrArg₂ (· * ·) (congrArg (fun g : EReal => g * Ideal.div 1 (1 + Ideal.exp (-g))) ?_) ?_
  all_goals exact Finset.sum_congr rfl fun k _ => congrArg₂ (· * ·) (rows_p _ _ _ _ _) rfl

theorem res_s : shapeCast S8x1x14336 (extractStridedSlice S8x14336 ![8192, 0] (G m c) slices_S8320x14336_S8x14336_8192_0) shapeCasts_S8x14336_S8x1x14336
    = refs (asm m c) (ag m c) (au m c) := by
  funext i
  pointwise
  unfold G glu prod
  rw [show i 1 = (0 : Fin 1) from Subsingleton.elim (α := Fin 1) _ _]
  refine congrArg₂ (· * ·) (congrArg (fun g : EReal => g * Ideal.div 1 (1 + Ideal.exp (-g))) ?_) ?_
  all_goals exact Finset.sum_congr rfl fun k _ => congrArg₂ (· * ·) (rows_s _ _ _ _) rfl

/-- The run of the kernel, its results named. -/
theorem run (ρ : Dev nD → PrngReg) : θ_run defs (onTc (τ := τ) (main (F := Ideal))) ⟨m, fun _ => 0, ρ⟩ (fun r => ∀ c : Dev nD,
    r.2.mem ((c.tc : Thread nD τ).loc main_v12) = refp (ap m c) (ag m c) (au m c)
    ∧ r.2.mem ((c.tc : Thread nD τ).loc main_v14) = refs (asm m c) (ag m c) (au m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨((h.2 c).2 main_v12 (Pipeline.mem_restRefs_of (win := spec0) main_v12 (by decide) (by decide))).trans ((tail12 m c).trans (res_p m c)),
    ((h.2 c).2 main_v14 (Pipeline.mem_restRefs_of (win := spec0) main_v14 (by decide) (by decide))).trans ((tail14 m c).trans (res_s m c)), h.1 c⟩)
    (θ_run_and (unchanged m ρ (ok m)) (run_main m ρ (ok m)))

end Cert.Ffn

end
-- ==== Proof.Down.Run.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! # The run of the feed-forward call's second half, its tables admissible -/

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S4 .i32 := Memref.whole main_v0
abbrev htbM0_0 : tbM0_0.IsWhole := Memref.isWhole_whole _
abbrev tbM0_1 : Memref sig .tc .smem S4 .i32 := Memref.whole main_v1
abbrev htbM0_1 : tbM0_1.IsWhole := Memref.isWhole_whole _
abbrev tbM0_2 : Memref sig .tc .smem S4 .i32 := Memref.whole main_v2
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c))⟩) h

abbrev cond0_0 (i : grid0.Coords) (v1 : BitVec 32) : Prop := (Scalar.cmpi .ne (Scalar.extui (Scalar.andi (Scalar.cmpi .sgt v1 0#32) (Scalar.cmpi .eq (BitVec.ofNat 32 (i 2).val) 0#32))) 0#32) = 1#1

abbrev cond0_1 (i : grid0.Coords) (v1 : BitVec 32) : Prop := (Scalar.cmpi .ne (Scalar.extui (Scalar.andi (Scalar.cmpi .sgt v1 0#32) (Scalar.cmpi .eq (BitVec.ofNat 32 (i 2).val) 13#32))) 0#32) = 1#1

abbrev VO0_3 : View sig .tc .vmem S2080x1024 .f32 := (Memref.whole cc0_stg3_0 : Memref sig .tc .vmem S2080x1024 .f32).view
abbrev ms0_0 (hO : Ok m) (t : Fin (cfgM m hO).N) : Memref sig .tc .vmem S2080x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S2080x1 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2080x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev scM0_0 : Memref sig .tc .vmem S1024x1024 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

abbrev bodyAt0 (a : (pcfg0 (F := F)).Adm) (t : Fin (cfg0 a).N) : Prog (TpuEff nD τ sig (Elt F) Λ₀ .tc) PUnit :=
  cc0_ffn_down (grid0.coords t) (Memref.whole main_v0) (Memref.isWhole_whole _) (Memref.whole main_v1) (Memref.isWhole_whole _) (Memref.whole main_v2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

/-- What the tables have to be for the output to be accumulated: every row block is live, and its tile is
    written back at the last step of the contraction. -/
structure Reg (hO : Ok m) : Prop where
  first : ∀ t : Fin (cfgM m hO).N, cond0_0 (grid0.coords t) (tbM0_2.view.readAt (Elt F) (Rect.unit (s := S4) (k0_off1 (grid0.coords t)) S1.size (k0_off1_inb (grid0.coords t))).toLoadRect (tbl m 2) (Shape.Idx.first (numel1_S1.symm ▸ Nat.one_pos))) ↔ t.val % 14 = 0
  last : ∀ t : Fin (cfgM m hO).N, cond0_1 (grid0.coords t) (tbM0_2.view.readAt (Elt F) (Rect.unit (s := S4) (k0_off1 (grid0.coords t)) S1.size (k0_off1_inb (grid0.coords t))).toLoadRect (tbl m 2) (Shape.Idx.first (numel1_S1.symm ▸ Nat.one_pos))) ↔ t.val % 14 = 13
  flush : ∀ t : Fin (cfgM m hO).N, ((cfgM m hO).win 3).flush t = true ↔ t.val % 14 = 13

set_option maxHeartbeats 1000000 in
noncomputable def kernelRun0_A (c : Dev nD) (i : grid0.Coords) (arg6 : Memref sig .tc .vmem S2080x1024 .bf16) (harg6 : arg6.IsWhole) (arg7 : Memref sig .tc .vmem S1x1024x1024 .f32) (harg7 : arg7.IsWhole) (arg8 : Memref sig .tc .vmem S2080x1 .f32) (harg8 : arg8.IsWhole) (arg9 : Memref sig .tc .vmem S2080x1024 .f32) (harg9 : arg9.IsWhole) (arg10 : Memref sig .tc .vmem S1024x1024 .bf16) (harg10 : arg10.IsWhole)
    (x0 : Vec F S2080x1024 .bf16) (x1 : Vec F S1x1024x1024 .f32) (x2 : Vec F S2080x1 .f32) (xt0 : TbBuf0 (F := F) c tbM0_0) (xt1 : TbBuf0 (F := F) c tbM0_1) (xt2 : TbBuf0 (F := F) c tbM0_2) (hc0 : cond0_0 i (tbM0_2.view.readAt (Elt F) (Rect.unit (s := S4) (k0_off1 i) S1.size (k0_off1_inb i)).toLoadRect xt2 (Shape.Idx.first (numel1_S1.symm ▸ Nat.one_pos)))) (hc1 : ¬cond0_1 i (tbM0_2.view.readAt (Elt F) (Rect.unit (s := S4) (k0_off1 i) S1.size (k0_off1_inb i)).toLoadRect xt2 (Shape.Idx.first (numel1_S1.symm ▸ Nat.one_pos)))) :
    Σ' (L3 : List (View.Piece (Elt F) S2080x1024 .f32)), { LT0 : List (View.Piece (Elt F) S1024x1024 .bf16) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d) ∗ tbPt0 c tbM0_0 xt0 ∗ tbPt0 c tbM0_1 xt1 ∗ tbPt0 c tbM0_2 xt2
            ∗ (iprop(owns (c : Thread nD τ) arg6 fullShare x0 ∗ owns (c : Thread nD τ) arg7 fullShare x1 ∗ owns (c : Thread nD τ) arg8 fullShare x2 ∗ (∃ f, arg9.view.loc (c : Thread nD τ) ↦[arg9.view.set]{fullShare} arg9.view.writes (Elt F) f L3) ∗ (∃ f, arg10.view.loc (c : Thread nD τ) ↦[arg10.view.set]{fullShare} arg10.view.writes (Elt F) f LT0) ∗ tbPt0 c tbM0_0 xt0 ∗ tbPt0 c tbM0_1 xt1 ∗ tbPt0 c tbM0_2 xt2) -∗ K ⟨⟩))
          ⊢ wp frame (wpE (defs₀ (F := F)) Variants.none c none) E (cc0_ffn_down i tbM0_0 htbM0_0 tbM0_1 htbM0_1 tbM0_2 htbM0_2 arg6 harg6 arg7 harg7 arg8 harg8 arg9 harg9 arg10 harg10) K } := by
  refine ⟨?_, ?_, fun E K => ?run⟩
  case run =>
    simp only [cc0_ffn_down_eq_skeleton]; unfold cc0_ffn_down_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HT0, HT1, HT2, Hk⟩
    obtain rfl := harg6.eq_unread hf0; obtain rfl := harg7.eq_unread hf1; obtain rfl := harg8.eq_unread hf2
    sl_exec (disch := first | sl_exact hc0 | sl_exact hc1)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]; · iexists _; iexact H3
    isplitl [HS0]; · iexists _; iexact HS0
    isplitl [HT0]; · iexact HT0
    isplitl [HT1]; · iexact HT1
    iexact HT2

set_option maxHeartbeats 1000000 in
noncomputable def kernelRun0_B (c : Dev nD) (i : grid0.Coords) (arg6 : Memref sig .tc .vmem S2080x1024 .bf16) (harg6 : arg6.IsWhole) (arg7 : Memref sig .tc .vmem S1x1024x1024 .f32) (harg7 : arg7.IsWhole) (arg8 : Memref sig .tc .vmem S2080x1 .f32) (harg8 : arg8.IsWhole) (arg9 : Memref sig .tc .vmem S2080x1024 .f32) (harg9 : arg9.IsWhole) (arg10 : Memref sig .tc .vmem S1024x1024 .bf16) (harg10 : arg10.IsWhole)
    (x0 : Vec F S2080x1024 .bf16) (x1 : Vec F S1x1024x1024 .f32) (x2 : Vec F S2080x1 .f32) (xo3 : Vec F S2080x1024 .f32) (xt0 : TbBuf0 (F := F) c tbM0_0) (xt1 : TbBuf0 (F := F) c tbM0_1) (xt2 : TbBuf0 (F := F) c tbM0_2) (hc0 : ¬cond0_0 i (tbM0_2.view.readAt (Elt F) (Rect.unit (s := S4) (k0_off1 i) S1.size (k0_off1_inb i)).toLoadRect xt2 (Shape.Idx.first (numel1_S1.symm ▸ Nat.one_pos)))) (hc1 : ¬cond0_1 i (tbM0_2.view.readAt (Elt F) (Rect.unit (s := S4) (k0_off1 i) S1.size (k0_off1_inb i)).toLoadRect xt2 (Shape.Idx.first (numel1_S1.symm ▸ Nat.one_pos)))) :
    Σ' (L3 : List (View.Piece (Elt F) S2080x1024 .f32)), { LT0 : List (View.Piece (Elt F) S1024x1024 .bf16) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xo3 ∗ (∃ d, owns (c : Thread nD τ) arg10 fullShare d) ∗ tbPt0 c tbM0_0 xt0 ∗ tbPt0 c tbM0_1 xt1 ∗ tbPt0 c tbM0_2 xt2
            ∗ (iprop(owns (c : Thread nD τ) arg6 fullShare x0 ∗ owns (c : Thread nD τ) arg7 fullShare x1 ∗ owns (c : Thread nD τ) arg8 fullShare x2 ∗ (∃ f, arg9.view.loc (c : Thread nD τ) ↦[arg9.view.set]{fullShare} arg9.view.writes (Elt F) f L3) ∗ (∃ f, arg10.view.loc (c : Thread nD τ) ↦[arg10.view.set]{fullShare} arg10.view.writes (Elt F) f LT0) ∗ tbPt0 c tbM0_0 xt0 ∗ tbPt0 c tbM0_1 xt1 ∗ tbPt0 c tbM0_2 xt2) -∗ K ⟨⟩))
          ⊢ wp frame (wpE (defs₀ (F := F)) Variants.none c none) E (cc0_ffn_down i tbM0_0 htbM0_0 tbM0_1 htbM0_1 tbM0_2 htbM0_2 arg6 harg6 arg7 harg7 arg8 harg8 arg9 harg9 arg10 harg10) K } := by
  refine ⟨?_, ?_, fun E K => ?run⟩
  case run =>
    simp only [cc0_ffn_down_eq_skeleton]; unfold cc0_ffn_down_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, HT0, HT1, HT2, Hk⟩
    obtain rfl := harg6.eq_unread hf0; obtain rfl := harg7.eq_unread hf1; obtain rfl := harg8.eq_unread hf2; obtain rfl := harg9.eq_unread hf3
    sl_exec (disch := first | sl_exact hc0 | sl_exact hc1)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]; · iexists _; iexact H3
    isplitl [HS0]; · iexists _; iexact HS0
    isplitl [HT0]; · iexact HT0
    isplitl [HT1]; · iexact HT1
    iexact HT2

set_option maxHeartbeats 1000000 in
noncomputable def kernelRun0_C (c : Dev nD) (i : grid0.Coords) (arg6 : Memref sig .tc .vmem S2080x1024 .bf16) (harg6 : arg6.IsWhole) (arg7 : Memref sig .tc .vmem S1x1024x1024 .f32) (harg7 : arg7.IsWhole) (arg8 : Memref sig .tc .vmem S2080x1 .f32) (harg8 : arg8.IsWhole) (arg9 : Memref sig .tc .vmem S2080x1024 .f32) (harg9 : arg9.IsWhole) (arg10 : Memref sig .tc .vmem S1024x1024 .bf16) (harg10 : arg10.IsWhole)
    (x0 : Vec F S2080x1024 .bf16) (x1 : Vec F S1x1024x1024 .f32) (x2 : Vec F S2080x1 .f32) (xo3 : Vec F S2080x1024 .f32) (xt0 : TbBuf0 (F := F) c tbM0_0) (xt1 : TbBuf0 (F := F) c tbM0_1) (xt2 : TbBuf0 (F := F) c tbM0_2) (hc0 : ¬cond0_0 i (tbM0_2.view.readAt (Elt F) (Rect.unit (s := S4) (k0_off1 i) S1.size (k0_off1_inb i)).toLoadRect xt2 (Shape.Idx.first (numel1_S1.symm ▸ Nat.one_pos)))) (hc1 : cond0_1 i (tbM0_2.view.readAt (Elt F) (Rect.unit (s := S4) (k0_off1 i) S1.size (k0_off1_inb i)).toLoadRect xt2 (Shape.Idx.first (numel1_S1.symm ▸ Nat.one_pos)))) :
    Σ' (L3 : List (View.Piece (Elt F) S2080x1024 .f32)), { LT0 : List (View.Piece (Elt F) S1024x1024 .bf16) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xo3 ∗ (∃ d, owns (c : Thread nD τ) arg10 fullShare d) ∗ tbPt0 c tbM0_0 xt0 ∗ tbPt0 c tbM0_1 xt1 ∗ tbPt0 c tbM0_2 xt2
            ∗ (iprop(owns (c : Thread nD τ) arg6 fullShare x0 ∗ owns (c : Thread nD τ) arg7 fullShare x1 ∗ owns (c : Thread nD τ) arg8 fullShare x2 ∗ (∃ f, arg9.view.loc (c : Thread nD τ) ↦[arg9.view.set]{fullShare} arg9.view.writes (Elt F) f L3) ∗ (∃ f, arg10.view.loc (c : Thread nD τ) ↦[arg10.view.set]{fullShare} arg10.view.writes (Elt F) f LT0) ∗ tbPt0 c tbM0_0 xt0 ∗ tbPt0 c tbM0_1 xt1 ∗ tbPt0 c tbM0_2 xt2) -∗ K ⟨⟩))
          ⊢ wp frame (wpE (defs₀ (F := F)) Variants.none c none) E (cc0_ffn_down i tbM0_0 htbM0_0 tbM0_1 htbM0_1 tbM0_2 htbM0_2 arg6 harg6 arg7 harg7 arg8 harg8 arg9 harg9 arg10 harg10) K } := by
  refine ⟨?_, ?_, fun E K => ?run⟩
  case run =>
    simp only [cc0_ffn_down_eq_skeleton]; unfold cc0_ffn_down_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, HT0, HT1, HT2, Hk⟩
    obtain rfl := harg6.eq_unread hf0; obtain rfl := harg7.eq_unread hf1; obtain rfl := harg8.eq_unread hf2; obtain rfl := harg9.eq_unread hf3
    sl_exec (disch := first | sl_exact hc0 | sl_exact hc1)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]; · iexists _; iexact H3
    isplitl [HS0]; · iexists _; iexact HS0
    isplitl [HT0]; · iexact HT0
    isplitl [HT1]; · iexact HT1
    iexact HT2

theorem cover0_A_3 (c : Dev nD) (i : grid0.Coords) (arg6 : Memref sig .tc .vmem S2080x1024 .bf16) (harg6 : arg6.IsWhole) (arg7 : Memref sig .tc .vmem S1x1024x1024 .f32) (harg7 : arg7.IsWhole) (arg8 : Memref sig .tc .vmem S2080x1 .f32) (harg8 : arg8.IsWhole) (arg9 : Memref sig .tc .vmem S2080x1024 .f32) (harg9 : arg9.IsWhole) (arg10 : Memref sig .tc .vmem S1024x1024 .bf16) (harg10 : arg10.IsWhole)
    (x0 : Vec F S2080x1024 .bf16) (x1 : Vec F S1x1024x1024 .f32) (x2 : Vec F S2080x1 .f32) (xt0 : TbBuf0 (F := F) c tbM0_0) (xt1 : TbBuf0 (F := F) c tbM0_1) (xt2 : TbBuf0 (F := F) c tbM0_2) (hc0 : cond0_0 i (tbM0_2.view.readAt (Elt F) (Rect.unit (s := S4) (k0_off1 i) S1.size (k0_off1_inb i)).toLoadRect xt2 (Shape.Idx.first (numel1_S1.symm ▸ Nat.one_pos)))) (hc1 : ¬cond0_1 i (tbM0_2.view.readAt (Elt F) (Rect.unit (s := S4) (k0_off1 i) S1.size (k0_off1_inb i)).toLoadRect xt2 (Shape.Idx.first (numel1_S1.symm ▸ Nat.one_pos)))) (y : S2080x1024.Idx) :
    ∃ pc ∈ (kernelRun0_A c i arg6 harg6 arg7 harg7 arg8 harg8 arg9 harg9 arg10 harg10 x0 x1 x2 xt0 xt1 xt2 hc0 hc1).1, y ∈ pc.1.set :=
  View.cover_of_tiledBy (kernelRun0_A c i arg6 harg6 arg7 harg7 arg8 harg8 arg9 harg9 arg10 harg10 x0 x1 x2 xt0 xt1 xt2 hc0 hc1).1 ![416, 1024] (by sl_kernel_rfl) y

def out0_A_3 (c : Dev nD) (i : grid0.Coords) (arg6 : Memref sig .tc .vmem S2080x1024 .bf16) (harg6 : arg6.IsWhole) (arg7 : Memref sig .tc .vmem S1x1024x1024 .f32) (harg7 : arg7.IsWhole) (arg8 : Memref sig .tc .vmem S2080x1 .f32) (harg8 : arg8.IsWhole) (arg9 : Memref sig .tc .vmem S2080x1024 .f32) (harg9 : arg9.IsWhole) (arg10 : Memref sig .tc .vmem S1024x1024 .bf16) (harg10 : arg10.IsWhole)
    (x0 : Vec F S2080x1024 .bf16) (x1 : Vec F S1x1024x1024 .f32) (x2 : Vec F S2080x1 .f32) (xt0 : TbBuf0 (F := F) c tbM0_0) (xt1 : TbBuf0 (F := F) c tbM0_1) (xt2 : TbBuf0 (F := F) c tbM0_2) (hc0 : cond0_0 i (tbM0_2.view.readAt (Elt F) (Rect.unit (s := S4) (k0_off1 i) S1.size (k0_off1_inb i)).toLoadRect xt2 (Shape.Idx.first (numel1_S1.symm ▸ Nat.one_pos)))) (hc1 : ¬cond0_1 i (tbM0_2.view.readAt (Elt F) (Rect.unit (s := S4) (k0_off1 i) S1.size (k0_off1_inb i)).toLoadRect xt2 (Shape.Idx.first (numel1_S1.symm ▸ Nat.one_pos)))) : Vec F S2080x1024 .f32 :=
  VO0_3.read (Elt F) (VO0_3.writes (Elt F) VO0_3.junk (kernelRun0_A c i arg6 harg6 arg7 harg7 arg8 harg8 arg9 harg9 arg10 harg10 x0 x1 x2 xt0 xt1 xt2 hc0 hc1).1)

theorem cover0_B_3 (c : Dev nD) (i : grid0.Coords) (arg6 : Memref sig .tc .vmem S2080x1024 .bf16) (harg6 : arg6.IsWhole) (arg7 : Memref sig .tc .vmem S1x1024x1024 .f32) (harg7 : arg7.IsWhole) (arg8 : Memref sig .tc .vmem S2080x1 .f32) (harg8 : arg8.IsWhole) (arg9 : Memref sig .tc .vmem S2080x1024 .f32) (harg9 : arg9.IsWhole) (arg10 : Memref sig .tc .vmem S1024x1024 .bf16) (harg10 : arg10.IsWhole)
    (x0 : Vec F S2080x1024 .bf16) (x1 : Vec F S1x1024x1024 .f32) (x2 : Vec F S2080x1 .f32) (xo3 : Vec F S2080x1024 .f32) (xt0 : TbBuf0 (F := F) c tbM0_0) (xt1 : TbBuf0 (F := F) c tbM0_1) (xt2 : TbBuf0 (F := F) c tbM0_2) (hc0 : ¬cond0_0 i (tbM0_2.view.readAt (Elt F) (Rect.unit (s := S4) (k0_off1 i) S1.size (k0_off1_inb i)).toLoadRect xt2 (Shape.Idx.first (numel1_S1.symm ▸ Nat.one_pos)))) (hc1 : ¬cond0_1 i (tbM0_2.view.readAt (Elt F) (Rect.unit (s := S4) (k0_off1 i) S1.size (k0_off1_inb i)).toLoadRect xt2 (Shape.Idx.first (numel1_S1.symm ▸ Nat.one_pos)))) (y : S2080x1024.Idx) :
    ∃ pc ∈ (kernelRun0_B c i arg6 harg6 arg7 harg7 arg8 harg8 arg9 harg9 arg10 harg10 x0 x1 x2 xo3 xt0 xt1 xt2 hc0 hc1).1, y ∈ pc.1.set :=
  View.cover_of_tiledL (kernelRun0_B c i arg6 harg6 arg7 harg7 arg8 harg8 arg9 harg9 arg10 harg10 x0 x1 x2 xo3 xt0 xt1 xt2 hc0 hc1).1 S416x1024.size (by sl_kernel_rfl) y

def out0_B_3 (c : Dev nD) (i : grid0.Coords) (arg6 : Memref sig .tc .vmem S2080x1024 .bf16) (harg6 : arg6.IsWhole) (arg7 : Memref sig .tc .vmem S1x1024x1024 .f32) (harg7 : arg7.IsWhole) (arg8 : Memref sig .tc .vmem S2080x1 .f32) (harg8 : arg8.IsWhole) (arg9 : Memref sig .tc .vmem S2080x1024 .f32) (harg9 : arg9.IsWhole) (arg10 : Memref sig .tc .vmem S1024x1024 .bf16) (harg10 : arg10.IsWhole)
    (x0 : Vec F S2080x1024 .bf16) (x1 : Vec F S1x1024x1024 .f32) (x2 : Vec F S2080x1 .f32) (xo3 : Vec F S2080x1024 .f32) (xt0 : TbBuf0 (F := F) c tbM0_0) (xt1 : TbBuf0 (F := F) c tbM0_1) (xt2 : TbBuf0 (F := F) c tbM0_2) (hc0 : ¬cond0_0 i (tbM0_2.view.readAt (Elt F) (Rect.unit (s := S4) (k0_off1 i) S1.size (k0_off1_inb i)).toLoadRect xt2 (Shape.Idx.first (numel1_S1.symm ▸ Nat.one_pos)))) (hc1 : ¬cond0_1 i (tbM0_2.view.readAt (Elt F) (Rect.unit (s := S4) (k0_off1 i) S1.size (k0_off1_inb i)).toLoadRect xt2 (Shape.Idx.first (numel1_S1.symm ▸ Nat.one_pos)))) : Vec F S2080x1024 .f32 :=
  VO0_3.read (Elt F) (VO0_3.writes (Elt F) VO0_3.junk (kernelRun0_B c i arg6 harg6 arg7 harg7 arg8 harg8 arg9 harg9 arg10 harg10 x0 x1 x2 xo3 xt0 xt1 xt2 hc0 hc1).1)

theorem cover0_C_3 (c : Dev nD) (i : grid0.Coords) (arg6 : Memref sig .tc .vmem S2080x1024 .bf16) (harg6 : arg6.IsWhole) (arg7 : Memref sig .tc .vmem S1x1024x1024 .f32) (harg7 : arg7.IsWhole) (arg8 : Memref sig .tc .vmem S2080x1 .f32) (harg8 : arg8.IsWhole) (arg9 : Memref sig .tc .vmem S2080x1024 .f32) (harg9 : arg9.IsWhole) (arg10 : Memref sig .tc .vmem S1024x1024 .bf16) (harg10 : arg10.IsWhole)
    (x0 : Vec F S2080x1024 .bf16) (x1 : Vec F S1x1024x1024 .f32) (x2 : Vec F S2080x1 .f32) (xo3 : Vec F S2080x1024 .f32) (xt0 : TbBuf0 (F := F) c tbM0_0) (xt1 : TbBuf0 (F := F) c tbM0_1) (xt2 : TbBuf0 (F := F) c tbM0_2) (hc0 : ¬cond0_0 i (tbM0_2.view.readAt (Elt F) (Rect.unit (s := S4) (k0_off1 i) S1.size (k0_off1_inb i)).toLoadRect xt2 (Shape.Idx.first (numel1_S1.symm ▸ Nat.one_pos)))) (hc1 : cond0_1 i (tbM0_2.view.readAt (Elt F) (Rect.unit (s := S4) (k0_off1 i) S1.size (k0_off1_inb i)).toLoadRect xt2 (Shape.Idx.first (numel1_S1.symm ▸ Nat.one_pos)))) (y : S2080x1024.Idx) :
    ∃ pc ∈ (kernelRun0_C c i arg6 harg6 arg7 harg7 arg8 harg8 arg9 harg9 arg10 harg10 x0 x1 x2 xo3 xt0 xt1 xt2 hc0 hc1).1, y ∈ pc.1.set :=
  View.cover_of_tiledBy (kernelRun0_C c i arg6 harg6 arg7 harg7 arg8 harg8 arg9 harg9 arg10 harg10 x0 x1 x2 xo3 xt0 xt1 xt2 hc0 hc1).1 ![416, 1024] (by sl_kernel_rfl) y

def out0_C_3 (c : Dev nD) (i : grid0.Coords) (arg6 : Memref sig .tc .vmem S2080x1024 .bf16) (harg6 : arg6.IsWhole) (arg7 : Memref sig .tc .vmem S1x1024x1024 .f32) (harg7 : arg7.IsWhole) (arg8 : Memref sig .tc .vmem S2080x1 .f32) (harg8 : arg8.IsWhole) (arg9 : Memref sig .tc .vmem S2080x1024 .f32) (harg9 : arg9.IsWhole) (arg10 : Memref sig .tc .vmem S1024x1024 .bf16) (harg10 : arg10.IsWhole)
    (x0 : Vec F S2080x1024 .bf16) (x1 : Vec F S1x1024x1024 .f32) (x2 : Vec F S2080x1 .f32) (xo3 : Vec F S2080x1024 .f32) (xt0 : TbBuf0 (F := F) c tbM0_0) (xt1 : TbBuf0 (F := F) c tbM0_1) (xt2 : TbBuf0 (F := F) c tbM0_2) (hc0 : ¬cond0_0 i (tbM0_2.view.readAt (Elt F) (Rect.unit (s := S4) (k0_off1 i) S1.size (k0_off1_inb i)).toLoadRect xt2 (Shape.Idx.first (numel1_S1.symm ▸ Nat.one_pos)))) (hc1 : cond0_1 i (tbM0_2.view.readAt (Elt F) (Rect.unit (s := S4) (k0_off1 i) S1.size (k0_off1_inb i)).toLoadRect xt2 (Shape.Idx.first (numel1_S1.symm ▸ Nat.one_pos)))) : Vec F S2080x1024 .f32 :=
  VO0_3.read (Elt F) (VO0_3.writes (Elt F) VO0_3.junk (kernelRun0_C c i arg6 harg6 arg7 harg7 arg8 harg8 arg9 harg9 arg10 harg10 x0 x1 x2 xo3 xt0 xt1 xt2 hc0 hc1).1)

def outsAt0 (hO : Ok m) (hR : Reg m hO) (c : Dev nD) : (n : ℕ) → n < (cfgM m hO).N → Vec F S2080x1024 .f32
  | 0, hn => out0_A_3 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) scM0_0 (Memref.isWhole_whole _) (iblk m hO c 0 ⟨0, hn⟩) (iblk m hO c 1 ⟨0, hn⟩) (iblk m hO c 2 ⟨0, hn⟩) (tbl m 0) (tbl m 1) (tbl m 2) ((hR.first ⟨0, hn⟩).mpr (Nat.zero_mod _)) (fun h => (fun h => by (try dsimp only at h); omega) ((hR.last ⟨0, hn⟩).mp h))
  | n + 1, hn =>
    if h0 : (n + 1) % 14 = 0 then
      if h1 : (n + 1) % 14 = 13 then
        False.elim (by have hN : n + 1 < 224 := lt_of_lt_of_eq hn (show (cfgM m hO).N = 224 from N_0); omega)
      else
        out0_A_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) scM0_0 (Memref.isWhole_whole _) (iblk m hO c 0 ⟨n + 1, hn⟩) (iblk m hO c 1 ⟨n + 1, hn⟩) (iblk m hO c 2 ⟨n + 1, hn⟩) (tbl m 0) (tbl m 1) (tbl m 2) ((hR.first ⟨n + 1, hn⟩).mpr h0) (fun h => h1 ((hR.last ⟨n + 1, hn⟩).mp h))
    else
      if h1 : (n + 1) % 14 = 13 then
        out0_C_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) scM0_0 (Memref.isWhole_whole _) (iblk m hO c 0 ⟨n + 1, hn⟩) (iblk m hO c 1 ⟨n + 1, hn⟩) (iblk m hO c 2 ⟨n + 1, hn⟩) (outsAt0 hO hR c n (Nat.lt_of_succ_lt hn)) (tbl m 0) (tbl m 1) (tbl m 2) (fun h => h0 ((hR.first ⟨n + 1, hn⟩).mp h)) ((hR.last ⟨n + 1, hn⟩).mpr h1)
      else
        out0_B_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) scM0_0 (Memref.isWhole_whole _) (iblk m hO c 0 ⟨n + 1, hn⟩) (iblk m hO c 1 ⟨n + 1, hn⟩) (iblk m hO c 2 ⟨n + 1, hn⟩) (outsAt0 hO hR c n (Nat.lt_of_succ_lt hn)) (tbl m 0) (tbl m 1) (tbl m 2) (fun h => h0 ((hR.first ⟨n + 1, hn⟩).mp h)) (fun h => h1 ((hR.last ⟨n + 1, hn⟩).mp h))

theorem outsAt0_A (hO : Ok m) (hR : Reg m hO) (c : Dev nD) (t : Fin (cfgM m hO).N) (h0 : t.val % 14 = 0) (h1 : ¬t.val % 14 = 13) :
    outsAt0 m hO hR c t.val t.isLt = out0_A_3 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) (tbl m 0) (tbl m 1) (tbl m 2) ((hR.first t).mpr h0) (fun h => h1 ((hR.last t).mp h)) := by
  obtain ⟨n, hn⟩ := t
  cases n with
  | zero => exact rfl
  | succ n => exact (dif_pos h0).trans ((dif_neg h1).trans rfl)

theorem outsAt0_B (hO : Ok m) (hR : Reg m hO) (c : Dev nD) (t : Fin (cfgM m hO).N) (h0 : ¬t.val % 14 = 0) (h1 : ¬t.val % 14 = 13) :
    outsAt0 m hO hR c t.val t.isLt = out0_B_3 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) (outsAt0 m hO hR c (t.val - 1) (Nat.lt_of_le_of_lt (Nat.sub_le _ _) t.isLt)) (tbl m 0) (tbl m 1) (tbl m 2) (fun h => h0 ((hR.first t).mp h)) (fun h => h1 ((hR.last t).mp h)) := by
  obtain ⟨n, hn⟩ := t
  cases n with
  | zero => exact (by exfalso; (try dsimp only at h0); exact absurd (Nat.zero_mod _) h0)
  | succ n => exact (dif_neg h0).trans ((dif_neg h1).trans rfl)

theorem outsAt0_C (hO : Ok m) (hR : Reg m hO) (c : Dev nD) (t : Fin (cfgM m hO).N) (h0 : ¬t.val % 14 = 0) (h1 : t.val % 14 = 13) :
    outsAt0 m hO hR c t.val t.isLt = out0_C_3 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) (outsAt0 m hO hR c (t.val - 1) (Nat.lt_of_le_of_lt (Nat.sub_le _ _) t.isLt)) (tbl m 0) (tbl m 1) (tbl m 2) (fun h => h0 ((hR.first t).mp h)) ((hR.last t).mpr h1) := by
  obtain ⟨n, hn⟩ := t
  cases n with
  | zero => exact (by exfalso; (try dsimp only at h0); exact absurd (Nat.zero_mod _) h0)
  | succ n => exact (dif_neg h0).trans ((dif_pos h1).trans rfl)

def dats (hO : Ok m) (hR : Reg m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO hR c t.val t.isLt)
  Φ _ := iprop(Pipeline.ΦA spec0 c ∗ Pipeline.ΦT pre0 (tbl m) c)
  q _ := fullShare
  owed _ := 0

theorem A_eq (hO : Ok m) (hR : Reg m hO) (c : Dev nD) (w : Fin (cfgM m hO).W) : (dats m hO hR 0 c).A w = V m c (Pipeline.arrRef spec0 w) := by
  dsimp only [dats]

theorem after0_0 (hO : Ok m) (hR : Reg m hO) (c : Dev nD) (t : Fin (cfgM m hO).N) : (dats m hO hR 0 c).after 0 t = iblk m hO c 0 t := by dsimp only [dats]; try rfl
theorem after0_1 (hO : Ok m) (hR : Reg m hO) (c : Dev nD) (t : Fin (cfgM m hO).N) : (dats m hO hR 0 c).after 1 t = iblk m hO c 1 t := by dsimp only [dats]; try rfl
theorem after0_2 (hO : Ok m) (hR : Reg m hO) (c : Dev nD) (t : Fin (cfgM m hO).N) : (dats m hO hR 0 c).after 2 t = iblk m hO c 2 t := by dsimp only [dats]; try rfl
theorem after0_3 (hO : Ok m) (hR : Reg m hO) (c : Dev nD) (t : Fin (cfgM m hO).N) : (dats m hO hR 0 c).after 3 t = (outsAt0 m hO hR c t.val t.isLt) := by dsimp only [dats]; try rfl

theorem before0_0 (hO : Ok m) (hR : Reg m hO) (c : Dev nD) (t : Fin (cfgM m hO).N) (d) : (dats m hO hR 0 c).before 0 t d = iblk m hO c 0 t :=
  before0_0_of m hO (dats m hO hR 0 c) (A_eq m hO hR c 0) (after0_0 m hO hR c) t d
theorem before0_1 (hO : Ok m) (hR : Reg m hO) (c : Dev nD) (t : Fin (cfgM m hO).N) (d) : (dats m hO hR 0 c).before 1 t d = iblk m hO c 1 t :=
  before0_1_of m hO (dats m hO hR 0 c) (A_eq m hO hR c 1) (after0_1 m hO hR c) t d
theorem before0_2 (hO : Ok m) (hR : Reg m hO) (c : Dev nD) (t : Fin (cfgM m hO).N) (d) : (dats m hO hR 0 c).before 2 t d = iblk m hO c 2 t :=
  before0_2_of m hO (dats m hO hR 0 c) (A_eq m hO hR c 2) (after0_2 m hO hR c) t d
theorem before0_3_B (hO : Ok m) (hR : Reg m hO) (c : Dev nD) (t : Fin (cfgM m hO).N) (h0 : ¬t.val % 14 = 0) (h1 : ¬t.val % 14 = 13) (d) :
    (dats m hO hR 0 c).before 3 t d = (outsAt0 m hO hR c (t.val - 1) (Nat.lt_of_le_of_lt (Nat.sub_le _ _) t.isLt)) := by
  have hN : t.val < 224 := lt_of_lt_of_eq t.isLt (show (cfgM m hO).N = 224 from N_0)
  rw [Dat.before_out_kept _ 3 rfl t (by omega) (Bool.eq_false_iff.mpr fun h => by have := (hR.flush _).mp h; dsimp only at this; omega)
    (fun _ => rfl) (fun _ _ => rfl)]
  dsimp only [dats]; try rfl
theorem before0_3_C (hO : Ok m) (hR : Reg m hO) (c : Dev nD) (t : Fin (cfgM m hO).N) (h0 : ¬t.val % 14 = 0) (h1 : t.val % 14 = 13) (d) :
    (dats m hO hR 0 c).before 3 t d = (outsAt0 m hO hR c (t.val - 1) (Nat.lt_of_le_of_lt (Nat.sub_le _ _) t.isLt)) := by
  have hN : t.val < 224 := lt_of_lt_of_eq t.isLt (show (cfgM m hO).N = 224 from N_0)
  rw [Dat.before_out_kept _ 3 rfl t (by omega) (Bool.eq_false_iff.mpr fun h => by have := (hR.flush _).mp h; dsimp only at this; omega)
    (fun _ => rfl) (fun _ _ => rfl)]
  dsimp only [dats]; try rfl

def bodyPre (hO : Ok m) (hR : Reg m hO) (c : Dev nD) (t : Fin (cfgM m hO).N) : sProp 𝕄 :=
  iprop((dats m hO hR 0 c).Φ t.castSucc ∗ (dats m hO hR 0 c).owesAt () t.castSucc
    ∗ (∃ d, owns (c : Thread nD τ) (ms0_0 m hO t) fullShare ((dats m hO hR 0 c).before 0 t d))
    ∗ (∃ d, owns (c : Thread nD τ) (ms0_1 m hO t) fullShare ((dats m hO hR 0 c).before 1 t d))
    ∗ (∃ d, owns (c : Thread nD τ) (ms0_2 m hO t) fullShare ((dats m hO hR 0 c).before 2 t d))
    ∗ (∃ d, owns (c : Thread nD τ) (ms0_3 m hO t) fullShare ((dats m hO hR 0 c).before 3 t d)))

def bodyPost (hO : Ok m) (hR : Reg m hO) (c : Dev nD) (t : Fin (cfgM m hO).N) : sProp 𝕄 :=
  iprop((dats m hO hR 0 c).Φ t.succ ∗ (dats m hO hR 0 c).owesAt () t.succ
    ∗ owns (c : Thread nD τ) (ms0_0 m hO t) fullShare ((dats m hO hR 0 c).after 0 t)
    ∗ owns (c : Thread nD τ) (ms0_1 m hO t) fullShare ((dats m hO hR 0 c).after 1 t)
    ∗ owns (c : Thread nD τ) (ms0_2 m hO t) fullShare ((dats m hO hR 0 c).after 2 t)
    ∗ owns (c : Thread nD τ) (ms0_3 m hO t) fullShare ((dats m hO hR 0 c).after 3 t))

set_option maxHeartbeats 1200000 in
theorem sound_body (hO : Ok m) (hR : Reg m hO) (c : Dev nD) (t : Fin (cfgM m hO).N) :
    bodyPre m hO hR c t ⊢ wp frame (wpE (defs₀ (F := F)) Variants.none c none) Set.univ (bodyAt0 (adm m hO) t) (fun _ => bodyPost m hO hR c t) := by
  unfold bodyPre bodyPost bodyAt0
  simp only [before0_0, before0_1, before0_2]
  rw [show (dats m hO hR 0 c).Φ t.succ = (dats m hO hR 0 c).Φ t.castSucc from rfl,
    show (dats m hO hR 0 c).owesAt () t.succ = (dats m hO hR 0 c).owesAt () t.castSucc from rfl,
    after0_0, after0_1, after0_2, after0_3]
  rw [show (dats m hO hR 0 c).Φ t.castSucc = iprop(Pipeline.ΦA spec0 c ∗ Pipeline.ΦT pre0 (tbl m) c) from rfl, PhiT0_eq, PhiA0_eq]
  have hN : t.val < 224 := lt_of_lt_of_eq t.isLt (show (cfgM m hO).N = 224 from N_0)
  by_cases h0 : t.val % 14 = 0
  · by_cases h1 : t.val % 14 = 13
    · exfalso; omega
    · rw [outsAt0_A m hO hR c t h0 h1]
      unfold out0_A_3
      iintro ⟨⟨⟨HS0, Hg⟩, ⟨HT0, HT1, HT2⟩⟩, Ho, ⟨%d0, H0⟩, ⟨%d1, H1⟩, ⟨%d2, H2⟩, ⟨%d3, H3⟩⟩
      iapply ((kernelRun0_A c (grid0.coords t) _ _ _ _ _ _ _ _ _ _ (iblk m hO c 0 t) (iblk m hO c 1 t) (iblk m hO c 2 t) (tbl m 0) (tbl m 1) (tbl m 2) ((hR.first t).mpr h0) (fun h => h1 ((hR.last t).mp h))).2.2 Set.univ _)
      isplitl [H0]; · iexact H0
      isplitl [H1]; · iexact H1
      isplitl [H2]; · iexact H2
      isplitl [H3]; · iexists _; iexact H3
      isplitl [HS0]; · iexact HS0
      isplitl [HT0]; · iexact HT0
      isplitl [HT1]; · iexact HT1
      isplitl [HT2]; · iexact HT2
      iintro ⟨H0, H1, H2, ⟨%e3, H3⟩, ⟨%fT0, HS0⟩, HT0, HT1, HT2⟩
      isplitl [HS0 Hg HT0 HT1 HT2]
      · isplitl [HS0 Hg]
        · isplitl [HS0]
          · iexists _; unfold owns; iexists _; isplitr
            swap; · iexact HS0
            ipureintro; rfl
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _)
  · by_cases h1 : t.val % 14 = 13
    · rw [outsAt0_C m hO hR c t h0 h1]
      simp only [before0_3_C m hO hR c t h0 h1]
      unfold out0_C_3
      iintro ⟨⟨⟨HS0, Hg⟩, ⟨HT0, HT1, HT2⟩⟩, Ho, ⟨%d0, H0⟩, ⟨%d1, H1⟩, ⟨%d2, H2⟩, ⟨%d3, H3⟩⟩
      iapply ((kernelRun0_C c (grid0.coords t) _ _ _ _ _ _ _ _ _ _ (iblk m hO c 0 t) (iblk m hO c 1 t) (iblk m hO c 2 t) _ (tbl m 0) (tbl m 1) (tbl m 2) (fun h => h0 ((hR.first t).mp h)) ((hR.last t).mpr h1)).2.2 Set.univ _)
      isplitl [H0]; · iexact H0
      isplitl [H1]; · iexact H1
      isplitl [H2]; · iexact H2
      isplitl [H3]; · iexact H3
      isplitl [HS0]; · iexact HS0
      isplitl [HT0]; · iexact HT0
      isplitl [HT1]; · iexact HT1
      isplitl [HT2]; · iexact HT2
      iintro ⟨H0, H1, H2, ⟨%e3, H3⟩, ⟨%fT0, HS0⟩, HT0, HT1, HT2⟩
      isplitl [HS0 Hg HT0 HT1 HT2]
      · isplitl [HS0 Hg]
        · isplitl [HS0]
          · iexists _; unfold owns; iexists _; isplitr
            swap; · iexact HS0
            ipureintro; rfl
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · rw [outsAt0_B m hO hR c t h0 h1]
      simp only [before0_3_B m hO hR c t h0 h1]
      unfold out0_B_3
      iintro ⟨⟨⟨HS0, Hg⟩, ⟨HT0, HT1, HT2⟩⟩, Ho, ⟨%d0, H0⟩, ⟨%d1, H1⟩, ⟨%d2, H2⟩, ⟨%d3, H3⟩⟩
      iapply ((kernelRun0_B c (grid0.coords t) _ _ _ _ _ _ _ _ _ _ (iblk m hO c 0 t) (iblk m hO c 1 t) (iblk m hO c 2 t) _ (tbl m 0) (tbl m 1) (tbl m 2) (fun h => h0 ((hR.first t).mp h)) (fun h => h1 ((hR.last t).mp h))).2.2 Set.univ _)
      isplitl [H0]; · iexact H0
      isplitl [H1]; · iexact H1
      isplitl [H2]; · iexact H2
      isplitl [H3]; · iexact H3
      isplitl [HS0]; · iexact HS0
      isplitl [HT0]; · iexact HT0
      isplitl [HT1]; · iexact HT1
      isplitl [HT2]; · iexact HT2
      iintro ⟨H0, H1, H2, ⟨%e3, H3⟩, ⟨%fT0, HS0⟩, HT0, HT1, HT2⟩
      isplitl [HS0 Hg HT0 HT1 HT2]
      · isplitl [HS0 Hg]
        · isplitl [HS0]
          · iexists _; unfold owns; iexists _; isplitr
            swap; · iexact HS0
            ipureintro; rfl
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hR : Reg m hO) (c : Dev nD) : BodyObligation (dats (F := F) m hO hR 0 c) (defs₀ (F := F)) Variants.none () Set.univ := fun t => by
  rw [bigSep_W0, bigSep_W0, defs₀_row m hO]
  exact triple_restated (sound_body m hO hR c t) rfl .rfl fun _ => .rfl
set_option backward.isDefEq.respectTransparency.types false in
set_option maxHeartbeats 800000 in
theorem run_main_quiescent (hO : Ok m) (hR : Reg m hO) : θ_run defs (onTc (τ := τ) (main (F := F))) (s₀ m ρ) (fun r => (Pipeline.FramePost (Pipeline.pin pcfgs fun _ => adm m hO) (dats m hO hR) 0 (Pipeline.afterTail pcfgs (fun _ => adm m hO) (dats m hO hR) 0 (V0 m) [hostOps1])) r ∧ r.2.sem = fun _ => 0) :=
  Pipeline.θ_run_frameP_around (Q' := _) pcfgs (fun _ => adm m hO) (dats m hO hR) (0 : Fin 1) launch0 defs₀ Variants.none m ρ main
    (hbody := fun c => (body_obligation m hO hR c).loose) (hshare := fun c => (dats m hO hR 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO hR) (hpf := V_pre m) (hΦ := fun _ _ => rfl)

theorem run_main (hO : Ok m) (hR : Reg m hO) : θ_run defs (onTc (τ := τ) (main (F := F))) (s₀ m ρ) (Pipeline.FramePost (Pipeline.pin pcfgs fun _ => adm m hO) (dats m hO hR) 0 (Pipeline.afterTail pcfgs (fun _ => adm m hO) (dats m hO hR) 0 (V0 m) [hostOps1])) :=
  (θ_run defs _ _).mono (fun _ h => h.1) (run_main_quiescent m ρ hO hR)

theorem unchanged (hO : Ok m) (hR : Reg m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO hR) (A_eq m hO hR) (run_main m ρ hO hR)

theorem frame (hO : Ok m) (hR : Reg m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO hR) ((θ_run defs _ _).mono (fun _ h => h.2) (run_main_quiescent m ρ hO hR))

end Cert.Down

end
-- ==== Proof.Down.Tables.lean ====
module

public import proofs.«01_k».proof.Proof.Down.Run
public import Idealize.ShloMosaic.PureOps.Ideal
public import Idealize.ShloMosaic.Lib.Pointwise
public import Idealize.ShloMosaic.Lib.Pipeline.ValueKit
public import Idealize.ShloMosaic.Lib.Claim
public import Idealize.ShloMosaic.Lib.WordCmp

@[expose] public section

set_option maxRecDepth 16384

noncomputable section

/-! # The block tables of the feed-forward call's second half: block `s` takes rows `s`, expert 0, ten units -/

namespace Cert.Down

open Cert.Kernel3Ideal Cert.Kernel3Ideal.Gen Idealize.ShloMosaic Idealize.ShloMosaic.TcCoe Idealize.SL.Sem

variable {F : FTy → Type} [FloatOps F]

/-- The three tables as the host writes them. -/
def tables : (j : Fin 3) → ((pre0.ref j).ty.Contents (Elt F)) := fun
  | 0 => (iotaInDim S4 32 0 : IVec S4 32)
  | 1 => broadcastInDim S4 ![] bcast_S_S4 (constantI S_ 32 0#32)
  | 2 => broadcastInDim S4 ![] bcast_S_S4 (constantI S_ 32 10#32)
  | ⟨_ + 3, h⟩ => absurd h (Nat.not_lt.2 (Nat.le_add_left _ _))

theorem tbl_eq (m : (ℓ : Loc nD τ sig) → Buf (Elt F) ℓ) : tbl m = tables := by
  funext j
  fin_cases j
  all_goals
    show V m 0 _ = _
    unfold V V0
    simp only [hostOps0, List.flatten_cons, List.flatten_nil, List.append_nil, List.cons_append, List.nil_append]
    after_results
    try rfl

theorem ok_tables : ok0 (F := Ideal) tables := by
  decide +kernel

theorem ok (m : (ℓ : Loc nD τ sig) → Buf (Elt Ideal) ℓ) : Ok m := by
  unfold Ok; rw [tbl_eq]; exact ok_tables

theorem word (i : grid0.Coords) :
    (tbM0_2.view.readAt (Elt F) (Rect.unit (s := S4) (k0_off1 i) S1.size (k0_off1_inb i)).toLoadRect (tables 2) (Shape.Idx.first (numel1_S1.symm ▸ Nat.one_pos))) = 10#32 := rfl

theorem live_first : ∀ k : Fin 14, (Scalar.cmpi .ne (Scalar.extui (Scalar.andi (Scalar.cmpi .sgt 10#32 0#32) (Scalar.cmpi .eq (BitVec.ofNat 32 k.val) 0#32))) 0#32) = 1#1 ↔ k.val = 0 := by
  decide +kernel

theorem live_last : ∀ k : Fin 14, (Scalar.cmpi .ne (Scalar.extui (Scalar.andi (Scalar.cmpi .sgt 10#32 0#32) (Scalar.cmpi .eq (BitVec.ofNat 32 k.val) 13#32))) 0#32) = 1#1 ↔ k.val = 13 := by
  decide +kernel

theorem coord (t : Fin grid0.N) : (grid0.coords t 2).val = t.val % 14 := by
  have e : (grid0.coords t 2).val = t.val / 1 % 14 := Pipeline.Grid.coords_val t 2 (by decide) rfl
  rw [e, Nat.div_one]

/-- The output's tile is written back at the last of its fourteen steps, the tables being the host's. -/
theorem flush_tables : ∀ t : Fin grid0.N, ((cfg0 (F := Ideal) ⟨tables, ok_tables⟩).win 3).flush t = true ↔ t.val % 14 = 13 := by
  decide +kernel

theorem reg_of (m : (ℓ : Loc nD τ sig) → Buf (Elt F) ℓ) (h : ok0 (F := F) tables) (hO : Ok m)
    (hf : ∀ t : Fin grid0.N, ((cfg0 (F := F) ⟨tables, h⟩).win 3).flush t = true ↔ t.val % 14 = 13) : Reg m hO where
  first t := by
    rw [tbl_eq, word]
    exact (live_first (grid0.coords t 2)).trans (by rw [coord])
  last t := by
    rw [tbl_eq, word]
    exact (live_last (grid0.coords t 2)).trans (by rw [coord])
  flush := by
    have e : adm m hO = ⟨tables, h⟩ := Subtype.ext (tbl_eq m)
    unfold cfgM
    rw [e]
    exact hf

theorem reg (m : (ℓ : Loc nD τ sig) → Buf (Elt Ideal) ℓ) : Reg m (ok m) := reg_of m ok_tables (ok m) flush_tables

end Cert.Down

end
-- ==== Proof.Down.Bits.lean ====
module

public import proofs.«01_k».proof.Defs
public import proofs.«01_k».proof.Proof.Gen.Kernel3
public import proofs.«01_k».proof.Proof.Down.Tables

@[expose] public section

noncomputable section

/-! # The kernel as it stands is the same program text as the ideal one, so the one run serves both -/

namespace Cert.Down

open Idealize.ShloMosaic Idealize.ShloMosaic.TcCoe Idealize.SL.Sem

theorem ok_tables_bits : Cert.Kernel3Ideal.ok0 (F := Bits) tables := by
  decide +kernel

theorem ok_bits (m : (ℓ : Loc Cert.Kernel3Ideal.nD Cert.Kernel3Ideal.τ Cert.Kernel3Ideal.sig) → Buf (Elt Bits) ℓ) : Ok m := by
  unfold Ok; rw [tbl_eq]; exact ok_tables_bits

theorem flush_tables_bits : ∀ t : Fin Cert.Kernel3Ideal.grid0.N,
    ((Cert.Kernel3Ideal.cfg0 (F := Bits) ⟨tables, ok_tables_bits⟩).win 3).flush t = true ↔ t.val % 14 = 13 := by
  decide +kernel

theorem reg_bits (m : (ℓ : Loc Cert.Kernel3Ideal.nD Cert.Kernel3Ideal.τ Cert.Kernel3Ideal.sig) → Buf (Elt Bits) ℓ) : Reg m (ok_bits m) :=
  reg_of m ok_tables_bits (ok_bits m) flush_tables_bits

theorem body_eq : @Cert.Kernel3.cc0_ffn_down Bits _ _ = @Cert.Kernel3Ideal.cc0_ffn_down Bits _ _ := rfl

theorem defs₀_eq : Cert.Kernel3.defs₀ (F := Bits) = Cert.Kernel3Ideal.defs₀ (F := Bits) := by
  unfold Cert.Kernel3.defs₀ Cert.Kernel3Ideal.defs₀
  refine congrArg _ ?_
  funext l a
  match l, a with
  | 0, (t, s) => rfl

theorem pcfgs_eq : Cert.Kernel3.pcfgs (F := Bits) = Cert.Kernel3Ideal.pcfgs (F := Bits) := rfl

theorem defs_eq : Cert.Kernel3.defs (F := Bits) = Cert.Kernel3Ideal.defs (F := Bits) :=
  congrArg (Pipeline.defs (Cert.Kernel3Ideal.pcfgs (F := Bits))) defs₀_eq

set_option maxHeartbeats 4000000 in
theorem main_eq : Cert.Kernel3.main (F := Bits) = Cert.Kernel3Ideal.main (F := Bits) := rfl

theorem frame_kernel : Cert.quiescent_Kernel3 (hKernel3 := Cert.Kernel3.Gen.facts) := by
  intro m ρ _
  rw [defs_eq, main_eq]
  exact (θ_run Cert.Kernel3Ideal.defs _ _).mono (fun _ h => h) (frame (F := Bits) m ρ (ok_bits m) (reg_bits m))

end Cert.Down

end
-- ==== Proof.Down.Value.lean ====
module

public import proofs.«01_k».proof.Proof.Down.Tables
public import proofs.«01_k».proof.Proof.Gen.Reference3Ideal
public import Idealize.ShloMosaic.Lib.Pipeline.RowLoads

@[expose] public section

set_option maxRecDepth 16384

noncomputable section

namespace Cert.Down

open Cert.Kernel3Ideal Cert.Kernel3Ideal.Gen Idealize.ShloMosaic Idealize.ShloMosaic.TcCoe Idealize.SL.Sem
open Idealize.ShloMosaic.Pipeline (Dat)
open Idealize.ShloMosaic.Tactic

variable (m : (ℓ : Loc nD τ sig) → Buf (Elt Ideal) ℓ) (c : Dev nD)

/-- The product of a block's row and a column of the block of the weights. -/
def col (x0 : Vec Ideal S2080x1024 .bf16) (x : Vec Ideal S1x1024x1024 .f32) (y : S2080x1024.Idx) : EReal :=
  ∑ k : Fin 1024, (x0 (ix2 ⟨(y 0).val, (y 0).isLt⟩ k) : EReal) * x (ix3 0 k ⟨(y 1).val, (y 1).isLt⟩)

/-- The five stores of a point: each adds its rows' product to what the tile holds. -/
def parts (xo : Vec Ideal S2080x1024 .f32) (x0 : Vec Ideal S2080x1024 .bf16) (x1 : Vec Ideal S1x1024x1024 .f32) :
    List (View.Piece (Elt Ideal) S2080x1024 .f32) :=
  [⟨Rect.unit ![1664, 0] ![416, 1024] inb_S2080x1024_S416x1024_1664_0,
      k0_pay8 (View.ld xo (Rect.unit ![1664, 0] ![416, 1024] inb_S2080x1024_S416x1024_1664_0))
        (View.ld x0 (Rect.unit ![1664, 0] ![416, 1024] inb_S2080x1024_S416x1024_1664_0)) (k0_pay3 x1)⟩,
    ⟨Rect.unit ![1248, 0] ![416, 1024] inb_S2080x1024_S416x1024_1248_0,
      k0_pay7 (View.ld xo (Rect.unit ![1248, 0] ![416, 1024] inb_S2080x1024_S416x1024_1248_0))
        (View.ld x0 (Rect.unit ![1248, 0] ![416, 1024] inb_S2080x1024_S416x1024_1248_0)) (k0_pay3 x1)⟩,
    ⟨Rect.unit ![832, 0] ![416, 1024] inb_S2080x1024_S416x1024_832_0,
      k0_pay6 (View.ld xo (Rect.unit ![832, 0] ![416, 1024] inb_S2080x1024_S416x1024_832_0))
        (View.ld x0 (Rect.unit ![832, 0] ![416, 1024] inb_S2080x1024_S416x1024_832_0)) (k0_pay3 x1)⟩,
    ⟨Rect.unit ![416, 0] ![416, 1024] inb_S2080x1024_S416x1024_416_0,
      k0_pay5 (View.ld xo (Rect.unit ![416, 0] ![416, 1024] inb_S2080x1024_S416x1024_416_0))
        (View.ld x0 (Rect.unit ![416, 0] ![416, 1024] inb_S2080x1024_S416x1024_416_0)) (k0_pay3 x1)⟩,
    ⟨Rect.unit ![0, 0] ![416, 1024] inb_S2080x1024_S416x1024_0_0,
      k0_pay4 (View.ld xo (Rect.unit ![0, 0] ![416, 1024] inb_S2080x1024_S416x1024_0_0))
        (View.ld x0 (Rect.unit ![0, 0] ![416, 1024] inb_S2080x1024_S416x1024_0_0)) (k0_pay3 x1)⟩]

theorem canon_parts (xo : Vec Ideal S2080x1024 .f32) (x0 : Vec Ideal S2080x1024 .bf16) (x1 : Vec Ideal S1x1024x1024 .f32) (y : S2080x1024.Idx) :
    View.canon (parts xo x0 x1) y = xo y + col x0 x1 y := by
  unfold parts
  canon_tiles x h
  all_goals
    open_payloads
    pointwise
    unfold col
    refine congrArg₂ (· + ·) (congrArg xo ?_) (Finset.sum_congr rfl fun k _ => congrArg₂ (· * ·) (congrArg x0 ?_) (congrArg x1 ?_))
    · blk_ext
    · blk_ext
    · blk_ext

theorem cover_parts (xo : Vec Ideal S2080x1024 .f32) (x0 : Vec Ideal S2080x1024 .bf16) (x1 : Vec Ideal S1x1024x1024 .f32) (y : S2080x1024.Idx) :
    ∃ p ∈ parts xo x0 x1, y ∈ p.1.set :=
  View.cover_of_tiledL (parts xo x0 x1) S416x1024.size (by sl_kernel_rfl) y

/-- Stores that cover the tile leave nothing of the stores before them. -/
theorem canon_over (T : List (View.Piece (Elt Ideal) S2080x1024 .f32)) (y : S2080x1024.Idx) :
    ∀ L : List (View.Piece (Elt Ideal) S2080x1024 .f32), (∃ p ∈ L, y ∈ p.1.set) → View.canon (L ++ T) y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_over T y L ?_
      obtain ⟨q, hq, hyq⟩ := h
      rcases List.mem_cons.mp hq with rfl | hq'
      · exact absurd hyq hm
      · exact ⟨q, hq', hyq⟩

theorem skip (v : View sig .tc .vmem S2080x1024 .f32) (o o' : ℕ) (h : o + 416 ≤ o') (inb) (inb')
    (w : Vec Ideal S416x1024 .f32) (L : List (View.Piece (Elt Ideal) S2080x1024 .f32)) :
    v.readCov (⟨Rect.unit (s := S2080x1024) ![o, 0] ![416, 1024] inb, w⟩ :: L) (Rect.unit (s := S2080x1024) ![o', 0] ![416, 1024] inb').toLoadRect
      = v.readCov L (Rect.unit (s := S2080x1024) ![o', 0] ![416, 1024] inb').toLoadRect :=
  View.readCov_cons_of_rows_disjoint (k := 416) (k' := 416) v o o' (Or.inl h) w L inb inb'

/-- A tile of zeros. -/
def zero2080 : Vec Ideal S2080x1024 .f32 := fun _ => (0 : EReal)

theorem zeros (v : View sig .tc .vmem S2080x1024 .f32) (o : ℕ) (inb) :
    v.readCov [⟨Rect.unit (s := S2080x1024) ![0, 0] ![2080, 1024] inb_S2080x1024_S2080x1024_0_0, k0_pay2 (F := Ideal)⟩]
      (Rect.unit (s := S2080x1024) ![o, 0] ![416, 1024] inb).toLoadRect
      = View.ld (zero2080 : Vec Ideal S2080x1024 .f32) (Rect.unit (s := S2080x1024) ![o, 0] ![416, 1024] inb) := by
  rw [View.readCov_eq_canon']
  funext j
  generalize (Rect.unit (s := S2080x1024) ![o, 0] ![416, 1024] inb).toLoadRect.idx j = z
  refine (congrFun (View.canon_cons_unit_lit' _ _ _ (by decide)) z).trans ?_
  open_payloads
  pointwise
  rfl

section
variable (i : grid0.Coords) (arg6 : Memref sig .tc .vmem S2080x1024 .bf16) (harg6 : arg6.IsWhole) (arg7 : Memref sig .tc .vmem S1x1024x1024 .f32) (harg7 : arg7.IsWhole)
    (arg8 : Memref sig .tc .vmem S2080x1 .f32) (harg8 : arg8.IsWhole) (arg9 : Memref sig .tc .vmem S2080x1024 .f32) (harg9 : arg9.IsWhole)
    (arg10 : Memref sig .tc .vmem S1024x1024 .bf16) (harg10 : arg10.IsWhole)
    (x0 : Vec Ideal S2080x1024 .bf16) (x1 : Vec Ideal S1x1024x1024 .f32) (x2 : Vec Ideal S2080x1 .f32) (xo : Vec Ideal S2080x1024 .f32)
    (xt0 : TbBuf0 (F := Ideal) c tbM0_0) (xt1 : TbBuf0 (F := Ideal) c tbM0_1) (xt2 : TbBuf0 (F := Ideal) c tbM0_2)

theorem pointA (h0) (h1) (y : S2080x1024.Idx) :
    out0_A_3 c i arg6 harg6 arg7 harg7 arg8 harg8 arg9 harg9 arg10 harg10 x0 x1 x2 xt0 xt1 xt2 h0 h1 y = 0 + col x0 x1 y := by
  frame_out
  simp (disch := decide) only [skip, zeros]
  exact (canon_over _ y (parts zero2080 x0 x1) (cover_parts _ _ _ y)).trans (canon_parts _ _ _ _)

theorem pointB (h0) (h1) (y : S2080x1024.Idx) :
    out0_B_3 c i arg6 harg6 arg7 harg7 arg8 harg8 arg9 harg9 arg10 harg10 x0 x1 x2 xo xt0 xt1 xt2 h0 h1 y = xo y + col x0 x1 y := by
  frame_out
  exact canon_parts xo x0 x1 y

theorem pointC (h0) (h1) (hx : ∀ z, x2 z = (1 : EReal)) (y : S2080x1024.Idx) :
    out0_C_3 c i arg6 harg6 arg7 harg7 arg8 harg8 arg9 harg9 arg10 harg10 x0 x1 x2 xo xt0 xt1 xt2 h0 h1 y = xo y + col x0 x1 y := by
  frame_out
  have e : arg9.view.readCov (parts xo x0 x1) (Rect.unit (s := S2080x1024) ![0, 0] ![2080, 1024] inb_S2080x1024_S2080x1024_0_0).toLoadRect
      = fun y => xo y + col x0 x1 y := by
    rw [View.readCov_eq_canon']
    funext j
    rw [canon_parts]
    have ej : (Rect.unit (s := S2080x1024) ![0, 0] ![2080, 1024] inb_S2080x1024_S2080x1024_0_0).toLoadRect.idx j = j := by
      funext d
      fin_cases d
      all_goals exact Fin.ext (by simp [Rect.unit])
    rw [ej]
  refine (congrFun (congrArg (fun a => k0_pay1 (F := Ideal) a x2) e) y).trans ?_
  open_payloads
  pointwise
  rw [hx, mul_one]
end

abbrev ap : FVec Ideal S4x2048x14336 .f32 := m ((c.tc : Thread nD τ).loc main_arg0)
abbrev asm : FVec Ideal S8x1x14336 .f32 := m ((c.tc : Thread nD τ).loc main_arg1)
abbrev ad : FVec Ideal S14336x4096 .f32 := m ((c.tc : Thread nD τ).loc main_arg2)

/-- The rows the kernel takes: the prompt's, the sample's, zeros. -/
def rows (p : FVec Ideal S4x2048x14336 .f32) (s : FVec Ideal S8x1x14336 .f32) : FVec Ideal S8320x14336 .bf16 :=
  truncf (F := Ideal) .bf16 (concatenate S8320x14336 0 [⟨S8192x14336, shapeCast S8192x14336 p shapeCasts_S4x2048x14336_S8192x14336⟩, ⟨S8x14336, shapeCast S8x14336 s shapeCasts_S8x1x14336_S8x14336⟩, ⟨S120x14336, broadcastInDim S120x14336 ![] bcast_S_S120x14336 (constant (F := Ideal) S_ .f32 0x00000000#32)⟩] concatenates_S8192x14336_S8x14336_S120x14336_S8320x14336_d0) bitsLt_bf16_f32

theorem V7 : V m c main_v7 = rows (ap m c) (asm m c) := by
  unfold V V0 rows
  simp only [hostOps0, List.flatten_cons, List.flatten_nil, List.append_nil, List.cons_append, List.nil_append]
  after_results
  rfl

theorem V8 : V m c main_v8 = broadcastInDim S1x14336x4096 ![1, 2] bcast_S14336x4096_S1x14336x4096_1_2 (ad m c) := by
  unfold V V0
  simp only [hostOps0, List.flatten_cons, List.flatten_nil, List.append_nil, List.cons_append, List.nil_append]
  after_results

theorem V9 : V m c main_v9 = broadcastInDim S8320x1 ![] bcast_S_S8320x1 (constant (F := Ideal) S_ .f32 0x3F800000#32) := by
  unfold V V0
  simp only [hostOps0, List.flatten_cons, List.flatten_nil, List.append_nil, List.cons_append, List.nil_append]
  after_results

theorem V8_at (k : Fin 14336) (n : Fin 4096) : V m c main_v8 (ix3 0 k n : S1x14336x4096.Idx) = ad m c (ix2 k n) := by
  rw [V8]
  pointwise

theorem V9_at (z : S8320x1.Idx) : V m c main_v9 z = (1 : EReal) := by
  rw [V9]
  pointwise

theorem rows_p (p : FVec Ideal S4x2048x14336 .f32) (s : FVec Ideal S8x1x14336 .f32) (b : Fin 4) (r : Fin 2048) (k : Fin 14336) :
    rows p s (ix2 ⟨b.val * 2048 + r.val, by omega⟩ k) = p (ix3 b r k) := by
  unfold rows
  pointwise
  rw [dif_pos (by omega)]

theorem rows_s (p : FVec Ideal S4x2048x14336 .f32) (s : FVec Ideal S8x1x14336 .f32) (b : Fin 8) (k : Fin 14336) :
    rows p s (ix2 ⟨8192 + b.val, by omega⟩ k) = s (ix3 b 0 k) := by
  unfold rows
  pointwise

/-- The array the kernel leaves: a row of its rows times a column of the weights. -/
def G : FVec Ideal S8320x4096 .f32 := fun i =>
  (∑ k : Fin 14336, (rows (ap m c) (asm m c) (ix2 ⟨(i 0).val, (i 0).isLt⟩ k) : EReal) * ad m c (ix2 k ⟨(i 1).val, (i 1).isLt⟩) : EReal)

/-- Which block each window holds at a point, the tables being the host's. -/
theorem idx_tables : ∀ t : Fin grid0.N,
    (((cfg0 (F := Ideal) ⟨tables, ok_tables⟩).win 0).index t (0 : Fin 2) = t.val / 56 ∧ ((cfg0 (F := Ideal) ⟨tables, ok_tables⟩).win 0).index t (1 : Fin 2) = t.val % 14)
    ∧ (((cfg0 (F := Ideal) ⟨tables, ok_tables⟩).win 1).index t (0 : Fin 3) = 0 ∧ ((cfg0 (F := Ideal) ⟨tables, ok_tables⟩).win 1).index t (1 : Fin 3) = t.val % 14
      ∧ ((cfg0 (F := Ideal) ⟨tables, ok_tables⟩).win 1).index t (2 : Fin 3) = t.val / 14 % 4)
    ∧ ((cfg0 (F := Ideal) ⟨tables, ok_tables⟩).win 3).index t (0 : Fin 2) = t.val / 56 ∧ ((cfg0 (F := Ideal) ⟨tables, ok_tables⟩).win 3).index t (1 : Fin 2) = t.val / 14 % 4 := by
  decide +kernel

theorem covers_tables : ((cfg0 (F := Ideal) ⟨tables, ok_tables⟩).win 3).Covers := by
  decide +kernel

theorem adm_eq : adm m (ok m) = ⟨tables, ok_tables⟩ := Subtype.ext (tbl_eq m)

theorem covers : ((cfgM m (ok m)).win 3).Covers := by
  unfold cfgM; rw [adm_eq]; exact covers_tables

theorem idx : ∀ t : Fin (cfgM m (ok m)).N,
    (((cfgM m (ok m)).win 0).index t (0 : Fin 2) = t.val / 56 ∧ ((cfgM m (ok m)).win 0).index t (1 : Fin 2) = t.val % 14)
    ∧ (((cfgM m (ok m)).win 1).index t (0 : Fin 3) = 0 ∧ ((cfgM m (ok m)).win 1).index t (1 : Fin 3) = t.val % 14 ∧ ((cfgM m (ok m)).win 1).index t (2 : Fin 3) = t.val / 14 % 4)
    ∧ ((cfgM m (ok m)).win 3).index t (0 : Fin 2) = t.val / 56 ∧ ((cfgM m (ok m)).win 3).index t (1 : Fin 2) = t.val / 14 % 4 := by
  unfold cfgM; rw [adm_eq]; exact idx_tables

/-- What a point adds to its tile. -/
def term (t : Fin (cfgM m (ok m)).N) (y : S2080x1024.Idx) : EReal := col (iblk m (ok m) c 0 t) (iblk m (ok m) c 1 t) y

theorem step_first (t : Fin (cfgM m (ok m)).N) (h : t.val % 14 = 0) (y : S2080x1024.Idx) :
    outsAt0 m (ok m) (reg m) c t.val t.isLt y = (0 : EReal) + term m c t y :=
  (congrFun (outsAt0_A m (ok m) (reg m) c t h (by omega)) y).trans (pointA c _ _ _ _ _ _ _ _ _ _ _ _ _ _ _ _ _ _ _ _)

theorem step_next (t : Fin (cfgM m (ok m)).N) (h : ¬t.val % 14 = 0) (y : S2080x1024.Idx) :
    outsAt0 m (ok m) (reg m) c t.val t.isLt y
      = (outsAt0 m (ok m) (reg m) c (t.val - 1) (Nat.lt_of_le_of_lt (Nat.sub_le _ _) t.isLt) y : EReal) + term m c t y := by
  by_cases h1 : t.val % 14 = 13
  · exact (congrFun (outsAt0_C m (ok m) (reg m) c t h h1) y).trans (pointC c _ _ _ _ _ _ _ _ _ _ _ _ _ _ _ _ _ _ _ _ (fun z => V9_at m c _) y)
  · exact (congrFun (outsAt0_B m (ok m) (reg m) c t h h1) y).trans (pointB c _ _ _ _ _ _ _ _ _ _ _ _ _ _ _ _ _ _ _ _ y)

/-- At the last of its fourteen steps a tile holds the fourteen steps' products. -/
theorem total (t : Fin (cfgM m (ok m)).N) (h : t.val % 14 = 13) (y : S2080x1024.Idx) :
    outsAt0 m (ok m) (reg m) c t.val t.isLt y
      = (0 : EReal) + ∑ s : Fin 14, term m c ⟨14 * (t.val / 14) + s.val, by have := t.isLt; omega⟩ y :=
  Pipeline.eq_sum_fin_of_reset_step_apply_of_flush (fun n h y => (outsAt0 m (ok m) (reg m) c n h y : EReal)) 14 (fun _ => (0 : EReal)) (term m c)
    (step_first m c) (step_next m c) t h y

theorem term_at (t : Fin (cfgM m (ok m)).N) (y : S2080x1024.Idx) :
    term m c t y = ∑ k : Fin 1024, (rows (ap m c) (asm m c) (ix2 ⟨t.val / 56 * 2080 + (y 0).val, by
        have := t.isLt; have : (cfgM m (ok m)).N = 224 := N_0; have := (y 0).isLt; change (y 0).val < 2080 at this; omega⟩ ⟨t.val % 14 * 1024 + k.val, by omega⟩) : EReal)
      * ad m c (ix2 ⟨t.val % 14 * 1024 + k.val, by omega⟩ ⟨t.val / 14 % 4 * 1024 + (y 1).val, by
        have := (y 1).isLt; change (y 1).val < 1024 at this; omega⟩) := by
  obtain ⟨⟨h00, h01⟩, ⟨h10, h11, h12⟩, h30, h31⟩ := idx m t
  unfold term col
  refine Finset.sum_congr rfl fun k _ => congrArg₂ (· * ·) ?_ ?_
  · rw [← V7]
    blk_point [iblk, h00, h01]
  · rw [← V8_at]
    blk_point [iblk, h10, h11, h12]

theorem final : (dats m (ok m) (reg m) 0 c).arrAt 3 (cfgM m (ok m)).N = G m c := by
  refine (dats m (ok m) (reg m) 0 c).arrAt_eq_of_covers 3 _ (covers m) fun t hf y => ?_
  have h13 := ((reg m).flush t).mp hf
  obtain ⟨⟨h00, h01⟩, ⟨h10, h11, h12⟩, h30, h31⟩ := idx m t
  blk_simp
  rw [after0_3]
  refine (total m c t h13 y).trans ?_
  rw [zero_add]
  unfold G
  refine (Finset.sum_congr rfl fun s _ => term_at m c _ y).trans ?_
  refine Fin.sum_mul_add_congr (fun s k hl => ?_)
  have e1 : (14 * (t.val / 14) + s.val) / 56 = t.val / 56 := by omega
  have e2 : (14 * (t.val / 14) + s.val) % 14 = s.val := by omega
  have e3 : (14 * (t.val / 14) + s.val) / 14 % 4 = t.val / 14 % 4 := by omega
  simp only [e1, e2, e3]
  refine congrArg₂ (· * ·) (congrArg (rows (ap m c) (asm m c)) ?_) (congrArg (ad m c) ?_)
  · refine congrArg₂ ix2 (Fin.ext ?_) rfl
    first
    | exact (congrArg (fun a : ℕ => a * 2080 + (y 0).val) h30).symm
    | exact (congrArg (fun a : ℕ => a * 2080 + 1 * (y 0).val) h30).symm.trans (by rw [Nat.one_mul])
    | blk_ext! [h30]
  · refine congrArg₂ ix2 rfl (Fin.ext ?_)
    first
    | exact (congrArg (fun a : ℕ => a * 1024 + (y 1).val) h31).symm
    | blk_ext! [h31]

/-- The reference's array over the prompt. -/
abbrev refp (p : FVec Ideal S4x2048x14336 .f32) (w : FVec Ideal S14336x4096 .f32) : FVec Ideal S4x2048x4096 .f32 :=
  Host.dotGeneral Cert.Reference3Ideal.dot_S4x2048x14336_S14336x4096_S4x2048x4096_2_0_01_1_n_n none p w

/-- The reference's array over the sample. -/
abbrev refs (s : FVec Ideal S8x1x14336 .f32) (w : FVec Ideal S14336x4096 .f32) : FVec Ideal S8x1x4096 .f32 :=
  Host.dotGeneral Cert.Reference3Ideal.dot_S8x1x14336_S14336x4096_S8x1x4096_2_0_01_1_n_n none s w

theorem tail12 : Pipeline.afterTail pcfgs (fun _ => adm m (ok m)) (dats m (ok m) (reg m)) 0 (V0 m) [hostOps1] c main_v12
    = shapeCast S4x2048x4096 (extractStridedSlice S8192x4096 ![0, 0] (G m c) slices_S8320x4096_S8192x4096_0_0) shapeCasts_S8192x4096_S4x2048x4096 := by
  rw [← final]
  unfold Pipeline.afterTail
  simp only [hostOps1, List.flatten_cons, List.flatten_nil, List.append_nil, List.cons_append, List.nil_append]
  after_results
  have e : Pipeline.withArrays spec0 c (V0 m c) (fun w => (dats m (ok m) (reg m) 0 c).arrAt w (cfgM m (ok m)).N) (Proc.devRef .tc main_v10) = (dats m (ok m) (reg m) 0 c).arrAt 3 (cfgM m (ok m)).N :=
    Pipeline.withArrays_arr spec0 (by decide) c _ _ 3
  exact congrArg (fun A : FVec Ideal S8320x4096 .f32 => shapeCast S4x2048x4096 (extractStridedSlice S8192x4096 ![0, 0] A slices_S8320x4096_S8192x4096_0_0) shapeCasts_S8192x4096_S4x2048x4096) e

theorem tail14 : Pipeline.afterTail pcfgs (fun _ => adm m (ok m)) (dats m (ok m) (reg m)) 0 (V0 m) [hostOps1] c main_v14
    = shapeCast S8x1x4096 (extractStridedSlice S8x4096 ![8192, 0] (G m c) slices_S8320x4096_S8x4096_8192_0) shapeCasts_S8x4096_S8x1x4096 := by
  rw [← final]
  unfold Pipeline.afterTail
  simp only [hostOps1, List.flatten_cons, List.flatten_nil, List.append_nil, List.cons_append, List.nil_append]
  after_results
  have e : Pipeline.withArrays spec0 c (V0 m c) (fun w => (dats m (ok m) (reg m) 0 c).arrAt w (cfgM m (ok m)).N) (Proc.devRef .tc main_v10) = (dats m (ok m) (reg m) 0 c).arrAt 3 (cfgM m (ok m)).N :=
    Pipeline.withArrays_arr spec0 (by decide) c _ _ 3
  exact congrArg (fun A : FVec Ideal S8320x4096 .f32 => shapeCast S8x1x4096 (extractStridedSlice S8x4096 ![8192, 0] A slices_S8320x4096_S8x4096_8192_0) shapeCasts_S8x4096_S8x1x4096) e

/-- The prompt's rows of the kernel's array are the reference's. -/
theorem res_p : shapeCast S4x2048x4096 (extractStridedSlice S8192x4096 ![0, 0] (G m c) slices_S8320x4096_S8192x4096_0_0) shapeCasts_S8192x4096_S4x2048x4096
    = refp (ap m c) (ad m c) := by
  funext i
  pointwise
  unfold G
  exact Finset.sum_congr rfl fun k _ => congrArg₂ (· * ·) (rows_p _ _ _ _ _) rfl

theorem res_s : shapeCast S8x1x4096 (extractStridedSlice S8x4096 ![8192, 0] (G m c) slices_S8320x4096_S8x4096_8192_0) shapeCasts_S8x4096_S8x1x4096
    = refs (asm m c) (ad m c) := by
  funext i
  pointwise
  unfold G
  rw [show i 1 = (0 : Fin 1) from Subsingleton.elim (α := Fin 1) _ _]
  exact Finset.sum_congr rfl fun k _ => congrArg₂ (· * ·) (rows_s _ _ _ _) rfl

/-- The run of the kernel, its results named. -/
theorem run (ρ : Dev nD → PrngReg) : θ_run defs (onTc (τ := τ) (main (F := Ideal))) ⟨m, fun _ => 0, ρ⟩ (fun r => ∀ c : Dev nD,
    r.2.mem ((c.tc : Thread nD τ).loc main_v12) = refp (ap m c) (ad m c)
    ∧ r.2.mem ((c.tc : Thread nD τ).loc main_v14) = refs (asm m c) (ad m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨((h.2 c).2 main_v12 (Pipeline.mem_restRefs_of (win := spec0) main_v12 (by decide) (by decide))).trans ((tail12 m c).trans (res_p m c)),
    ((h.2 c).2 main_v14 (Pipeline.mem_restRefs_of (win := spec0) main_v14 (by decide) (by decide))).trans ((tail14 m c).trans (res_s m c)), h.1 c⟩)
    (θ_run_and (unchanged m ρ (ok m) (reg m)) (run_main m ρ (ok m) (reg m)))

end Cert.Down

end
-- ==== Proof.Moe.Setup.lean ====
module

public import proofs.«01_k».proof.Proof.Gen.Kernel7Ideal.Launch
public import proofs.«01_k».proof.Proof.Gen.Kernel7Ideal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! # What the run of the experts' first half is set up over -/

namespace Cert.Moe

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

theorem V_of (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne hb))

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S14 .i32 := Memref.whole main_arg3
abbrev htbM0_0 : tbM0_0.IsWhole := Memref.isWhole_whole _
abbrev tbM0_1 : Memref sig .tc .smem S14 .i32 := Memref.whole main_arg4
abbrev htbM0_1 : tbM0_1.IsWhole := Memref.isWhole_whole _
abbrev tbM0_2 : Memref sig .tc .smem S14 .i32 := Memref.whole main_arg5
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The buffers the operations after the call write. -/
abbrev late : List (Ref sig .tc) := [main_c, main_v2, main_v3, main_c_0, main_v4, main_v5, main_v6, main_v7, main_v8]

theorem W_of (hO : Ok m) (dats : (p : Fin _) → (c : Dev nD) → Dat τ (Elt F) Unit ℕ (UR sig nD τ) ℕ ((Pipeline.pin pcfgs fun _ => adm m hO) p) c) (c : Dev nD)
    (b : Ref sig .tc) (hb : b ≠ main_v0) (hl : late.Forall (b ≠ ·)) (hw : ∀ w, Pipeline.arrRef spec0 w ≠ b) :
    Pipeline.afterTail pcfgs (fun _ => adm m hO) dats 0 (V0 m) [hostOps1] c b = m ((c : Thread nD τ).loc b) := by
  simp only [List.Forall] at hl
  obtain ⟨h1, h2, h3, h4, h5, h6, h7, h8, h9⟩ := hl
  unfold Pipeline.afterTail
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.binaryIndexed_writes, StableHlo.unaryIndexed_writes, StableHlo.nary_writes, Finset.mem_singleton]
      repeat' apply And.intro
      all_goals exact StableHlo.devRef_ne_of_ne (by assumption))),
    Pipeline.withArrays_of_ne _ c (V0 m c) _ b hw]
  exact V_of m c b hb

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The arguments are as they were. -/
def Same (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (Same m) :=
  (θ_run defs _ _).mono (fun _ h c => ⟨((h c).2 main_arg0 (Pipeline.mem_restRefs_of (win := spec0) main_arg0 (by decide) (by decide))).trans (W_of m hO dats c main_arg0 (by decide) (by decide) (by decide)),
      ((h c).2 main_arg1 (Pipeline.mem_restRefs_of (win := spec0) main_arg1 (by decide) (by decide))).trans (W_of m hO dats c main_arg1 (by decide) (by decide) (by decide)),
      ((h c).2 main_arg2 (Pipeline.mem_restRefs_of (win := spec0) main_arg2 (by decide) (by decide))).trans (W_of m hO dats c main_arg2 (by decide) (by decide) (by decide)),
      ((h c).2 main_arg3 (Pipeline.mem_restRefs_of (win := spec0) main_arg3 (by decide) (by decide))).trans (W_of m hO dats c main_arg3 (by decide) (by decide) (by decide)),
      ((h c).2 main_arg4 (Pipeline.mem_restRefs_of (win := spec0) main_arg4 (by decide) (by decide))).trans (W_of m hO dats c main_arg4 (by decide) (by decide) (by decide)),
      ((h c).2 main_arg5 (Pipeline.mem_restRefs_of (win := spec0) main_arg5 (by decide) (by decide))).trans (W_of m hO dats c main_arg5 (by decide) (by decide) (by decide)),
      ((h c).1 1).trans (((dats 0 c).arrAt_in 1 rfl _).trans ((hA c 1).trans (V_of m c main_arg6 (by decide)))),
      ((h c).1 2).trans (((dats 0 c).arrAt_in 2 rfl _).trans ((hA c 2).trans (V_of m c main_arg7 (by decide))))⟩) h

abbrev VO0_3 : View sig .tc .vmem S2560x256 .bf16 := (Memref.whole cc0_stg3_0 : Memref sig .tc .vmem S2560x256 .bf16).view
abbrev ms0_0 (hO : Ok m) (t : Fin (cfgM m hO).N) : Memref sig .tc .vmem S2560x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2560x256 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev scM0_0 : Memref sig .tc .vmem S4096x512 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Moe

end
-- ==== Proof.Moe.Body.lean ====
module

public import proofs.«01_k».proof.Proof.Moe.Setup

@[expose] public section

set_option maxRecDepth 16384

noncomputable section

/-! # One point of the experts' first half -/

namespace Cert.Moe

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem word_pos {f : BitVec 32 → BitVec 1} {a b : BitVec 32} (h : a = b) (hb : f b = 1#1) : f a = 1#1 := by rw [h]; exact hb
theorem word_neg {f : BitVec 32 → BitVec 1} {a b : BitVec 32} (h : a = b) (hb : ¬ f b = 1#1) : ¬ f a = 1#1 := by rw [h]; exact hb

/-- The block's number of 256-row units, as the body reads it. -/
abbrev word (c : Dev nD) (i : grid0.Coords) (xt2 : TbBuf0 (F := F) c tbM0_2) : BitVec 32 :=
  tbM0_2.view.readAt (Elt F) (Rect.unit (s := S14) (k0_off1 i) S1.size (k0_off1_inb i)).toLoadRect xt2 (Shape.Idx.first (numel1_S1.symm ▸ Nat.one_pos))

/-- The scratch buffer as the products read it: the gate's weights left, the up weights right. -/
def wts (arg6 : Memref sig .tc .vmem S1x4096x256 .f32) (harg6 : arg6.IsWhole) (arg7 : Memref sig .tc .vmem S1x4096x256 .f32) (harg7 : arg7.IsWhole) (arg9 : Memref sig .tc .vmem S4096x512 .bf16)
    (x1 : Vec F S1x4096x256 .f32) (x2 : Vec F S1x4096x256 .f32) : Vec F S4096x512 .bf16 :=
  arg9.view.readCov
    [⟨Rect.unit (s := S4096x512) ![0, 256] ![4096, 256] inb_S4096x512_S4096x256_0_256,
      k0_pay6 (arg7.view.readAt (Elt F) (Rect.unit (s := S1x4096x256) ![0, 0, 0] S1x4096x256.size inb_S1x4096x256_S1x4096x256_0_0_0).toLoadRect (harg7.unread x2))⟩,
     ⟨Rect.unit (s := S4096x512) ![0, 0] ![4096, 256] inb_S4096x512_S4096x256_0_0,
      k0_pay5 (arg6.view.readAt (Elt F) (Rect.unit (s := S1x4096x256) ![0, 0, 0] S1x4096x256.size inb_S1x4096x256_S1x4096x256_0_0_0).toLoadRect (harg6.unread x1))⟩]
    (Rect.unit (s := S4096x512) ![0, 0] ![4096, 512] inb_S4096x512_S4096x512_0_0).toLoadRect

/-- The 512 rows of the block from row `o` on. -/
def rows512 (arg5 : Memref sig .tc .vmem S2560x4096 .bf16) (harg5 : arg5.IsWhole) (x0 : Vec F S2560x4096 .bf16) (o : ℕ)
    (h : ∀ a, (![o, 0] : Fin 2 → ℕ) a + S512x4096.size a ≤ S2560x4096.size a) : Vec F S512x4096 .bf16 :=
  arg5.view.readAt (Elt F) (Rect.unit (s := S2560x4096) ![o, 0] S512x4096.size h).toLoadRect (harg5.unread x0)

/-- The 256 rows of the block from row `o` on. -/
def rows256 (arg5 : Memref sig .tc .vmem S2560x4096 .bf16) (harg5 : arg5.IsWhole) (x0 : Vec F S2560x4096 .bf16) (o : ℕ)
    (h : ∀ a, (![o, 0] : Fin 2 → ℕ) a + S256x4096.size a ≤ S2560x4096.size a) : Vec F S256x4096 .bf16 :=
  arg5.view.readAt (Elt F) (Rect.unit (s := S2560x4096) ![o, 0] S256x4096.size h).toLoadRect (harg5.unread x0)

/-- What one of the five parts of 512 rows stores, the last store first: `a` is its products if both its units are in
    use, `b` and `z` the products and the zeros of its halves if only the first is, `zz` the zeros if none is. -/
def part (u j : ℕ) {o o' : ℕ} (h : ∀ a, (![o, 0] : Fin 2 → ℕ) a + S512x256.size a ≤ S2560x256.size a)
    (h₁ : ∀ a, (![o, 0] : Fin 2 → ℕ) a + S256x256.size a ≤ S2560x256.size a) (h₂ : ∀ a, (![o', 0] : Fin 2 → ℕ) a + S256x256.size a ≤ S2560x256.size a)
    (a zz : FVec F S512x256 .bf16) (b z : FVec F S256x256 .bf16) : List (View.Piece (Elt F) S2560x256 .bf16) :=
  if 2 * j + 2 ≤ u then [⟨Rect.unit (s := S2560x256) ![o, 0] S512x256.size h, a⟩]
  else if 2 * j + 1 ≤ u then [⟨Rect.unit (s := S2560x256) ![o', 0] S256x256.size h₂, z⟩, ⟨Rect.unit (s := S2560x256) ![o, 0] S256x256.size h₁, b⟩]
  else [⟨Rect.unit (s := S2560x256) ![o, 0] S512x256.size h, zz⟩]

/-- What the body stores in the output's block when `u` of the block's units are in use, the last store first. -/
def stores (u : ℕ) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg9 : Memref sig .tc .vmem S4096x512 .bf16)
    (x0 : Vec F S2560x4096 .bf16) (x1 : Vec F S1x4096x256 .f32) (x2 : Vec F S1x4096x256 .f32) : List (View.Piece (Elt F) S2560x256 .bf16) :=
  part u 4 inb_S2560x256_S512x256_2048_0 inb_S2560x256_S256x256_2048_0 inb_S2560x256_S256x256_2304_0
    (k0_pay1 (rows512 arg5 harg5 x0 2048 inb_S2560x4096_S512x4096_2048_0) (wts arg6 harg6 arg7 harg7 arg9 x1 x2)) k0_pay4
    (k0_pay2 (rows256 arg5 harg5 x0 2048 inb_S2560x4096_S256x4096_2048_0) (wts arg6 harg6 arg7 harg7 arg9 x1 x2)) k0_pay3 ++
  part u 3 inb_S2560x256_S512x256_1536_0 inb_S2560x256_S256x256_1536_0 inb_S2560x256_S256x256_1792_0
    (k0_pay19 (rows512 arg5 harg5 x0 1536 inb_S2560x4096_S512x4096_1536_0) (wts arg6 harg6 arg7 harg7 arg9 x1 x2)) k0_pay22
    (k0_pay20 (rows256 arg5 harg5 x0 1536 inb_S2560x4096_S256x4096_1536_0) (wts arg6 harg6 arg7 harg7 arg9 x1 x2)) k0_pay21 ++
  part u 2 inb_S2560x256_S512x256_1024_0 inb_S2560x256_S256x256_1024_0 inb_S2560x256_S256x256_1280_0
    (k0_pay15 (rows512 arg5 harg5 x0 1024 inb_S2560x4096_S512x4096_1024_0) (wts arg6 harg6 arg7 harg7 arg9 x1 x2)) k0_pay18
    (k0_pay16 (rows256 arg5 harg5 x0 1024 inb_S2560x4096_S256x4096_1024_0) (wts arg6 harg6 arg7 harg7 arg9 x1 x2)) k0_pay17 ++
  part u 1 inb_S2560x256_S512x256_512_0 inb_S2560x256_S256x256_512_0 inb_S2560x256_S256x256_768_0
    (k0_pay11 (rows512 arg5 harg5 x0 512 inb_S2560x4096_S512x4096_512_0) (wts arg6 harg6 arg7 harg7 arg9 x1 x2)) k0_pay14
    (k0_pay12 (rows256 arg5 harg5 x0 512 inb_S2560x4096_S256x4096_512_0) (wts arg6 harg6 arg7 harg7 arg9 x1 x2)) k0_pay13 ++
  part u 0 inb_S2560x256_S512x256_0_0 inb_S2560x256_S256x256_0_0 inb_S2560x256_S256x256_256_0
    (k0_pay7 (rows512 arg5 harg5 x0 0 inb_S2560x4096_S512x4096_0_0) (wts arg6 harg6 arg7 harg7 arg9 x1 x2)) k0_pay10
    (k0_pay8 (rows256 arg5 harg5 x0 0 inb_S2560x4096_S256x4096_0_0) (wts arg6 harg6 arg7 harg7 arg9 x1 x2)) k0_pay9

set_option maxHeartbeats 16000000 in
/-- A point whose block has `u` units in use stores `stores u` there. -/
theorem run_used (c : Dev nD) (i : grid0.Coords) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2560x256 .bf16) (harg8 : arg8.IsWhole) (arg9 : Memref sig .tc .vmem S4096x512 .bf16) (harg9 : arg9.IsWhole)
    (x0 : Vec F S2560x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2)
    (u : ℕ) (hu : 1 ≤ u) (hu' : u ≤ 10) (hw : word c i xt2 = BitVec.ofNat 32 u) (E : Set ℕ) (K : PUnit → sProp 𝕄) :
    iprop(owns (c : Thread nD τ) arg5 fullShare x0 ∗ owns (c : Thread nD τ) arg6 fullShare x1 ∗ owns (c : Thread nD τ) arg7 fullShare x2 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
        ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f (stores u arg5 harg5 arg6 harg6 arg7 harg7 arg9 x0 x1 x2)) ∗ (∃ f, arg9.view.loc (c : Thread nD τ) ↦[arg9.view.set]{fullShare} f) ∗ tbPt0 c tbM0_0 xt0 ∗ tbPt0 c tbM0_1 xt1 ∗ tbPt0 c tbM0_2 xt2) -∗ K ⟨⟩))
      ⊢ wp frame (wpE (defs₀ (F := F)) Variants.none c none) E (cc0_ffn_gate_up i tbM0_0 htbM0_0 tbM0_1 htbM0_1 tbM0_2 htbM0_2 arg5 harg5 arg6 harg6 arg7 harg7 arg8 harg8 arg9 harg9) K := by
  obtain rfl | rfl | rfl | rfl | rfl | rfl | rfl | rfl | rfl | rfl : u = 1 ∨ u = 2 ∨ u = 3 ∨ u = 4 ∨ u = 5 ∨ u = 6 ∨ u = 7 ∨ u = 8 ∨ u = 9 ∨ u = 10 := by omega
  all_goals
    simp only [stores, part, Nat.reduceMul, Nat.reduceAdd, Nat.reduceLeDiff, ↓reduceIte, List.cons_append, List.nil_append]
    simp only [cc0_ffn_gate_up_eq_skeleton]; unfold cc0_ffn_gate_up_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HT0, HT1, HT2, Hk⟩
    obtain rfl := harg5.eq_unread hf0; obtain rfl := harg6.eq_unread hf1; obtain rfl := harg7.eq_unread hf2
    have h1 : Scalar.cmpi .ne (Scalar.extui (Scalar.cmpi .sgt (word c i xt2) 0#32) : BitVec 32) 0#32 = 1#1 := by
      rw [hw]; decide +kernel
    sl_exec (disch := first | (refine word_pos hw ?_; decide +kernel) | (refine word_neg hw ?_; decide +kernel) | sl_exact h1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]; · iexists _; iexact H3
    isplitl [HS0]; · iexists _; iexact HS0
    isplitl [HT0]; · iexact HT0
    isplitl [HT1]; · iexact HT1
    iexact HT2

set_option maxHeartbeats 16000000 in
/-- A point whose block has none in use leaves it as it was. -/
theorem run_unused (c : Dev nD) (i : grid0.Coords) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2560x256 .bf16) (harg8 : arg8.IsWhole) (arg9 : Memref sig .tc .vmem S4096x512 .bf16) (harg9 : arg9.IsWhole)
    (x0 : Vec F S2560x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2)
    (hw : word c i xt2 = 0#32) (x3 : Vec F S2560x256 .bf16) (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ (∃ d, owns (c : Thread nD τ) arg9 fullShare d) ∗ tbPt0 c tbM0_0 xt0 ∗ tbPt0 c tbM0_1 xt1 ∗ tbPt0 c tbM0_2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ (∃ f, arg9.view.loc (c : Thread nD τ) ↦[arg9.view.set]{fullShare} f) ∗ tbPt0 c tbM0_0 xt0 ∗ tbPt0 c tbM0_1 xt1 ∗ tbPt0 c tbM0_2 xt2) -∗ K ⟨⟩))
      ⊢ wp frame (wpE (defs₀ (F := F)) Variants.none c none) E (cc0_ffn_gate_up i tbM0_0 htbM0_0 tbM0_1 htbM0_1 tbM0_2 htbM0_2 arg5 harg5 arg6 harg6 arg7 harg7 arg8 harg8 arg9 harg9) K := by
  simp only [cc0_ffn_gate_up_eq_skeleton]; unfold cc0_ffn_gate_up_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%ds0, %fs0, -, HS0⟩, HT0, HT1, HT2, Hk⟩
  obtain rfl := harg5.eq_unread hf0; obtain rfl := harg6.eq_unread hf1; obtain rfl := harg7.eq_unread hf2
  have h1 : ¬ Scalar.cmpi .ne (Scalar.extui (Scalar.cmpi .sgt (word c i xt2) 0#32) : BitVec 32) 0#32 = 1#1 := by
    rw [hw]; decide +kernel
  sl_exec (disch := first | (refine word_pos hw ?_; decide +kernel) | (refine word_neg hw ?_; decide +kernel) | sl_exact h1)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact hf3
    iexact H3
  isplitl [HS0]; · iexists _; iexact HS0
  isplitl [HT0]; · iexact HT0
  isplitl [HT1]; · iexact HT1
  iexact HT2

end Cert.Moe

end
-- ==== Proof.Moe.Run.lean ====
module

public import proofs.«01_k».proof.Proof.Moe.Body

@[expose] public section

set_option maxRecDepth 16384

noncomputable section

/-! # The run of the experts' first half -/

namespace Cert.Moe

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Whatever number of units is in use, the stores fill the block. -/
theorem stores_cover (u : ℕ) (hu : 1 ≤ u) (hu' : u ≤ 10) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg9 : Memref sig .tc .vmem S4096x512 .bf16)
    (x0 : Vec F S2560x4096 .bf16) (x1 : Vec F S1x4096x256 .f32) (x2 : Vec F S1x4096x256 .f32) (y : S2560x256.Idx) : ∃ pc ∈ stores u arg5 harg5 arg6 harg6 arg7 harg7 arg9 x0 x1 x2, y ∈ pc.1.set := by
  obtain rfl | rfl | rfl | rfl | rfl | rfl | rfl | rfl | rfl | rfl : u = 1 ∨ u = 2 ∨ u = 3 ∨ u = 4 ∨ u = 5 ∨ u = 6 ∨ u = 7 ∨ u = 8 ∨ u = 9 ∨ u = 10 := by omega
  all_goals exact View.cover_of_tiledBy _ ![256, 256] (by sl_kernel_rfl) y

/-- What the stores leave. -/
def filled (u : ℕ) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg9 : Memref sig .tc .vmem S4096x512 .bf16)
    (x0 : Vec F S2560x4096 .bf16) (x1 : Vec F S1x4096x256 .f32) (x2 : Vec F S1x4096x256 .f32) : Vec F S2560x256 .bf16 :=
  VO0_3.read (Elt F) (VO0_3.writes (Elt F) VO0_3.junk (stores u arg5 harg5 arg6 harg6 arg7 harg7 arg9 x0 x1 x2))

/-- The number of units in use in the block of a point. -/
def uAt (t : Fin grid0.N) : ℕ := (word (F := F) 0 (grid0.coords t) (tbl m 2)).toNat

theorem word_eq (c : Dev nD) (t : Fin grid0.N) : word (F := F) c (grid0.coords t) (tbl m 2) = BitVec.ofNat 32 (uAt m t) := by
  obtain rfl : c = 0 := Subsingleton.elim _ _
  unfold uAt; rw [BitVec.ofNat_toNat, BitVec.setWidth_eq]

theorem idle_word : ∀ u : Fin 11,
    (!(k0_cond2 (BitVec.ofNat 32 u.val) == 1#1) && !(k0_cond3 (BitVec.ofNat 32 u.val) == 1#1) && !(k0_cond4 (BitVec.ofNat 32 u.val) == 1#1) && !(k0_cond5 (BitVec.ofNat 32 u.val) == 1#1) && !(k0_cond6 (BitVec.ofNat 32 u.val) == 1#1) && !(k0_cond7 (BitVec.ofNat 32 u.val) == 1#1) && !(k0_cond8 (BitVec.ofNat 32 u.val) == 1#1) && !(k0_cond9 (BitVec.ofNat 32 u.val) == 1#1) && !(k0_cond10 (BitVec.ofNat 32 u.val) == 1#1) && !(k0_cond11 (BitVec.ofNat 32 u.val) == 1#1) && !(k0_cond12 (BitVec.ofNat 32 u.val) == 1#1) && !(k0_cond13 (BitVec.ofNat 32 u.val) == 1#1) && !(k0_cond14 (BitVec.ofNat 32 u.val) == 1#1) && !(k0_cond15 (BitVec.ofNat 32 u.val) == 1#1) && !(k0_cond16 (BitVec.ofNat 32 u.val) == 1#1)) = decide (u.val = 0) := by
  decide +kernel

/-- What the tables must say for the points' stores: no block has more than 10 units in use, the first has some, and
    one with none has the output's block that the point before has. -/
structure Reg (hO : Ok m) : Prop where
  le : ∀ t, uAt m t ≤ 10
  first : ∀ t : Fin grid0.N, t.val = 0 → uAt m t ≠ 0
  keep : ∀ t : Fin (cfgM m hO).N, t.val ≠ 0 → uAt m t = 0 →
    ((cfgM m hO).win 3).flush ⟨t.val - 1, Nat.lt_of_le_of_lt (Nat.sub_le _ _) t.isLt⟩ = false

theorem idle_eq (hO : Ok m) (hR : Reg m hO) (t : Fin (cfgM m hO).N) :
    (cfgM m hO).idle 3 ((cfgM m hO).grid.coords t) = decide (uAt m t = 0) := by
  have hD : (tbl m).atD 2 (k0_off1 (grid0.coords t)) = BitVec.ofNat 32 (uAt m t) := by
    rw [← word_eq m 0 t]
    have hb : ∀ a : Fin 1, k0_off1 (grid0.coords t) a + 1 ≤ S14.size a := fun a => by
      obtain rfl : a = 0 := Subsingleton.elim _ _
      exact k0_off1_inb (grid0.coords t) 0
    refine (dif_pos hb).trans ?_
    refine congrArg (tbl m 2) (funext fun a => Fin.ext ?_)
    obtain rfl : a = (0 : Fin 1) := Subsingleton.elim (α := Fin 1) _ _
    show _ = _ + 1 * _
    rw [Nat.one_mul]
    exact (Nat.add_zero _).symm.trans (congrArg₂ (· + ·) rfl (Nat.lt_one_iff.mp (Fin.isLt (n := 1) _)).symm)
  have h := idle_word ⟨uAt m t, Nat.lt_succ_of_le (hR.le t)⟩
  dsimp only at h
  rw [← h, ← hD]
  rfl

/-- What the output's staging buffer holds after a point: what the point stores, or, none of the block's units being
    in use, what it held. -/
def outsAt0 (hO : Ok m) (c : Dev nD) : (n : ℕ) → n < (cfgM m hO).N → Vec F S2560x256 .bf16
  | 0, hn => filled (uAt m ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) scM0_0 (iblk m hO c 0 ⟨0, hn⟩) (iblk m hO c 1 ⟨0, hn⟩) (iblk m hO c 2 ⟨0, hn⟩)
  | n + 1, hn =>
    if uAt m ⟨n + 1, hn⟩ = 0 then outsAt0 hO c n (Nat.lt_of_succ_lt hn)
    else filled (uAt m ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) scM0_0 (iblk m hO c 0 ⟨n + 1, hn⟩) (iblk m hO c 1 ⟨n + 1, hn⟩) (iblk m hO c 2 ⟨n + 1, hn⟩)

theorem outsAt0_used (hO : Ok m) (c : Dev nD) (t : Fin (cfgM m hO).N) (h : uAt m t ≠ 0) :
    outsAt0 m hO c t.val t.isLt = filled (uAt m t) (ms0_0 m hO t) (hs0_0 m hO t) (ms0_1 m hO t) (hs0_1 m hO t) (ms0_2 m hO t) (hs0_2 m hO t) scM0_0 (iblk m hO c 0 t) (iblk m hO c 1 t) (iblk m hO c 2 t) := by
  obtain ⟨n, hn⟩ := t
  cases n with
  | zero => rfl
  | succ n => rw [outsAt0, if_neg h]

theorem outsAt0_unused (hO : Ok m) (c : Dev nD) (t : Fin (cfgM m hO).N) (h0 : t.val ≠ 0) (h : uAt m t = 0) :
    outsAt0 m hO c t.val t.isLt = outsAt0 m hO c (t.val - 1) (Nat.lt_of_le_of_lt (Nat.sub_le _ _) t.isLt) := by
  obtain ⟨n, hn⟩ := t
  cases n with
  | zero => exact absurd rfl h0
  | succ n => rw [outsAt0, if_pos h]; rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t.val t.isLt)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t.val t.isLt) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

theorem before0_3 (hO : Ok m) (hR : Reg m hO) (c : Dev nD) : ∀ (n : ℕ) (hn : n < (cfgM m hO).N), n ≠ 0 → uAt m ⟨n, hn⟩ = 0 → ∀ d,
    (dats m hO 0 c).before 3 ⟨n, hn⟩ d = outsAt0 m hO c (n - 1) (Nat.lt_of_le_of_lt (Nat.sub_le _ _) hn) := by
  intro n
  induction n with
  | zero => intro hn h; exact absurd rfl h
  | succ n ih =>
    intro hn h0 hu d
    have hi := idle_eq m hO hR ⟨n, Nat.lt_of_succ_lt hn⟩
    rw [(dats m hO 0 c).before_of_pos 3 ⟨n + 1, hn⟩ h0 (((cfgM m hO).win 3).fetch_out rfl _), hR.keep ⟨n + 1, hn⟩ h0 hu, if_neg Bool.false_ne_true]
    show (dats m hO 0 c).left 3 ⟨n, Nat.lt_of_succ_lt hn⟩ d = outsAt0 m hO c n (Nat.lt_of_succ_lt hn)
    unfold Dat.left
    by_cases hp : uAt m ⟨n, Nat.lt_of_succ_lt hn⟩ = 0
    · rw [hi, decide_eq_true hp]
      have hn0 : n ≠ 0 := fun h => hR.first ⟨n, Nat.lt_of_succ_lt hn⟩ h hp
      exact (ih (Nat.lt_of_succ_lt hn) hn0 hp d).trans (outsAt0_unused m hO c ⟨n, Nat.lt_of_succ_lt hn⟩ hn0 hp).symm
    · rw [hi, decide_eq_false hp]
      dsimp only
      unfold Dat.kept
      rw [Pipeline.fill_of_clip_none (cfg := cfgM m hO) 3 _ (fun _ => rfl) d ((dats m hO 0 c).after 3 ⟨n, Nat.lt_of_succ_lt hn⟩), Pipeline.Window.fill_cut, after0_3]

/-- A buffer at what a point leaves there is what the point has to leave. -/
theorem leaves_of_after (hO : Ok m) (hR : Reg m hO) (c : Dev nD) (t : Fin (cfgM m hO).N) (h : uAt m t ≠ 0 ∨ t.val ≠ 0) :
    owns (c : Thread nD τ) (ms0_3 m hO t) fullShare (outsAt0 m hO c t.val t.isLt) ⊢ ((dats m hO 0 c).leavesExact 3 t : sProp 𝕄) := by
  rw [← after0_3]
  by_cases hu : uAt m t = 0
  · have hi := (idle_eq m hO hR t).trans (decide_eq_true hu)
    have h0 : t.val ≠ 0 := h.resolve_left fun hn => hn hu
    cases hf : ((cfgM m hO).win 3).flush t
    · rw [(dats m hO 0 c).leavesExact_idle 3 t hi hf, after0_3]
      iintro H
      iexists fun _ => default
      rw [before0_3 m hO hR c t.val t.isLt h0 hu, ← outsAt0_unused m hO c t h0 hu]
      iexact H
    · unfold Dat.leavesExact; rw [hi, hf]; exact .rfl
  · have hi := (idle_eq m hO hR t).trans (decide_eq_false hu)
    unfold Dat.leavesExact; rw [hi]; exact .rfl

/-- The kernel's body at a point, on what it is called with there. -/
abbrev bodyAt0 (a : (pcfg0 (F := F)).Adm) (t : Fin (cfg0 a).N) : Prog (TpuEff nD τ sig (Elt F) Λ₀ .tc) PUnit :=
  cc0_ffn_gate_up (grid0.coords t) tbM0_0 htbM0_0 tbM0_1 htbM0_1 tbM0_2 htbM0_2 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) scM0_0 (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (dats m hO 0 c).leavesExact 3 t)

set_option maxHeartbeats 1200000 in
theorem sound_body (hO : Ok m) (hR : Reg m hO) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq, PhiA0_eq]
  by_cases hu : uAt m t = 0
  · have h0 : t.val ≠ 0 := fun h => hR.first t h hu
    simp only [before0_3 m hO hR c t.val t.isLt h0 hu]
    iintro ⟨⟨⟨HS0, Hg⟩, ⟨HT0, HT1, HT2⟩⟩, Ho, ⟨%d0, H0⟩, ⟨%d1, H1⟩, ⟨%d2, H2⟩, ⟨%d3, H3⟩⟩
    iapply (run_unused c (grid0.coords t) _ _ _ _ _ _ _ _ _ _ (iblk m hO c 0 t) (iblk m hO c 1 t) (iblk m hO c 2 t) (tbl m 0) (tbl m 1) (tbl m 2) ((word_eq m c t).trans (congrArg (BitVec.ofNat 32) hu)) _ Set.univ _)
    isplitl [H0]; · iexact H0
    isplitl [H1]; · iexact H1
    isplitl [H2]; · iexact H2
    isplitl [H3]; · iexact H3
    isplitl [HS0]; · iexact HS0
    isplitl [HT0]; · iexact HT0
    isplitl [HT1]; · iexact HT1
    isplitl [HT2]; · iexact HT2
    iintro ⟨H0, H1, H2, H3, ⟨%fT0, HS0⟩, HT0, HT1, HT2⟩
    isplitl [HS0 Hg HT0 HT1 HT2]
    · isplitl [HS0 Hg]
      · isplitl [HS0]
        · iexists _; unfold owns; iexists _; isplitr
          swap; · iexact HS0
          ipureintro; rfl
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    iapply (leaves_of_after m hO hR c t (.inr h0))
    rw [outsAt0_unused m hO c t h0 hu]
    iexact H3
  · have hu1 : 1 ≤ uAt m t := Nat.one_le_iff_ne_zero.mpr hu
    iintro ⟨⟨⟨HS0, Hg⟩, ⟨HT0, HT1, HT2⟩⟩, Ho, ⟨%d0, H0⟩, ⟨%d1, H1⟩, ⟨%d2, H2⟩, ⟨%d3, H3⟩⟩
    iapply (run_used c (grid0.coords t) _ _ _ _ _ _ _ _ _ _ (iblk m hO c 0 t) (iblk m hO c 1 t) (iblk m hO c 2 t) (tbl m 0) (tbl m 1) (tbl m 2) (uAt m t) hu1 (hR.le t) (word_eq m c t) Set.univ _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    isplitl [HT2]; · iexact HT2
    iintro ⟨H0, H1, H2, ⟨%e3, H3⟩, ⟨%fT0, HS0⟩, HT0, HT1, HT2⟩
    isplitl [HS0 Hg HT0 HT1 HT2]
    · isplitl [HS0 Hg]
      · isplitl [HS0]
        · iexists _; unfold owns; iexists _; isplitr
          swap; · iexact HS0
          ipureintro; rfl
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    iapply (leaves_of_after m hO hR c t (.inl hu))
    rw [outsAt0_used m hO c t hu]
    unfold filled
    unfold owns; iexists _; isplitr
    swap; · iexact H3
    ipureintro; exact View.read_writes_of_cover _ _ _ _ _ (stores_cover _ hu1 (hR.le t) _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hR : Reg m hO) (c : Dev nD) : BodyObligation (dats (F := F) m hO 0 c) (defs₀ (F := F)) Variants.none () Set.univ := fun t => by
  rw [bigSep_W0, bigSep_W0, defs₀_row m hO]
  exact triple_restated (sound_body m hO hR c t) rfl .rfl fun _ => .rfl
set_option backward.isDefEq.respectTransparency.types false in
set_option maxHeartbeats 800000 in
theorem run_main_quiescent (hO : Ok m) (hR : Reg m hO) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around (Q' := _) pcfgs (fun _ => adm m hO) (dats m hO) (0 : Fin 1) launch0 defs₀ Variants.none m ρ main
    (hbody := fun c => (body_obligation m hO hR c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

theorem run_main (hO : Ok m) (hR : Reg m hO) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO hR)

theorem unchanged (hO : Ok m) (hR : Reg m hO) : θ_run defs (onTc (τ := τ) (main (F := F))) ⟨m, fun _ => 0, ρ⟩ (Same m) :=
  frame_of m ρ hO (dats m hO) (A_eq m hO) (run_main m ρ hO hR)

theorem frame (hO : Ok m) (hR : Reg m hO) : θ_run defs (onTc (τ := τ) (main (F := F))) ⟨m, fun _ => 0, ρ⟩ (fun r => Same m r ∧ r.2.sem = fun _ => 0) :=
  θ_run_and (unchanged m ρ hO hR) ((θ_run defs _ _).mono (fun _ h => h.2) (run_main_quiescent m ρ hO hR))

end Cert.Moe

end
-- ==== Proof.Moe.Plan.lean ====
module

public import proofs.«01_k».proof.Pre_planned
public import proofs.«01_k».proof.Proof.Gen.Pre_planned
public import Idealize.ShloMosaic.Lib.ReduceAll
public import Idealize.ShloMosaic.Lib.Pointwise
public import Idealize.ShloMosaic.Lib.Tactic.WordOmega

@[expose] public section

noncomputable section

/-! # What the precondition says of the tables, in natural numbers -/

namespace Cert.Moe

open Idealize.ShloMosaic
open Cert.Pre_planned (S14 S16400 S16400x14 S_)

/-- Fourteen blocks of 2560 rows, the experts' rows in them: a block's expert, its number of 256-row units in use, and
    the block whose rows it takes, which is itself or, for a block with no rows, that of the block before. -/
structure Plan (dest e : IVec S16400 32) (src expert units : IVec S14 32) : Prop where
  le : ∀ b : Fin 14, (units (ix1 b)).toNat ≤ 10
  ex : ∀ b : Fin 14, (expert (ix1 b)).toNat < 8
  sr : ∀ b : Fin 14, (src (ix1 b)).toNat < 14
  used : ∀ b : Fin 14, (units (ix1 b)).toNat ≠ 0 → (src (ix1 b)).toNat = b.val
  first : ∀ b : Fin 14, (units (ix1 b)).toNat = 0 → b.val ≠ 0
  idle : ∀ b b' : Fin 14, (units (ix1 b)).toNat = 0 → b'.val + 1 = b.val → src (ix1 b) = src (ix1 b')
  dest_lt : ∀ a : Fin 16400, (dest (ix1 a)).toNat < 35840
  rows : ∀ (a : Fin 16400) (b : Fin 14), 2560 * b.val ≤ (dest (ix1 a)).toNat → (dest (ix1 a)).toNat < 2560 * b.val + 2560 →
    (dest (ix1 a)).toNat < 2560 * b.val + 256 * (units (ix1 b)).toNat ∧ expert (ix1 b) = e (ix1 a)

instance : Subsingleton S_.Idx := ⟨fun a b => funext fun i => i.elim0⟩

variable {F : FTy → Type} [FloatOps F]

theorem range_of {x : BitVec 32} {n : ℕ} (hn : n < 2 ^ 31) (h0 : IntOp.cmpi .sge x 0#32 = 1#1) (h1 : IntOp.cmpi .slt x (BitVec.ofNat 32 n) = 1#1) : x.toNat < n := by
  word_omega

theorem range_le {x : BitVec 32} {n : ℕ} (hn : n < 2 ^ 31) (h0 : IntOp.cmpi .sge x 0#32 = 1#1) (h1 : IntOp.cmpi .sle x (BitVec.ofNat 32 n) = 1#1) : x.toNat ≤ n := by
  word_omega

theorem pos_of {x : BitVec 32} (h : IntOp.cmpi .sgt x 0#32 = 1#1) : x.toNat ≠ 0 := by
  word_omega

theorem eq_of {x y : BitVec 32} (h : IntOp.cmpi .eq x y = 1#1) : x = y := by
  word_omega

theorem mul_word (c n : ℕ) (x : BitVec 32) (hx : x.toNat = n) : IntOp.muli (BitVec.ofNat 32 c) x = BitVec.ofNat 32 (c * n) := by
  subst hx
  refine BitVec.eq_of_toNat_eq ?_
  show (BitVec.ofNat 32 c * x).toNat = _
  rw [BitVec.toNat_mul, BitVec.toNat_ofNat, BitVec.toNat_ofNat, Nat.mod_mul_mod]

theorem place (x : BitVec 32) (b u : ℕ) (w : BitVec 32) (hb : b < 14) (hu : u ≤ 10) (hw : w.toNat = u) (hx : x.toNat < 35840) (p : Prop)
    (h : (IntOp.cmpi .slt x (IntOp.muli 2560#32 (BitVec.ofNat 32 b)) = 1#1 ∨
      IntOp.cmpi .sle (IntOp.addi (IntOp.muli 2560#32 (BitVec.ofNat 32 b)) 2560#32) x = 1#1) ∨
      (IntOp.cmpi .slt x (IntOp.addi (IntOp.muli 2560#32 (BitVec.ofNat 32 b)) (IntOp.muli 256#32 w)) = 1#1 ∧ p))
    (h1 : 2560 * b ≤ x.toNat) (h2 : x.toNat < 2560 * b + 2560) : x.toNat < 2560 * b + 256 * u ∧ p := by
  have e1 : IntOp.muli 2560#32 (BitVec.ofNat 32 b) = BitVec.ofNat 32 (2560 * b) := mul_word 2560 b _ (by rw [BitVec.toNat_ofNat]; omega)
  have e2 : IntOp.muli 256#32 w = BitVec.ofNat 32 (256 * u) := mul_word 256 u _ hw
  rw [e1, e2] at h
  obtain ⟨n, hn⟩ : ∃ n, n = 2560 * b := ⟨_, rfl⟩
  obtain ⟨k, hk⟩ : ∃ k, k = 256 * u := ⟨_, rfl⟩
  rw [← hn, ← hk] at h
  rcases h with (h | h) | ⟨h, hp⟩
  · exfalso; word_omega
  · exfalso; word_omega
  · refine ⟨?_, hp⟩; word_omega

theorem before_zero (h : Shape.Concatenates [Cert.Pre_planned.S1, Cert.Pre_planned.S13] S14 0) (x : IVec Cert.Pre_planned.S1 32) (y : IVec Cert.Pre_planned.S13 32) (b : Fin 14) (b' : Fin 13) (hb : b'.val + 1 = b.val) :
    concatenate S14 0 [⟨Cert.Pre_planned.S1, x⟩, ⟨Cert.Pre_planned.S13, y⟩] h (ix1 b) = y (ix1 b') :=
  concatenate_pair_apply_right (t := S14) (s₁ := Cert.Pre_planned.S1) (s₂ := Cert.Pre_planned.S13) (0 : Fin 1) x y h (ix1 b) rfl rfl (ix1 b')
    (fun k hk => absurd (Subsingleton.elim (α := Fin 1) _ _) hk) hb

theorem plan_of (x : FVec F Cert.Pre_planned.S35840x4096 .f32) (dest e : IVec S16400 32) (src expert units : IVec S14 32) (wg wu : FVec F Cert.Pre_planned.S8x4096x14336 .f32)
    (h : Cert.Pre_planned.fn (F := F) x dest e src expert units wg wu = fun _ => 1#1) : Plan dest e src expert units := by
  have h0 := congrFun h ix0
  unfold Cert.Pre_planned.fn Cert.Pre_planned.fn_part1 Cert.Pre_planned.fn_part2 Cert.Pre_planned.fn_part3 Cert.Pre_planned.fn_where at h0
  dsimp only at h0
  simp only [andi_apply] at h0
  obtain ⟨h1, h2⟩ := IntOp.andi_eq_one.mp h0
  obtain ⟨h1, h3⟩ := IntOp.andi_eq_one.mp h1
  have hb := fun b : Fin 14 => Host.reduce_andi_all _ _ _ _ _ h1 (ix1 b)
  have hd := fun a : Fin 16400 => Host.reduce_andi_all _ _ _ _ _ h3 (ix1 a)
  have hr := fun (a : Fin 16400) (b : Fin 14) => Host.reduce_andi_all _ _ _ _ _ h2 (ix2 a b)
  clear h0 h1 h2 h3 h
  simp only [andi_apply] at hb hd
  have hu : ∀ b : Fin 14, (units (ix1 b)).toNat ≤ 10 := fun b => by
    obtain ⟨h1, _⟩ := IntOp.andi_eq_one.mp (hb b)
    obtain ⟨h1, _⟩ := IntOp.andi_eq_one.mp h1
    obtain ⟨h1, _⟩ := IntOp.andi_eq_one.mp h1
    obtain ⟨h1, _⟩ := IntOp.andi_eq_one.mp h1
    obtain ⟨h1, _⟩ := IntOp.andi_eq_one.mp h1
    obtain ⟨h1, _⟩ := IntOp.andi_eq_one.mp h1
    obtain ⟨h1, h2⟩ := IntOp.andi_eq_one.mp h1
    exact range_le (by decide) h1 h2
  have hx : ∀ b : Fin 14, (expert (ix1 b)).toNat < 8 := fun b => by
    obtain ⟨h1, _⟩ := IntOp.andi_eq_one.mp (hb b)
    obtain ⟨h1, _⟩ := IntOp.andi_eq_one.mp h1
    obtain ⟨h1, _⟩ := IntOp.andi_eq_one.mp h1
    obtain ⟨h1, _⟩ := IntOp.andi_eq_one.mp h1
    obtain ⟨h1, h2⟩ := IntOp.andi_eq_one.mp h1
    obtain ⟨_, h1⟩ := IntOp.andi_eq_one.mp h1
    exact range_of (by decide) h1 h2
  have hs : ∀ b : Fin 14, (src (ix1 b)).toNat < 14 := fun b => by
    obtain ⟨h1, _⟩ := IntOp.andi_eq_one.mp (hb b)
    obtain ⟨h1, _⟩ := IntOp.andi_eq_one.mp h1
    obtain ⟨h1, h2⟩ := IntOp.andi_eq_one.mp h1
    obtain ⟨_, h1⟩ := IntOp.andi_eq_one.mp h1
    exact range_of (by decide) h1 h2
  have hw : ∀ b : Fin 14, src (ix1 b) = Scalar.select (IntOp.cmpi .sgt (units (ix1 b)) 0#32) (BitVec.ofNat 32 b.val) (concatenate S14 0
      [⟨Cert.Pre_planned.S1, broadcastInDim Cert.Pre_planned.S1 ![] Cert.Pre_planned.Gen.bcast_S_S1 (constantI S_ 32 0#32)⟩,
        ⟨Cert.Pre_planned.S13, extractStridedSlice Cert.Pre_planned.S13 ![0] src Cert.Pre_planned.Gen.slices_S14_S13_0⟩] Cert.Pre_planned.Gen.concatenates_S1_S13_S14_d0 (ix1 b)) := fun b => by
    obtain ⟨h1, _⟩ := IntOp.andi_eq_one.mp (hb b)
    obtain ⟨_, h2⟩ := IntOp.andi_eq_one.mp h1
    exact eq_of h2
  have hp : ∀ b : Fin 14, IntOp.cmpi .sgt (units (ix1 b)) 0#32 = 1#1 ∨ IntOp.cmpi .sgt (BitVec.ofNat 32 b.val) 0#32 = 1#1 := fun b => by
    obtain ⟨_, h2⟩ := IntOp.andi_eq_one.mp (hb b)
    exact IntOp.ori_eq_one.mp h2
  have hr' : ∀ (a : Fin 16400) (b : Fin 14), (IntOp.cmpi .slt (dest (ix1 a)) (IntOp.muli 2560#32 (BitVec.ofNat 32 b.val)) = 1#1 ∨
      IntOp.cmpi .sle (IntOp.addi (IntOp.muli 2560#32 (BitVec.ofNat 32 b.val)) 2560#32) (dest (ix1 a)) = 1#1) ∨
      (IntOp.cmpi .slt (dest (ix1 a)) (IntOp.addi (IntOp.muli 2560#32 (BitVec.ofNat 32 b.val)) (IntOp.muli 256#32 (units (ix1 b)))) = 1#1 ∧
        IntOp.cmpi .eq (expert (ix1 b)) (e (ix1 a)) = 1#1) := fun a b => by
    have h : IntOp.ori (IntOp.ori (IntOp.cmpi .slt (dest (ix1 a)) (IntOp.muli 2560#32 (BitVec.ofNat 32 b.val)))
        (IntOp.cmpi .sle (IntOp.addi (IntOp.muli 2560#32 (BitVec.ofNat 32 b.val)) 2560#32) (dest (ix1 a))))
        (IntOp.andi (IntOp.cmpi .slt (dest (ix1 a)) (IntOp.addi (IntOp.muli 2560#32 (BitVec.ofNat 32 b.val)) (IntOp.muli 256#32 (units (ix1 b)))))
          (IntOp.cmpi .eq (expert (ix1 b)) (e (ix1 a)))) = 1#1 := by
      refine Eq.trans ?_ (hr a b)
      clear hb hd hr hu hx hs hw hp
      pointwise
    rcases IntOp.ori_eq_one.mp h with h | h
    · exact Or.inl (IntOp.ori_eq_one.mp h)
    · exact Or.inr (IntOp.andi_eq_one.mp h)
  have hd' : ∀ a : Fin 16400, (dest (ix1 a)).toNat < 35840 := fun a => by
    obtain ⟨h1, h2⟩ := IntOp.andi_eq_one.mp (hd a)
    exact range_of (by decide) h1 h2
  refine ⟨hu, hx, hs, ?_, ?_, ?_, hd', ?_⟩
  · intro b hb0
    have h := hw b
    have hc : IntOp.cmpi .sgt (units (ix1 b)) 0#32 = 1#1 := by have := hu b; word_omega
    rw [hc] at h
    rw [h]
    show (BitVec.ofNat 32 b.val).toNat = _
    rw [BitVec.toNat_ofNat]; omega
  · intro b hb0 h0
    rcases hp b with h | h
    · exact pos_of h hb0
    · rw [h0] at h; exact absurd h (by decide)
  · intro b b' hb0 hb'
    have h := hw b
    have hc : IntOp.cmpi .sgt (units (ix1 b)) 0#32 = 0#1 := by word_omega
    rw [hc] at h
    refine h.trans (Eq.trans (b := concatenate S14 0 [⟨Cert.Pre_planned.S1, _⟩, ⟨Cert.Pre_planned.S13, _⟩] Cert.Pre_planned.Gen.concatenates_S1_S13_S14_d0 (ix1 b)) rfl ?_)
    refine (before_zero Cert.Pre_planned.Gen.concatenates_S1_S13_S14_d0 _ _ b ⟨b'.val, by omega⟩ hb').trans ?_
    exact congrArg src (funext fun k => Fin.ext (by obtain rfl : k = (0 : Fin 1) := Subsingleton.elim (α := Fin 1) _ _; show 0 + b'.val = b'.val; omega))
  · intro a b h1 h2
    have h := place (dest (ix1 a)) b.val _ (units (ix1 b)) b.isLt (hu b) rfl (hd' a) _ (hr' a b) h1 h2
    exact ⟨h.1, eq_of h.2⟩

end Cert.Moe

end
-- ==== Proof.Moe.Tables.lean ====
module

public import proofs.«01_k».proof.Proof.Moe.Run
public import proofs.«01_k».proof.Proof.Moe.Plan

@[expose] public section

set_option maxRecDepth 16384

noncomputable section

/-! # What the tables of a plan make the windows be -/

namespace Cert.Moe

open Cert.Kernel7Ideal Cert.Kernel7Ideal.Gen
open Idealize.ShloMosaic Idealize.ShloMosaic.TcCoe Idealize.ShloMosaic.Tactic Idealize.SL.Sem

variable {F : FTy → Type} [FloatOps F]

variable (m : (ℓ : Loc nD τ sig) → Buf (Elt F) ℓ)

abbrev dest : IVec S16400 32 := m (((0 : Dev nD).tc : Thread nD τ).loc main_arg1)
abbrev who : IVec S16400 32 := m (((0 : Dev nD).tc : Thread nD τ).loc main_arg2)
abbrev src : IVec S14 32 := m (((0 : Dev nD).tc : Thread nD τ).loc main_arg3)
abbrev expert : IVec S14 32 := m (((0 : Dev nD).tc : Thread nD τ).loc main_arg4)
abbrev units : IVec S14 32 := m (((0 : Dev nD).tc : Thread nD τ).loc main_arg5)

/-- The memory's tables are a plan's. -/
abbrev Planned : Prop := Plan (dest m) (who m) (src m) (expert m) (units m)

theorem off_eq (i : grid0.Coords) (z : Fin 1) : k0_off1 i (0 : Fin 1) + 1 * z.val = (i 0).val :=
  (congrArg₂ (· + ·) (congrFun (k0_off1_eq i) (0 : Fin 1)) ((Nat.one_mul _).trans (Nat.lt_one_iff.mp z.isLt))).trans (Nat.add_zero _)

theorem at0 (i : grid0.Coords) : (tbl m).at 0 (Rect.unit (s := S14) (k0_off1 i) S1.size (k0_off1_inb i)) numel1_S1 = src m (ix1 (i 0)) := by
  refine Eq.trans (b := tbl m 0 (ix1 (i 0))) (congrArg (tbl m 0) (funext fun a => Fin.ext ?_)) (congrFun (V_of m 0 main_arg3 (by decide)) _)
  obtain rfl : a = (0 : Fin 1) := Subsingleton.elim (α := Fin 1) _ _
  exact off_eq i _

theorem at1 (i : grid0.Coords) : (tbl m).at 1 (Rect.unit (s := S14) (k0_off1 i) S1.size (k0_off1_inb i)) numel1_S1 = expert m (ix1 (i 0)) := by
  refine Eq.trans (b := tbl m 1 (ix1 (i 0))) (congrArg (tbl m 1) (funext fun a => Fin.ext ?_)) (congrFun (V_of m 0 main_arg4 (by decide)) _)
  obtain rfl : a = (0 : Fin 1) := Subsingleton.elim (α := Fin 1) _ _
  exact off_eq i _

theorem at2 (i : grid0.Coords) : (tbl m).at 2 (Rect.unit (s := S14) (k0_off1 i) S1.size (k0_off1_inb i)) numel1_S1 = units m (ix1 (i 0)) := by
  refine Eq.trans (b := tbl m 2 (ix1 (i 0))) (congrArg (tbl m 2) (funext fun a => Fin.ext ?_)) (congrFun (V_of m 0 main_arg5 (by decide)) _)
  obtain rfl : a = (0 : Fin 1) := Subsingleton.elim (α := Fin 1) _ _
  exact off_eq i _

theorem uAt_eq (t : Fin grid0.N) : uAt m t = (units m (ix1 (grid0.coords t 0))).toNat := by
  refine congrArg BitVec.toNat (Eq.trans (b := tbl m 2 (ix1 (grid0.coords t 0))) (congrArg (tbl m 2) (funext fun a => Fin.ext ?_)) (congrFun (V_of m 0 main_arg5 (by decide)) _))
  obtain rfl : a = (0 : Fin 1) := Subsingleton.elim (α := Fin 1) _ _
  exact off_eq (grid0.coords t) _

/-- The column of blocks a point has: the last where no unit of its block of rows is in use. -/
def at55 (u n : ℕ) : ℕ := if u = 0 then 55 else n

theorem sel (w : BitVec 32) (n : ℕ) (hn : n < 56) : (Scalar.select (Scalar.cmpi .eq w 0#32) 55#32 (BitVec.ofNat 32 n)).toNat = at55 w.toNat n := by
  unfold at55
  split
  · rename_i h
    obtain rfl : w = 0#32 := BitVec.eq_of_toNat_eq h
    rfl
  · rename_i h
    have hc : Scalar.cmpi .eq w 0#32 = 0#1 := by
      have hw : ¬ w = 0#32 := fun e => h (congrArg BitVec.toNat e)
      show IntOp.cmpi .eq w 0#32 = 0#1
      word_omega
    rw [hc]
    show (BitVec.ofNat 32 n).toNat = n
    rw [BitVec.toNat_ofNat]; omega

theorem tr0 (i : grid0.Coords) : cc0_transform_0 k0_off1_inb numel1_S1 (tbl m) i = ![(src m (ix1 (i 0))).toNat, 0] :=
  congrArg (fun v : BitVec 32 => ![v.toNat, 0]) (at0 m i)

theorem tr1 (i : grid0.Coords) : cc0_transform_1 k0_off1_inb numel1_S1 (tbl m) i = ![(expert m (ix1 (i 0))).toNat, 0, at55 (units m (ix1 (i 0))).toNat (i 1).val] := by
  rw [← sel _ _ (i 1).isLt]
  exact congrArg₂ (fun v w : BitVec 32 => ![v.toNat, 0, (Scalar.select (Scalar.cmpi .eq w 0#32) 55#32 (BitVec.ofNat 32 (i 1).val)).toNat]) (at1 m i) (at2 m i)

theorem tr2 (i : grid0.Coords) : cc0_transform_2 k0_off1_inb numel1_S1 (tbl m) i = ![(expert m (ix1 (i 0))).toNat, 0, at55 (units m (ix1 (i 0))).toNat (i 1).val] := by
  rw [← sel _ _ (i 1).isLt]
  exact congrArg₂ (fun v w : BitVec 32 => ![v.toNat, 0, (Scalar.select (Scalar.cmpi .eq w 0#32) 55#32 (BitVec.ofNat 32 (i 1).val)).toNat]) (at1 m i) (at2 m i)

theorem tr3 (i : grid0.Coords) : cc0_transform_3 k0_off1_inb numel1_S1 (tbl m) i = ![(src m (ix1 (i 0))).toNat, at55 (units m (ix1 (i 0))).toNat (i 1).val] := by
  rw [← sel _ _ (i 1).isLt]
  exact congrArg₂ (fun v w : BitVec 32 => ![v.toNat, (Scalar.select (Scalar.cmpi .eq w 0#32) 55#32 (BitVec.ofNat 32 (i 1).val)).toNat]) (at0 m i) (at2 m i)

theorem at55_lt (u n : ℕ) (h : n < 56) : at55 u n < 56 := by unfold at55; split <;> omega

theorem whole0 : ∀ s : Fin 14, S35840x4096.WholeWordsAt (EltTy.packing .bf16) (fun a => (![s.val, 0] : Fin 2 → ℕ) a * S2560x4096.size a) S2560x4096.size (fun _ => 1) := by
  decide +kernel
theorem whole3 : ∀ (s : Fin 14) (n : Fin 56), S35840x14336.WholeWordsAt (EltTy.packing .bf16) (fun a => (![s.val, n.val] : Fin 2 → ℕ) a * S2560x256.size a) S2560x256.size (fun _ => 1) := by
  decide +kernel

theorem ok (hp : Planned m) : Ok m := by
  have hs := fun i : grid0.Coords => hp.sr (i 0)
  have he := fun i : grid0.Coords => hp.ex (i 0)
  have hn := fun i : grid0.Coords => at55_lt (units m (ix1 (i 0))).toNat (i 1).val (i 1).isLt
  refine ⟨fun i => ⟨fun a => ?_, .inr ((Rect.wholeWords_iff_at _ _).mpr ?_)⟩, fun i => ⟨fun a => ?_, .inl rfl⟩, fun i => ⟨fun a => ?_, .inl rfl⟩,
    fun i => ⟨fun a => ?_, .inr ((Rect.wholeWords_iff_at _ _).mpr ?_)⟩⟩
  · rw [tr0]
    have := hs i
    fin_cases a
    · show ((src m (ix1 (i 0))).toNat + 1) * 2560 ≤ 35840; omega
    · show (0 + 1) * 4096 ≤ 4096; omega
  · show S35840x4096.WholeWordsAt (EltTy.packing .bf16) (fun a => cc0_transform_0 k0_off1_inb numel1_S1 (tbl m) i a * S2560x4096.size a) S2560x4096.size (fun _ => 1)
    rw [tr0]; exact whole0 ⟨_, hs i⟩
  · rw [tr1]
    have := he i
    have := hn i
    fin_cases a
    · show ((expert m (ix1 (i 0))).toNat + 1) * 1 ≤ 8; omega
    · show (0 + 1) * 4096 ≤ 4096; omega
    · show (at55 (units m (ix1 (i 0))).toNat (i 1).val + 1) * 256 ≤ 14336; omega
  · rw [tr2]
    have := he i
    have := hn i
    fin_cases a
    · show ((expert m (ix1 (i 0))).toNat + 1) * 1 ≤ 8; omega
    · show (0 + 1) * 4096 ≤ 4096; omega
    · show (at55 (units m (ix1 (i 0))).toNat (i 1).val + 1) * 256 ≤ 14336; omega
  · rw [tr3]
    have := hs i
    have := hn i
    fin_cases a
    · show ((src m (ix1 (i 0))).toNat + 1) * 2560 ≤ 35840; omega
    · show (at55 (units m (ix1 (i 0))).toNat (i 1).val + 1) * 256 ≤ 14336; omega
  · show S35840x14336.WholeWordsAt (EltTy.packing .bf16) (fun a => cc0_transform_3 k0_off1_inb numel1_S1 (tbl m) i a * S2560x256.size a) S2560x256.size (fun _ => 1)
    rw [tr3]; exact whole3 ⟨_, hs i⟩ ⟨_, hn i⟩

theorem coords0 (t : Fin grid0.N) : (grid0.coords t 0).val = t.val / 56 := by
  rw [Pipeline.Grid.coords_val t 0 (S := 56) (B := 14) (by decide) rfl]
  have := lt_of_lt_of_eq t.isLt N_0; omega
theorem coords1 (t : Fin grid0.N) : (grid0.coords t 1).val = t.val % 56 := by
  rw [Pipeline.Grid.coords_val t 1 (S := 1) (B := 56) (by decide) rfl, Nat.div_one]

theorem index0 (hO : Ok m) (t : Fin (cfgM m hO).N) : ((cfgM m hO).win 0).index t = ![(src m (ix1 (grid0.coords t 0))).toNat, 0] := tr0 m (grid0.coords t)
theorem index1 (hO : Ok m) (t : Fin (cfgM m hO).N) : ((cfgM m hO).win 1).index t = ![(expert m (ix1 (grid0.coords t 0))).toNat, 0, at55 (units m (ix1 (grid0.coords t 0))).toNat (grid0.coords t 1).val] := tr1 m (grid0.coords t)
theorem index2 (hO : Ok m) (t : Fin (cfgM m hO).N) : ((cfgM m hO).win 2).index t = ![(expert m (ix1 (grid0.coords t 0))).toNat, 0, at55 (units m (ix1 (grid0.coords t 0))).toNat (grid0.coords t 1).val] := tr2 m (grid0.coords t)
theorem index3 (hO : Ok m) (t : Fin (cfgM m hO).N) : ((cfgM m hO).win 3).index t = ![(src m (ix1 (grid0.coords t 0))).toNat, at55 (units m (ix1 (grid0.coords t 0))).toNat (grid0.coords t 1).val] := tr3 m (grid0.coords t)

/-- The point before. -/
abbrev prev (t : Fin grid0.N) : Fin grid0.N := ⟨t.val - 1, Nat.lt_of_le_of_lt (Nat.sub_le _ _) t.isLt⟩

/-- A point whose block has no unit in use has the output's block of the point before. -/
theorem same (hO : Ok m) (hp : Planned m) (t : Fin (cfgM m hO).N) (h0 : t.val ≠ 0) (hu : uAt m t = 0) :
    ((cfgM m hO).win 3).index t = ((cfgM m hO).win 3).index (prev t) := by
  rw [index3, index3]
  rw [uAt_eq] at hu
  have hc := coords0 t
  have hc' := coords0 (prev t)
  have hd' := coords1 (prev t)
  have ht : t.val < 784 := lt_of_lt_of_eq t.isLt N_0
  by_cases h : t.val % 56 = 0
  · have hs := hp.idle (grid0.coords t 0) (grid0.coords (prev t) 0) hu (by rw [hc, hc']; show (t.val - 1) / 56 + 1 = t.val / 56; omega)
    have hn : (grid0.coords (prev t) 1).val = 55 := by rw [hd']; show (t.val - 1) % 56 = 55; omega
    rw [hs, hu, hn]
    unfold at55
    rw [if_pos rfl, ite_self]
  · have he : grid0.coords t 0 = grid0.coords (prev t) 0 := Fin.ext (by rw [hc, hc']; show t.val / 56 = (t.val - 1) / 56; omega)
    rw [← he, hu]
    rfl

theorem reg (hO : Ok m) (hp : Planned m) : Reg m hO where
  le t := by rw [uAt_eq]; exact hp.le _
  first t h hu := by
    rw [uAt_eq] at hu
    exact hp.first _ hu (by rw [coords0, h])
  keep t h0 hu := by
    unfold Pipeline.Window.flush
    rw [Bool.and_eq_false_iff]
    right
    simp only [Bool.or_eq_false_iff, decide_eq_false_iff_not]
    have ht := t.isLt
    change t.val < grid0.N at ht
    refine ⟨?_, fun ⟨h, hne⟩ => hne ?_⟩
    · show ¬ t.val - 1 + 1 = grid0.N
      omega
    · refine Eq.trans (congrArg _ (Fin.ext ?_)) (same m hO hp t h0 hu)
      show t.val - 1 + 1 = t.val
      omega

end Cert.Moe

end
-- ==== Proof.Moe.Bits.lean ====
module

public import proofs.«01_k».proof.Defs
public import proofs.«01_k».proof.Proof.Gen.Kernel7
public import proofs.«01_k».proof.Proof.Moe.Tables

@[expose] public section

noncomputable section

/-! # The kernel as it stands is the same program text as the ideal one, so the one run serves both -/

namespace Cert.Moe

open Idealize.ShloMosaic Idealize.ShloMosaic.TcCoe Idealize.SL.Sem

theorem body_eq : @Cert.Kernel7.cc0_ffn_gate_up Bits _ _ = @Cert.Kernel7Ideal.cc0_ffn_gate_up Bits _ _ := rfl

theorem defs₀_eq : Cert.Kernel7.defs₀ (F := Bits) = Cert.Kernel7Ideal.defs₀ (F := Bits) := by
  unfold Cert.Kernel7.defs₀ Cert.Kernel7Ideal.defs₀
  refine congrArg _ ?_
  funext l a
  match l, a with
  | 0, (t, s) => rfl

theorem pcfgs_eq : Cert.Kernel7.pcfgs (F := Bits) = Cert.Kernel7Ideal.pcfgs (F := Bits) := rfl

theorem defs_eq : Cert.Kernel7.defs (F := Bits) = Cert.Kernel7Ideal.defs (F := Bits) :=
  congrArg (Pipeline.defs (Cert.Kernel7Ideal.pcfgs (F := Bits))) defs₀_eq

set_option maxHeartbeats 4000000 in
theorem main_eq : Cert.Kernel7.main (F := Bits) = Cert.Kernel7Ideal.main (F := Bits) := rfl

theorem frame_kernel : Cert.quiescent_Kernel7 (hKernel7 := Cert.Kernel7.Gen.facts) (hPre_planned := Cert.Pre_planned.Gen.facts) := by
  intro m ρ hpre
  have hp : Planned (F := Bits) m := plan_of (F := Bits) _ _ _ _ _ _ _ _ (hpre 0)
  rw [defs_eq, main_eq]
  exact (θ_run Cert.Kernel7Ideal.defs _ _).mono (fun _ h => h) (frame (F := Bits) m ρ (ok m hp) (reg m (ok m hp) hp))

theorem frame_ideal : Cert.quiescent_Kernel7Ideal (hKernel7Ideal := Cert.Kernel7Ideal.Gen.facts) (hPre_planned := Cert.Pre_planned.Gen.facts) := by
  intro m ρ hpre
  have hp : Planned (F := Ideal) m := plan_of (F := Ideal) _ _ _ _ _ _ _ _ (hpre 0)
  exact frame (F := Ideal) m ρ (ok m hp) (reg m (ok m hp) hp)

end Cert.Moe

end
-- ==== Proof.Moe.Point.lean ====
module

public import proofs.«01_k».proof.Proof.Moe.Run
public import Idealize.ShloMosaic.Lib.Pipeline.ValueKit
public import Idealize.ShloMosaic.Lib.Pointwise

@[expose] public section

set_option maxRecDepth 16384

noncomputable section

/-! # What a point of the experts' first half leaves, entry by entry -/

namespace Cert.Moe

open Cert.Kernel7Ideal Cert.Kernel7Ideal.Gen Idealize.ShloMosaic Idealize.ShloMosaic.TcCoe Idealize.SL.Sem
open Idealize.ShloMosaic.Tactic

/-- The two halves of the scratch buffer side by side. -/
def join (a b : Vec Ideal S4096x256 .bf16) : Vec Ideal S4096x512 .bf16 := fun i =>
  if h : (i 1).val < 256 then a (ix2 ⟨(i 0).val, (i 0).isLt⟩ ⟨(i 1).val, h⟩)
  else b (ix2 ⟨(i 0).val, (i 0).isLt⟩ ⟨(i 1).val - 256, by have := (i 1).isLt; change (i 1).val < 512 at this; omega⟩)

theorem readCov_join (v : View sig .tc .vmem S4096x512 .bf16) (a b : Vec Ideal S4096x256 .bf16) :
    v.readCov [⟨Rect.unit (s := S4096x512) ![0, 256] ![4096, 256] inb_S4096x512_S4096x256_0_256, b⟩,
      ⟨Rect.unit (s := S4096x512) ![0, 0] ![4096, 256] inb_S4096x512_S4096x256_0_0, a⟩]
      (Rect.unit (s := S4096x512) ![0, 0] ![4096, 512] inb_S4096x512_S4096x512_0_0).toLoadRect = join a b := by
  rw [View.readCov_eq_canon']
  funext y
  refine Eq.trans (b := join a b ((Rect.unit (s := S4096x512) ![0, 0] ![4096, 512] inb_S4096x512_S4096x512_0_0).toLoadRect.idx y)) ?_ ?_
  · generalize (Rect.unit (s := S4096x512) ![0, 0] ![4096, 512] inb_S4096x512_S4096x512_0_0).toLoadRect.idx y = z
    canon_tiles x h
    · unfold join; rw [dif_neg (by omega)]; blk_ext
    · unfold join; rw [dif_pos (by omega)]; blk_ext
  · refine congrArg (join a b) ?_
    funext d
    fin_cases d
    all_goals exact Fin.ext (by simp [Rect.unit])

/-- The gate's product through silu, times the up product. -/
def glu (g u : EReal) : EReal := g * Ideal.logistic g * u

/-- The product of a block's row and a column of one expert's weights. -/
def col (x0 : Vec Ideal S2560x4096 .bf16) (x : Vec Ideal S1x4096x256 .f32) (y : S2560x256.Idx) : EReal :=
  ∑ k : Fin 4096, (x0 (ix2 ⟨(y 0).val, (y 0).isLt⟩ k) : EReal) * x (ix3 0 k ⟨(y 1).val, (y 1).isLt⟩)

abbrev half (x : Vec Ideal S1x4096x256 .f32) : Vec Ideal S4096x256 .bf16 :=
  truncf (F := Ideal) .bf16 (shapeCast S4096x256 x shapeCasts_S1x4096x256_S4096x256) bitsLt_bf16_f32

theorem join_left (x1 x2 : Vec Ideal S1x4096x256 .f32) (k : Fin 4096) (n : Fin 512) (h : n.val < 256) :
    join (half x1) (half x2) (ix2 k n) = x1 (ix3 0 k ⟨n.val, h⟩) := by
  unfold join
  rw [dif_pos (show ((ix2 k n : S4096x512.Idx) 1).val < 256 from h)]
  pointwise

theorem join_right (x1 x2 : Vec Ideal S1x4096x256 .f32) (k : Fin 4096) (n : Fin 512) (h : 256 ≤ n.val) :
    join (half x1) (half x2) (ix2 k n) = x2 (ix3 0 k ⟨n.val - 256, by omega⟩) := by
  unfold join
  rw [dif_neg (show ¬ ((ix2 k n : S4096x512.Idx) 1).val < 256 from Nat.not_lt.2 h)]
  pointwise

section
variable (arg5 : Memref sig .tc .vmem S2560x4096 .bf16) (harg5 : arg5.IsWhole) (arg6 : Memref sig .tc .vmem S1x4096x256 .f32) (harg6 : arg6.IsWhole)
    (arg7 : Memref sig .tc .vmem S1x4096x256 .f32) (harg7 : arg7.IsWhole) (arg9 : Memref sig .tc .vmem S4096x512 .bf16)
    (x0 : Vec Ideal S2560x4096 .bf16) (x1 : Vec Ideal S1x4096x256 .f32) (x2 : Vec Ideal S1x4096x256 .f32)

theorem pay5_eq (x : Vec Ideal S1x4096x256 .f32) : k0_pay5 (F := Ideal) x = half x := by
  funext i
  open_payloads
  pointwise
theorem pay6_eq (x : Vec Ideal S1x4096x256 .f32) : k0_pay6 (F := Ideal) x = half x := by
  funext i
  open_payloads
  pointwise

theorem whole_read (arg : Memref sig .tc .vmem S1x4096x256 .f32) (harg : arg.IsWhole) (x : Vec Ideal S1x4096x256 .f32) :
    arg.view.readAt (Elt Ideal) (Rect.unit (s := S1x4096x256) ![0, 0, 0] S1x4096x256.size inb_S1x4096x256_S1x4096x256_0_0_0).toLoadRect (harg.unread x) = x := by
  rw [View.readAt_eq_ld, Memref.IsWhole.read_unread]
  exact View.ld_unit_lit' _ _ (by decide)

theorem wts_eq : wts arg6 harg6 arg7 harg7 arg9 x1 x2 = join (half x1) (half x2) := by
  unfold wts
  rw [whole_read, whole_read, pay5_eq, pay6_eq]
  exact readCov_join _ _ _

theorem rows512_at (o : ℕ) (h : ∀ a, (![o, 0] : Fin 2 → ℕ) a + S512x4096.size a ≤ S2560x4096.size a) (r : Fin 512) (s : Fin 2560) (hs : s.val = o + r.val) (k : Fin 4096) :
    rows512 arg5 harg5 x0 o h (ix2 r k) = x0 (ix2 s k) := by
  unfold rows512
  rw [View.readAt_eq_ld, Memref.IsWhole.read_unread]
  refine View.ld_unit_apply_of _ _ _ _ _ _ fun a => ?_
  fin_cases a
  · exact hs
  · exact (Nat.zero_add _).symm

theorem rows256_at (o : ℕ) (h : ∀ a, (![o, 0] : Fin 2 → ℕ) a + S256x4096.size a ≤ S2560x4096.size a) (r : Fin 256) (s : Fin 2560) (hs : s.val = o + r.val) (k : Fin 4096) :
    rows256 arg5 harg5 x0 o h (ix2 r k) = x0 (ix2 s k) := by
  unfold rows256
  rw [View.readAt_eq_ld, Memref.IsWhole.read_unread]
  refine View.ld_unit_apply_of _ _ _ _ _ _ fun a => ?_
  fin_cases a
  · exact hs
  · exact (Nat.zero_add _).symm

theorem full_at (o : ℕ) (h : ∀ a, (![o, 0] : Fin 2 → ℕ) a + S512x4096.size a ≤ S2560x4096.size a) (z : S512x256.Idx) (y : S2560x256.Idx)
    (h0 : (y 0).val = o + (z 0).val) (h1 : (y 1).val = (z 1).val) :
    k0_pay7 (rows512 arg5 harg5 x0 o h) (wts arg6 harg6 arg7 harg7 arg9 x1 x2) z = glu (col x0 x1 y) (col x0 x2 y) := by
  rw [wts_eq]
  have hz : (z 1).val < 256 := (z 1).isLt
  obtain ⟨X, hX⟩ : ∃ X, X = rows512 arg5 harg5 x0 o h := ⟨_, rfl⟩
  have hX' : ∀ (r : Fin 512) (s : Fin 2560), s.val = o + r.val → ∀ k, X (ix2 r k) = x0 (ix2 s k) := fun r s hs k => by rw [hX]; exact rows512_at arg5 harg5 x0 o h r s hs k
  rw [← hX]
  open_payloads
  pointwise
  unfold glu col
  refine congrArg₂ (· * ·) (congrArg (fun g : EReal => g * Ideal.logistic g) ?_) ?_
  · refine Finset.sum_congr rfl fun k _ => congrArg₂ (· * ·) (hX' _ _ (by simpa using h0) k) ((join_left x1 x2 k _ (by simpa using hz)).trans (congrArg x1 ?_))
    exact congrArg (ix3 0 k) (Fin.ext (by simp [h1]))
  · refine Finset.sum_congr rfl fun k _ => congrArg₂ (· * ·) (hX' _ _ (by simpa using h0) k) ((join_right x1 x2 k _ (by simp)).trans (congrArg x2 ?_))
    exact congrArg (ix3 0 k) (Fin.ext (by simp [h1]))

theorem half_at (o : ℕ) (h : ∀ a, (![o, 0] : Fin 2 → ℕ) a + S256x4096.size a ≤ S2560x4096.size a) (z : S256x256.Idx) (y : S2560x256.Idx)
    (h0 : (y 0).val = o + (z 0).val) (h1 : (y 1).val = (z 1).val) :
    k0_pay8 (rows256 arg5 harg5 x0 o h) (wts arg6 harg6 arg7 harg7 arg9 x1 x2) z = glu (col x0 x1 y) (col x0 x2 y) := by
  rw [wts_eq]
  have hz : (z 1).val < 256 := (z 1).isLt
  obtain ⟨X, hX⟩ : ∃ X, X = rows256 arg5 harg5 x0 o h := ⟨_, rfl⟩
  have hX' : ∀ (r : Fin 256) (s : Fin 2560), s.val = o + r.val → ∀ k, X (ix2 r k) = x0 (ix2 s k) := fun r s hs k => by rw [hX]; exact rows256_at arg5 harg5 x0 o h r s hs k
  rw [← hX]
  open_payloads
  pointwise
  unfold glu col
  refine congrArg₂ (· * ·) (congrArg (fun g : EReal => g * Ideal.logistic g) ?_) ?_
  · refine Finset.sum_congr rfl fun k _ => congrArg₂ (· * ·) (hX' _ _ (by simpa using h0) k) ((join_left x1 x2 k _ (by simpa using hz)).trans (congrArg x1 ?_))
    exact congrArg (ix3 0 k) (Fin.ext (by simp [h1]))
  · refine Finset.sum_congr rfl fun k _ => congrArg₂ (· * ·) (hX' _ _ (by simpa using h0) k) ((join_right x1 x2 k _ (by simp)).trans (congrArg x2 ?_))
    exact congrArg (ix3 0 k) (Fin.ext (by simp [h1]))

theorem zero512 (z : S512x256.Idx) : (k0_pay10 (F := Ideal)) z = (0 : EReal) := by
  open_payloads
  pointwise
theorem zero256 (z : S256x256.Idx) : (k0_pay9 (F := Ideal)) z = (0 : EReal) := by
  open_payloads
  pointwise

/-- What a point leaves: the products on the rows in use, zeros below. -/
def want (u : ℕ) : Vec Ideal S2560x256 .bf16 := fun y => if (y 0).val < 256 * u then glu (col x0 x1 y) (col x0 x2 y) else (0 : EReal)

theorem want_in (u n : ℕ) (y : S2560x256.Idx) (hy : (y 0).val = n) (h : n < 256 * u) : want x0 x1 x2 u y = glu (col x0 x1 y) (col x0 x2 y) :=
  if_pos (lt_of_eq_of_lt hy h)
theorem want_out (u n : ℕ) (y : S2560x256.Idx) (hy : (y 0).val = n) (h : 256 * u ≤ n) : want x0 x1 x2 u y = (0 : EReal) :=
  if_neg (Nat.not_lt.mpr (h.trans_eq hy.symm))

theorem part_want (u j : ℕ) {o o' : ℕ} (h : ∀ a, (![o, 0] : Fin 2 → ℕ) a + S512x256.size a ≤ S2560x256.size a)
    (h₁ : ∀ a, (![o, 0] : Fin 2 → ℕ) a + S256x256.size a ≤ S2560x256.size a) (h₂ : ∀ a, (![o', 0] : Fin 2 → ℕ) a + S256x256.size a ≤ S2560x256.size a)
    (a zz : FVec Ideal S512x256 .bf16) (b z : FVec Ideal S256x256 .bf16) (ho : o = 512 * j) (ho' : o' = o + 256)
    (ha : ∀ (z : S512x256.Idx) (y : S2560x256.Idx), (y 0).val = o + (z 0).val → (y 1).val = (z 1).val → a z = glu (col x0 x1 y) (col x0 x2 y))
    (hb : ∀ (z : S256x256.Idx) (y : S2560x256.Idx), (y 0).val = o + (z 0).val → (y 1).val = (z 1).val → b z = glu (col x0 x1 y) (col x0 x2 y))
    (hzz : ∀ x, zz x = (0 : EReal)) (hz : ∀ x, z x = (0 : EReal)) :
    ∀ p ∈ part (F := Ideal) u j h h₁ h₂ a zz b z, ∀ x : p.1.shape.Idx, p.2 x = want x0 x1 x2 u (p.1.emb x) := by
  intro p hp x
  unfold part at hp
  split at hp
  · obtain rfl := List.mem_singleton.mp hp
    have e0 := Rect.idx_unit_val (s := S2560x256) ![o, 0] S512x256.size h x 0
    have e1 := Rect.idx_unit_val (s := S2560x256) ![o, 0] S512x256.size h x 1
    have hx : (x 0).val < 512 := (x 0).isLt
    exact (ha x _ e0 (e1.trans (Nat.zero_add _))).trans (want_in x0 x1 x2 u (o + (x 0).val) _ e0 (by omega)).symm
  · split at hp
    · rcases List.mem_cons.mp hp with rfl | hp
      · have e0 := Rect.idx_unit_val (s := S2560x256) ![o', 0] S256x256.size h₂ x 0
        have hx : (x 0).val < 256 := (x 0).isLt
        exact (hz x).trans (want_out x0 x1 x2 u (o' + (x 0).val) _ e0 (by omega)).symm
      · obtain rfl := List.mem_singleton.mp hp
        have e0 := Rect.idx_unit_val (s := S2560x256) ![o, 0] S256x256.size h₁ x 0
        have e1 := Rect.idx_unit_val (s := S2560x256) ![o, 0] S256x256.size h₁ x 1
        have hx : (x 0).val < 256 := (x 0).isLt
        exact (hb x _ e0 (e1.trans (Nat.zero_add _))).trans (want_in x0 x1 x2 u (o + (x 0).val) _ e0 (by omega)).symm
    · obtain rfl := List.mem_singleton.mp hp
      have e0 := Rect.idx_unit_val (s := S2560x256) ![o, 0] S512x256.size h x 0
      have hx : (x 0).val < 512 := (x 0).isLt
      exact (hzz x).trans (want_out x0 x1 x2 u (o + (x 0).val) _ e0 (by omega)).symm

theorem filled_at (u : ℕ) (hu : 1 ≤ u) (hu' : u ≤ 10) (y : S2560x256.Idx) :
    filled u arg5 harg5 arg6 harg6 arg7 harg7 arg9 x0 x1 x2 y = want x0 x1 x2 u y := by
  unfold filled
  rw [View.read_writes_junk_eq_canon]
  refine View.canon_apply_of_pieces (want x0 x1 x2 u) _ ?_ y (stores_cover u hu hu' arg5 harg5 arg6 harg6 arg7 harg7 arg9 x0 x1 x2 y)
  intro p hp
  have A := full_at arg5 harg5 arg6 harg6 arg7 harg7 arg9 x0 x1 x2
  have B := half_at arg5 harg5 arg6 harg6 arg7 harg7 arg9 x0 x1 x2
  unfold stores at hp
  simp only [List.mem_append] at hp
  rcases hp with (((hp | hp) | hp) | hp) | hp
  · exact part_want x0 x1 x2 u 4 _ _ _ _ _ _ _ rfl rfl (A 2048 _) (B 2048 _) zero512 zero256 p hp
  · exact part_want x0 x1 x2 u 3 _ _ _ _ _ _ _ rfl rfl (A 1536 _) (B 1536 _) zero512 zero256 p hp
  · exact part_want x0 x1 x2 u 2 _ _ _ _ _ _ _ rfl rfl (A 1024 _) (B 1024 _) zero512 zero256 p hp
  · exact part_want x0 x1 x2 u 1 _ _ _ _ _ _ _ rfl rfl (A 512 _) (B 512 _) zero512 zero256 p hp
  · exact part_want x0 x1 x2 u 0 _ _ _ _ _ _ _ rfl rfl (A 0 _) (B 0 _) zero512 zero256 p hp

end

end Cert.Moe

end
-- ==== Proof.Moe.Ref.lean ====
module

public import proofs.«01_k».proof.Proof.Gen.Reference7Ideal.Run
public import proofs.«01_k».proof.Proof.Gen.Reference7Ideal.Read
public import proofs.«01_k».proof.Proof.Moe.Point
public import Idealize.ShloMosaic.Lib.Routing.Ops
public import Idealize.ShloMosaic.Lib.Tactic.WordOmega

@[expose] public section

set_option maxRecDepth 16384

noncomputable section

/-! # What the reference computes at one index -/

namespace Cert.Moe

open Cert.Reference7Ideal Cert.Reference7Ideal.Gen Cert.Reference7Ideal.Read
open Idealize.ShloMosaic Idealize.ShloMosaic.Tactic

/-- Row `r` through expert `b`, at column `n`. -/
def cell (xs : FVec Ideal S35840x4096 .f32) (wg wu : FVec Ideal S8x4096x14336 .f32) (r : Fin 35840) (b : Fin 8) (n : Fin 14336) : EReal :=
  glu (∑ k : Fin 4096, (xs (ix2 r k) : EReal) * wg (ix3 b k n)) (∑ k : Fin 4096, (xs (ix2 r k) : EReal) * wu (ix3 b k n))

/-- A number that is not negative is read as it is. -/
theorem keep_index (x w : BitVec 32) (h : x.toNat < 2 ^ 31) : Scalar.select (IntOp.cmpi .slt x 0#32) (IntOp.addi x w) x = x := by
  have hc : IntOp.cmpi .slt x 0#32 = 0#1 := by word_omega
  rw [hc]; rfl

abbrev gE : GatherDims S8x4096x14336 S16400x1 S16400x4096x14336 := gather_S8x4096x14336_S16400x1_S16400x4096x14336_12_0_n_n_0_1_1409614336

/-- Taking the matrix of the expert each row names. -/
theorem gather_expert {α : Type} (x : S8x4096x14336.Idx → α) (idx : IVec S16400x1 32) (c : Fin 16400) (k : Fin 4096) (n : Fin 14336) (b : Fin 8)
    (hb : idx (ix2 c (0 : Fin 1)) = BitVec.ofNat 32 b.val) : Host.gather gE x idx (ix3 c k n) = x (ix3 b k n) := by
  unfold Host.gather
  refine congrArg x (funext fun a => Fin.ext ?_)
  have hs : gE.siIdx (ix3 c k n) ⟨0, by decide⟩ = ix2 c (0 : Fin 1) := by
    funext b'
    match b' with
    | ⟨0, _⟩ => rfl
    | ⟨1, _⟩ => rfl
  match a with
  | ⟨0, _⟩ =>
    show gE.start (ix3 c k n) idx 0 + gE.batchCoord (ix3 c k n) 0 + gE.offCoord (ix3 c k n) 0 = b.val
    rw [gE.batchCoord_eq_zero _ _ (by decide), gE.offCoord_eq_zero _ _ (by decide)]
    unfold GatherDims.start
    rw [dif_pos (by decide)]
    have hl := b.isLt
    refine Eq.trans (b := min (idx (gE.siIdx (ix3 c k n) ⟨0, by decide⟩)).toInt.toNat 7) rfl ?_
    rw [hs, hb, StableHlo.Predicate.toInt_ofNat_small _ (by omega)]
    show min ((b.val : Int)).toNat 7 = b.val
    omega
  | ⟨1, _⟩ =>
    show gE.start (ix3 c k n) idx 1 + gE.batchCoord (ix3 c k n) 1 + gE.offCoord (ix3 c k n) 1 = k.val
    rw [gE.batchCoord_eq_zero _ _ (by decide)]
    unfold GatherDims.start GatherDims.offCoord
    rw [dif_neg (by decide), dif_pos (by decide)]
    exact (congrArg (· + k.val) (Nat.add_zero 0)).trans (Nat.zero_add _)
  | ⟨2, _⟩ =>
    show gE.start (ix3 c k n) idx 2 + gE.batchCoord (ix3 c k n) 2 + gE.offCoord (ix3 c k n) 2 = n.val
    rw [gE.batchCoord_eq_zero _ _ (by decide)]
    unfold GatherDims.start GatherDims.offCoord
    rw [dif_neg (by decide), dif_pos (by decide)]
    exact (congrArg (· + n.val) (Nat.add_zero 0)).trans (Nat.zero_add _)

section
variable (x0 : FVec Ideal S35840x4096 .f32) (x1 x2 : IVec S16400 32) (x6 x7 : FVec Ideal S8x4096x14336 .f32) (a : Fin 16400) (n : Fin 14336) (r : Fin 35840) (b : Fin 8)

theorem v5_at (h : x1 (ix1 a) = BitVec.ofNat 32 r.val) : val_main_v5 (F := Ideal) x1 (ix2 a (0 : Fin 1)) = BitVec.ofNat 32 r.val := by
  have e : idx_main_v5 (ix2 a (0 : Fin 1)) = ix1 a := by funext d; match d with | ⟨0, _⟩ => rfl
  rw [val_main_v5_apply, e, val_main_v4_apply, val_main_v1_apply, val_main_v3_apply, val_main_v0_apply, val_main_c_apply]
  have hl := r.isLt
  refine (keep_index (x1 (ix1 a)) _ ?_).trans h
  rw [h, BitVec.toNat_ofNat]; omega

theorem v12_at (h : x2 (ix1 a) = BitVec.ofNat 32 b.val) : val_main_v12 (F := Ideal) x2 (ix2 a (0 : Fin 1)) = BitVec.ofNat 32 b.val := by
  have e : idx_main_v12 (ix2 a (0 : Fin 1)) = ix1 a := by funext d; match d with | ⟨0, _⟩ => rfl
  rw [val_main_v12_apply, e, val_main_v11_apply, val_main_v8_apply, val_main_v10_apply, val_main_v7_apply, val_main_c_1_apply]
  have hl := b.isLt
  refine (keep_index (x2 (ix1 a)) _ ?_).trans h
  rw [h, BitVec.toNat_ofNat]; omega

theorem v20_at (h : x2 (ix1 a) = BitVec.ofNat 32 b.val) : val_main_v20 (F := Ideal) x2 (ix2 a (0 : Fin 1)) = BitVec.ofNat 32 b.val := by
  have e : idx_main_v20 (ix2 a (0 : Fin 1)) = ix1 a := by funext d; match d with | ⟨0, _⟩ => rfl
  rw [val_main_v20_apply, e, val_main_v19_apply, val_main_v16_apply, val_main_v18_apply, val_main_v15_apply, val_main_c_3_apply]
  have hl := b.isLt
  refine (keep_index (x2 (ix1 a)) _ ?_).trans h
  rw [h, BitVec.toNat_ofNat]; omega

theorem v6_at (h : x1 (ix1 a) = BitVec.ofNat 32 r.val) (k : Fin 4096) : val_main_v6 (F := Ideal) x0 x1 (ix2 a k) = x0 (ix2 r k) :=
  Routing.gather_row _ rfl rfl rfl rfl rfl x0 _ a k r (v5_at x1 a r h) (by decide)

theorem v14_at (h : x1 (ix1 a) = BitVec.ofNat 32 r.val) (hb : x2 (ix1 a) = BitVec.ofNat 32 b.val) :
    val_main_v14 (F := Ideal) x0 x1 x2 x6 (ix2 a n) = ∑ k : Fin 4096, (x0 (ix2 r k) : EReal) * x6 (ix3 b k n) := by
  rw [val_main_v14_apply]
  refine Finset.sum_congr rfl fun k _ => congrArg₂ (fun p q : EReal => p * q) ?_ ?_
  · refine Eq.trans (congrArg _ (funext fun d => ?_)) (v6_at x0 x1 a r h k)
    match d with | ⟨0, _⟩ => rfl | ⟨1, _⟩ => rfl
  · refine Eq.trans (congrArg _ (funext fun d => ?_)) (gather_expert x6 _ a k n b (v12_at x2 a b hb))
    match d with | ⟨0, _⟩ => rfl | ⟨1, _⟩ => rfl | ⟨2, _⟩ => rfl

theorem v22_at (h : x1 (ix1 a) = BitVec.ofNat 32 r.val) (hb : x2 (ix1 a) = BitVec.ofNat 32 b.val) :
    val_main_v22 (F := Ideal) x0 x1 x2 x7 (ix2 a n) = ∑ k : Fin 4096, (x0 (ix2 r k) : EReal) * x7 (ix3 b k n) := by
  rw [val_main_v22_apply]
  refine Finset.sum_congr rfl fun k _ => congrArg₂ (fun p q : EReal => p * q) ?_ ?_
  · refine Eq.trans (congrArg _ (funext fun d => ?_)) (v6_at x0 x1 a r h k)
    match d with | ⟨0, _⟩ => rfl | ⟨1, _⟩ => rfl
  · refine Eq.trans (congrArg _ (funext fun d => ?_)) (gather_expert x7 _ a k n b (v20_at x2 a b hb))
    match d with | ⟨0, _⟩ => rfl | ⟨1, _⟩ => rfl | ⟨2, _⟩ => rfl

theorem ref_at (h : x1 (ix1 a) = BitVec.ofNat 32 r.val) (hb : x2 (ix1 a) = BitVec.ofNat 32 b.val) :
    val_main_v25 (F := Ideal) x0 x1 x2 x6 x7 (ix2 a n) = cell x0 x6 x7 r b n := by
  rw [val_main_v25_apply, val_main_v24_apply, val_main_v23_apply, val_main_call0_v5_apply, val_main_call0_v4_apply, val_main_call0_v3_apply,
    val_main_call0_v2_apply, val_main_call0_v1_apply, val_main_call0_v0_apply, val_main_call0_cst_apply, val_main_call0_cst_0_apply,
    v14_at x0 x1 x2 x6 a n r b h hb, v22_at x0 x1 x2 x7 a n r b h hb]
  unfold cell glu
  pointwise
  rfl

end

end Cert.Moe

end
-- ==== Proof.Moe.Value.lean ====
module

public import proofs.«01_k».proof.Proof.Moe.Tables
public import proofs.«01_k».proof.Proof.Moe.Ref
public import Idealize.ShloMosaic.Lib.Pipeline.Covers
public import Idealize.ShloMosaic.Lib.Pipeline.ValueKit

@[expose] public section

set_option maxRecDepth 16384

noncomputable section

/-! # What the kernel leaves, and that it is the reference's array -/

namespace Cert.Moe

open Cert.Kernel7Ideal Cert.Kernel7Ideal.Gen Idealize.ShloMosaic Idealize.ShloMosaic.TcCoe Idealize.SL.Sem
open Idealize.ShloMosaic.Pipeline (Dat)
open Idealize.ShloMosaic.Tactic

variable (m : (ℓ : Loc nD τ sig) → Buf (Elt Ideal) ℓ)

abbrev xs : FVec Ideal S35840x4096 .f32 := m (((0 : Dev nD).tc : Thread nD τ).loc main_arg0)
abbrev wg : FVec Ideal S8x4096x14336 .f32 := m (((0 : Dev nD).tc : Thread nD τ).loc main_arg6)
abbrev wu : FVec Ideal S8x4096x14336 .f32 := m (((0 : Dev nD).tc : Thread nD τ).loc main_arg7)

theorem V_rows (i : S35840x4096.Idx) : V m 0 main_v0 i = xs m i := by
  unfold V V0
  simp only [hostOps0, List.flatten_cons, List.flatten_nil, List.append_nil, List.cons_append, List.nil_append]
  after_results
  rfl

variable (hp : Planned m)

/-- The block a row is in. -/
abbrev blockOf (r : Fin 35840) : Fin 14 := ⟨r.val / 2560, by omega⟩
/-- The expert of a block. -/
abbrev expertOf (b : Fin 14) : Fin 8 := ⟨(expert m (ix1 b)).toNat, hp.ex b⟩

/-- The array over the blocks with rows: the rows in use through the block's expert, zeros below. -/
def G (r : Fin 35840) (n : Fin 14336) : EReal :=
  if r.val % 2560 < 256 * (units m (ix1 (blockOf r))).toNat then cell (xs m) (wg m) (wu m) r (expertOf m hp (blockOf r)) n else 0

section
variable (t : Fin (cfgM m (ok m hp)).N)

theorem iblk0_at (r : Fin 2560) (k : Fin 4096) (s : Fin 35840) (hs : s.val = (src m (ix1 (grid0.coords t 0))).toNat * 2560 + r.val) :
    iblk m (ok m hp) 0 0 t (ix2 r k) = xs m (ix2 s k) := by
  rw [← V_rows]
  have h := index0 m (ok m hp) t
  have h00 : ((cfgM m (ok m hp)).win 0).index t (0 : Fin 2) = (src m (ix1 (grid0.coords t 0))).toNat := congrFun h (0 : Fin 2)
  have h01 : ((cfgM m (ok m hp)).win 0).index t (1 : Fin 2) = 0 := congrFun h (1 : Fin 2)
  blk_point [iblk, h00, h01, hs]

theorem iblk1_at (k : Fin 4096) (n : Fin 256) (b : Fin 8) (s : Fin 14336) (hb : b.val = (expert m (ix1 (grid0.coords t 0))).toNat)
    (hs : s.val = at55 (units m (ix1 (grid0.coords t 0))).toNat (grid0.coords t 1).val * 256 + n.val) :
    iblk m (ok m hp) 0 1 t (ix3 0 k n) = wg m (ix3 b k s) := by
  refine Eq.trans ?_ (congrFun (V_of m 0 main_arg6 (by decide)) (ix3 b k s))
  have h := index1 m (ok m hp) t
  have h0 : ((cfgM m (ok m hp)).win 1).index t (0 : Fin 3) = (expert m (ix1 (grid0.coords t 0))).toNat := congrFun h (0 : Fin 3)
  have h1 : ((cfgM m (ok m hp)).win 1).index t (1 : Fin 3) = 0 := congrFun h (1 : Fin 3)
  have h2 : ((cfgM m (ok m hp)).win 1).index t (2 : Fin 3) = at55 (units m (ix1 (grid0.coords t 0))).toNat (grid0.coords t 1).val := congrFun h (2 : Fin 3)
  blk_point [iblk, h0, h1, h2, hs, hb]

theorem iblk2_at (k : Fin 4096) (n : Fin 256) (b : Fin 8) (s : Fin 14336) (hb : b.val = (expert m (ix1 (grid0.coords t 0))).toNat)
    (hs : s.val = at55 (units m (ix1 (grid0.coords t 0))).toNat (grid0.coords t 1).val * 256 + n.val) :
    iblk m (ok m hp) 0 2 t (ix3 0 k n) = wu m (ix3 b k s) := by
  refine Eq.trans ?_ (congrFun (V_of m 0 main_arg7 (by decide)) (ix3 b k s))
  have h := index2 m (ok m hp) t
  have h0 : ((cfgM m (ok m hp)).win 2).index t (0 : Fin 3) = (expert m (ix1 (grid0.coords t 0))).toNat := congrFun h (0 : Fin 3)
  have h1 : ((cfgM m (ok m hp)).win 2).index t (1 : Fin 3) = 0 := congrFun h (1 : Fin 3)
  have h2 : ((cfgM m (ok m hp)).win 2).index t (2 : Fin 3) = at55 (units m (ix1 (grid0.coords t 0))).toNat (grid0.coords t 1).val := congrFun h (2 : Fin 3)
  blk_point [iblk, h0, h1, h2, hs, hb]

end

/-- A point whose block has rows leaves the array's part of its block. -/
theorem used_at (t : Fin (cfgM m (ok m hp)).N) (hu : uAt m t ≠ 0) (y : S2560x256.Idx) (r : Fin 35840) (n : Fin 14336)
    (h0 : r.val = ((cfgM m (ok m hp)).win 3).index t (0 : Fin 2) * 2560 + (y 0).val) (h1 : n.val = ((cfgM m (ok m hp)).win 3).index t (1 : Fin 2) * 256 + (y 1).val) :
    outsAt0 m (ok m hp) 0 t.val t.isLt y = G m hp r n := by
  have hle := hp.le (grid0.coords t 0)
  rw [← uAt_eq] at hle
  have hs := hp.used (grid0.coords t 0) (by rw [← uAt_eq]; exact hu)
  rw [index3] at h0 h1
  change r.val = (src m (ix1 (grid0.coords t 0))).toNat * 2560 + (y 0).val at h0
  change n.val = at55 (units m (ix1 (grid0.coords t 0))).toNat (grid0.coords t 1).val * 256 + (y 1).val at h1
  have hy : (y 0).val < 2560 := (y 0).isLt
  have hb : blockOf r = grid0.coords t 0 := Fin.ext (by show r.val / 2560 = _; omega)
  have hr : r.val % 2560 = (y 0).val := by omega
  refine (congrFun (outsAt0_used m (ok m hp) 0 t hu) y).trans ((filled_at _ _ _ _ _ _ _ _ _ _ _ (Nat.one_le_iff_ne_zero.mpr hu) hle y).trans ?_)
  unfold want G
  rw [hr, hb, ← uAt_eq]
  refine if_congr Iff.rfl ?_ rfl
  unfold cell col
  refine congrArg₂ glu ?_ ?_
  · exact Finset.sum_congr rfl fun k _ => congrArg₂ (fun p q : EReal => p * q) (iblk0_at m hp t _ k r h0) (iblk1_at m hp t k _ _ n rfl h1)
  · exact Finset.sum_congr rfl fun k _ => congrArg₂ (fun p q : EReal => p * q) (iblk0_at m hp t _ k r h0) (iblk2_at m hp t k _ _ n rfl h1)

theorem holds : ∀ (k : ℕ) (hk : k < (cfgM m (ok m hp)).N) (y : S2560x256.Idx) (r : Fin 35840) (n : Fin 14336),
    r.val = ((cfgM m (ok m hp)).win 3).index ⟨k, hk⟩ (0 : Fin 2) * 2560 + (y 0).val → n.val = ((cfgM m (ok m hp)).win 3).index ⟨k, hk⟩ (1 : Fin 2) * 256 + (y 1).val →
    outsAt0 m (ok m hp) 0 k hk y = G m hp r n := by
  intro k
  induction k with
  | zero => exact fun hk y r n h0 h1 => used_at m hp ⟨0, hk⟩ ((reg m (ok m hp) hp).first ⟨0, hk⟩ rfl) y r n h0 h1
  | succ k ih =>
    intro hk y r n h0 h1
    by_cases hu : uAt m ⟨k + 1, hk⟩ = 0
    · rw [same m (ok m hp) hp ⟨k + 1, hk⟩ (Nat.succ_ne_zero k) hu] at h0 h1
      rw [outsAt0_unused m (ok m hp) 0 ⟨k + 1, hk⟩ (Nat.succ_ne_zero k) hu]
      exact ih (Nat.lt_of_succ_lt hk) y r n h0 h1
    · exact used_at m hp ⟨k + 1, hk⟩ hu y r n h0 h1

/-- What every write-back puts in the array. -/
theorem written (t : Fin (cfgM m (ok m hp)).N) (hf : ((cfgM m (ok m hp)).win 3).flush t = true) (y : (((cfgM m (ok m hp)).win 3).xblock ((cfgM m (ok m hp)).grid.coords t)).Idx) :
    _root_.cast (congrArg (Elt Ideal) (((cfgM m (ok m hp)).win 3).blk t).view.elt_eq.symm) ((dats m (ok m hp) 0 0).flushed 3 t y)
      = (fun i : S35840x14336.Idx => G m hp ⟨(i 0).val, (i 0).isLt⟩ ⟨(i 1).val, (i 1).isLt⟩) ((((cfgM m (ok m hp)).win 3).blk t).view.emb y) := by
  refine Eq.trans (b := (dats m (ok m hp) 0 0).after 3 t (((cfgM m (ok m hp)).win 3).xinj ((cfgM m (ok m hp)).grid.coords t) y)) rfl ?_
  rw [after0_3]
  exact holds m hp t.val t.isLt _ _ _ (((cfgM m (ok m hp)).win 3).rect_emb_val t y (0 : Fin 2)) (((cfgM m (ok m hp)).win 3).rect_emb_val t y (1 : Fin 2))

theorem arr_at (r : Fin 35840) (n : Fin 14336) (hu : (units m (ix1 (blockOf r))).toNat ≠ 0) :
    (dats m (ok m hp) 0 0).arrAt 3 (cfgM m (ok m hp)).N (ix2 r n : S35840x14336.Idx) = G m hp r n := by
  have hN : (cfgM m (ok m hp)).N = 784 := N_0
  have hr := r.isLt
  have hn := n.isLt
  obtain ⟨t₀, ht₀⟩ : ∃ t₀ : Fin (cfgM m (ok m hp)).N, t₀.val = 56 * (r.val / 2560) + n.val / 256 := ⟨⟨_, by rw [hN]; omega⟩, rfl⟩
  obtain ⟨t, -, hf, hix⟩ := ((cfgM m (ok m hp)).win 3).exists_flush_same_index rfl t₀
  refine (dats m (ok m hp) 0 0).arrAt_forall_of_flushed 3
    (fun i v => v = (fun i : S35840x14336.Idx => G m hp ⟨(i 0).val, (i 0).isLt⟩ ⟨(i 1).val, (i 1).isLt⟩) i) (written m hp) _ t (ix2 r n : S35840x14336.Idx) t.isLt hf ?_
  refine (((cfgM m (ok m hp)).win 3).emb_mem_blk_iff t (ix2 r n : S35840x14336.Idx)).mpr fun a => ?_
  have hb : blockOf r = grid0.coords t₀ 0 := Fin.ext (by rw [coords0, ht₀]; show r.val / 2560 = _; omega)
  have hs := hp.used _ hu
  have hx := ((cfgM m (ok m hp)).win 3).xsize_eq_or_end rfl ((cfgM m (ok m hp)).grid.coords t) a
  have hin : ((cfgM m (ok m hp)).win 3).index t a * ((cfgM m (ok m hp)).win 3).size a ≤ ((ix2 r n : S35840x14336.Idx) a).val
      ∧ ((ix2 r n : S35840x14336.Idx) a).val < ((cfgM m (ok m hp)).win 3).index t a * ((cfgM m (ok m hp)).win 3).size a + ((cfgM m (ok m hp)).win 3).size a := by
    rw [hix, index3, ← hb]
    fin_cases a
    · show (src m (ix1 (blockOf r))).toNat * 2560 ≤ r.val ∧ r.val < (src m (ix1 (blockOf r))).toNat * 2560 + 2560
      rw [hs]
      show r.val / 2560 * 2560 ≤ r.val ∧ r.val < r.val / 2560 * 2560 + 2560
      omega
    · show at55 (units m (ix1 (blockOf r))).toNat (grid0.coords t₀ 1).val * 256 ≤ n.val ∧ n.val < at55 (units m (ix1 (blockOf r))).toNat (grid0.coords t₀ 1).val * 256 + 256
      unfold at55
      rw [if_neg hu, coords1, ht₀]
      omega
  refine ⟨hin.1, ?_⟩
  rcases hx with e | e
  · rw [e]; exact hin.2
  · exact lt_of_lt_of_le ((ix2 r n : S35840x14336.Idx) a).isLt e

/-- The kernel's result, a gather of its array. -/
theorem tail8 : Pipeline.afterTail pcfgs (fun _ => adm m (ok m hp)) (dats m (ok m hp)) 0 (V0 m) [hostOps1] 0 main_v8
    = (Host.gather gather_S35840x14336_S16400x1_S16400x14336_1_0_n_n_0_1_114336 ((dats m (ok m hp) 0 0).arrAt 3 (cfgM m (ok m hp)).N : FVec Ideal S35840x14336 .bf16)
        (Cert.Reference7Ideal.Read.val_main_v5 (F := Ideal) (dest m)) : FVec Ideal S16400x14336 .bf16) := by
  unfold Pipeline.afterTail
  simp only [hostOps1, List.flatten_cons, List.flatten_nil, List.append_nil, List.cons_append, List.nil_append]
  after_results
  have e : Pipeline.withArrays spec0 0 (V0 m 0) (fun w => (dats m (ok m hp) 0 0).arrAt w (cfgM m (ok m hp)).N) (Proc.devRef .tc main_v1) = (dats m (ok m hp) 0 0).arrAt 3 (cfgM m (ok m hp)).N :=
    Pipeline.withArrays_arr spec0 (by decide) 0 _ _ 3
  have e1 : Pipeline.withArrays spec0 0 (V0 m 0) (fun w => (dats m (ok m hp) 0 0).arrAt w (cfgM m (ok m hp)).N) (Proc.devRef .tc main_arg1) = dest m :=
    (Pipeline.withArrays_of_ne _ 0 (V0 m 0) _ main_arg1 (by decide)).trans (V_of m 0 main_arg1 (by decide))
  exact congrArg₂ (fun (A : FVec Ideal S35840x14336 .bf16) (d : IVec S16400 32) => Host.gather gather_S35840x14336_S16400x1_S16400x14336_1_0_n_n_0_1_114336 A (Cert.Reference7Ideal.Read.val_main_v5 (F := Ideal) d)) e e1

/-- A row of the gather is the reference's. -/
theorem row_at (a : Fin 16400) (n : Fin 14336) :
    Host.gather gather_S35840x14336_S16400x1_S16400x14336_1_0_n_n_0_1_114336 ((dats m (ok m hp) 0 0).arrAt 3 (cfgM m (ok m hp)).N : FVec Ideal S35840x14336 .bf16)
        (Cert.Reference7Ideal.Read.val_main_v5 (F := Ideal) (dest m)) (ix2 a n)
      = Cert.Reference7Ideal.Read.val_main_v25 (F := Ideal) (xs m) (dest m) (who m) (wg m) (wu m) (ix2 a n) := by
  have hd := hp.dest_lt a
  obtain ⟨r, hr⟩ : ∃ r : Fin 35840, r.val = (dest m (ix1 a)).toNat := ⟨⟨_, hd⟩, rfl⟩
  have hdr : dest m (ix1 a) = BitVec.ofNat 32 r.val := by rw [hr, BitVec.ofNat_toNat, BitVec.setWidth_eq]
  obtain ⟨hlt, he⟩ := hp.rows a (blockOf r) (by rw [← hr]; show 2560 * (r.val / 2560) ≤ _; omega) (by rw [← hr]; show _ < 2560 * (r.val / 2560) + 2560; omega)
  rw [← hr] at hlt
  change r.val < 2560 * (r.val / 2560) + _ at hlt
  have hee : who m (ix1 a) = BitVec.ofNat 32 (expertOf m hp (blockOf r)).val := by
    show _ = BitVec.ofNat 32 (expert m (ix1 (blockOf r))).toNat
    rw [he, BitVec.ofNat_toNat, BitVec.setWidth_eq]
  rw [ref_at (xs m) (dest m) (who m) (wg m) (wu m) a n r (expertOf m hp (blockOf r)) hdr hee]
  refine (Routing.gather_row _ rfl rfl rfl rfl rfl _ _ a n r (v5_at (dest m) a r hdr) (by decide)).trans ((arr_at m hp r n (by omega)).trans ?_)
  unfold G
  exact if_pos (by omega)

/-- The kernel's result is the reference's. -/
theorem result : Pipeline.afterTail pcfgs (fun _ => adm m (ok m hp)) (dats m (ok m hp)) 0 (V0 m) [hostOps1] 0 main_v8
    = Cert.Reference7Ideal.Read.val_main_v25 (F := Ideal) (xs m) (dest m) (who m) (wg m) (wu m) := by
  refine (tail8 m hp).trans (funext fun (i : S16400x14336.Idx) => ?_)
  have hi : i = (ix2 (i 0) (i 1) : S16400x14336.Idx) := by funext d; match d with | ⟨0, _⟩ => rfl | ⟨1, _⟩ => rfl
  rw [hi]
  exact row_at m hp (i 0) (i 1)

include hp in
/-- The run of the kernel, its result named. -/
theorem run (ρ : Dev nD → PrngReg) : θ_run defs (onTc (τ := τ) (main (F := Ideal))) ⟨m, fun _ => 0, ρ⟩ (fun r => ∀ c : Dev nD,
    r.2.mem ((c.tc : Thread nD τ).loc main_v8) = Cert.Reference7Ideal.Read.val_main_v25 (F := Ideal) (m ((c.tc : Thread nD τ).loc main_arg0)) (m ((c.tc : Thread nD τ).loc main_arg1))
      (m ((c.tc : Thread nD τ).loc main_arg2)) (m ((c.tc : Thread nD τ).loc main_arg6)) (m ((c.tc : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun r h c => by
    obtain rfl : c = 0 := Subsingleton.elim _ _
    exact ⟨((h.2 0).2 main_v8 (Pipeline.mem_restRefs_of (win := spec0) main_v8 (by decide) (by decide))).trans (result m hp), h.1 0⟩)
    (θ_run_and (unchanged m ρ (ok m hp) (reg m (ok m hp) hp)) (run_main m ρ (ok m hp) (reg m (ok m hp) hp)))

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Fox.Final
public import proofs.«01_k».proof.Proof.Rows.Call4
public import proofs.«01_k».proof.Proof.Rows.Call5
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Rows.Call6
public import proofs.«01_k».proof.Proof.Ffn.Bits
public import proofs.«01_k».proof.Proof.Ffn.Value
public import proofs.«01_k».proof.Proof.Down.Bits
public import proofs.«01_k».proof.Proof.Down.Value
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Reference7Ideal
public import proofs.«01_k».proof.Proof.Gen.Reference7Ideal.Run
public import proofs.«01_k».proof.Proof.Gen.Pre_planned
public import proofs.«01_k».proof.Proof.Moe.Bits
public import proofs.«01_k».proof.Proof.Moe.Value
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The side conditions of the precondition's operations. -/
theorem pre_facts : Cert.Pre_finite.Facts := by constructor <;> decide +kernel

theorem algebraic : Cert.algebraic_KernelIdeal_ReferenceIdeal_pre_finite (hKernelIdeal := Cert.KernelIdeal.Gen.facts)
    (hReferenceIdeal := Cert.ReferenceIdeal.Gen.facts) (hPre_finite := pre_facts) := by
  pair_intro
  · run_from Cert.KernelIdeal.Value.run_blocks m g
  · run_from Cert.ReferenceIdeal.Value.run m' g'
    have hf := @Cert.Fox.finite_real pre_facts _ _ _ _ (hpre c)
    rw [Cert.Fox.final m c hf.1 hf.2.1 hf.2.2, Cert.Fox.res_eq]
    obtain ⟨e0, e1, e2, e3⟩ := hagree c
    rw [e0, e1, e2, e3]

theorem frame_reference : Cert.quiescent_ReferenceIdeal (hReferenceIdeal := Cert.ReferenceIdeal.Gen.facts) := by
  intro m ρ _
  exact (θ_run Cert.ReferenceIdeal.defs _ _).mono
    (fun r h => ⟨fun c => (h c).2, sem_eq_zero_of_no_sems (by decide) r.2⟩) (Cert.ReferenceIdeal.Value.run m ρ)

theorem algebraic_4 : Cert.algebraic_Kernel4Ideal_Reference4Ideal (hKernel4Ideal := Cert.Kernel4Ideal.Gen.facts)
    (hReference4Ideal := Cert.Reference4Ideal.Gen.facts) := by
  pair_intro
  · run_from Cert.Rows4.run m g
  · run_from Cert.Reference4Ideal.Value.run m' g'
    all_goals
      obtain ⟨e0, e1, e2⟩ := hagree c
      first | rw [e0, e2] | rw [e1, e2]

theorem frame_reference_4 : Cert.quiescent_Reference4Ideal (hReference4Ideal := Cert.Reference4Ideal.Gen.facts) := by
  intro m ρ _
  exact (θ_run Cert.Reference4Ideal.defs _ _).mono
    (fun r h => ⟨fun c => (h c).2.2, sem_eq_zero_of_no_sems (by decide) r.2⟩) (Cert.Reference4Ideal.Value.run m ρ)

theorem algebraic_5 : Cert.algebraic_Kernel5Ideal_Reference5Ideal (hKernel5Ideal := Cert.Kernel5Ideal.Gen.facts)
    (hReference5Ideal := Cert.Reference5Ideal.Gen.facts) := by
  pair_intro
  · run_from Cert.Rows5.run m g
  · run_from Cert.Reference5Ideal.Value.run m' g'
    all_goals
      obtain ⟨e0, e1, e2⟩ := hagree c
      first | rw [e0, e2] | rw [e1, e2]

theorem frame_reference_5 : Cert.quiescent_Reference5Ideal (hReference5Ideal := Cert.Reference5Ideal.Gen.facts) := by
  intro m ρ _
  exact (θ_run Cert.Reference5Ideal.defs _ _).mono
    (fun r h => ⟨fun c => (h c).2.2, sem_eq_zero_of_no_sems (by decide) r.2⟩) (Cert.Reference5Ideal.Value.run m ρ)

theorem algebraic_6 : Cert.algebraic_Kernel6Ideal_Reference6Ideal (hKernel6Ideal := Cert.Kernel6Ideal.Gen.facts)
    (hReference6Ideal := Cert.Reference6Ideal.Gen.facts) := by
  pair_intro
  · run_from Cert.Rows6.run m g
  · run_from Cert.Reference6Ideal.Value.run m' g'
    all_goals
      obtain ⟨e0, e1, e2⟩ := hagree c
      first | rw [e0, e2] | rw [e1, e2]

theorem frame_reference_6 : Cert.quiescent_Reference6Ideal (hReference6Ideal := Cert.Reference6Ideal.Gen.facts) := by
  intro m ρ _
  exact (θ_run Cert.Reference6Ideal.defs _ _).mono
    (fun r h => ⟨fun c => (h c).2.2, sem_eq_zero_of_no_sems (by decide) r.2⟩) (Cert.Reference6Ideal.Value.run m ρ)

theorem algebraic_2 : Cert.algebraic_Kernel2Ideal_Reference2Ideal (hKernel2Ideal := Cert.Kernel2Ideal.Gen.facts)
    (hReference2Ideal := Cert.Reference2Ideal.Gen.facts) := by
  pair_intro
  · run_from Cert.Ffn.run m g
  · run_from Cert.Reference2Ideal.Value.run m' g'
    all_goals
      obtain ⟨e0, e1, e2, e3⟩ := hagree c
      first | rw [e0, e2, e3] | rw [e1, e2, e3]

theorem frame_2 : Cert.quiescent_Kernel2Ideal (hKernel2Ideal := Cert.Kernel2Ideal.Gen.facts) := fun m ρ _ =>
  Cert.Ffn.frame m ρ (Cert.Ffn.ok m)

theorem frame_reference_2 : Cert.quiescent_Reference2Ideal (hReference2Ideal := Cert.Reference2Ideal.Gen.facts) := by
  intro m ρ _
  exact (θ_run Cert.Reference2Ideal.defs _ _).mono
    (fun r h => ⟨fun c => (h c).2.2, sem_eq_zero_of_no_sems (by decide) r.2⟩) (Cert.Reference2Ideal.Value.run m ρ)

theorem algebraic_3 : Cert.algebraic_Kernel3Ideal_Reference3Ideal (hKernel3Ideal := Cert.Kernel3Ideal.Gen.facts)
    (hReference3Ideal := Cert.Reference3Ideal.Gen.facts) := by
  pair_intro
  · run_from Cert.Down.run m g
  · run_from Cert.Reference3Ideal.Value.run m' g'
    all_goals
      obtain ⟨e0, e1, e2⟩ := hagree c
      first | rw [e0, e2] | rw [e1, e2]

theorem frame_3 : Cert.quiescent_Kernel3Ideal (hKernel3Ideal := Cert.Kernel3Ideal.Gen.facts) := fun m ρ _ =>
  Cert.Down.frame m ρ (Cert.Down.ok m) (Cert.Down.reg m)

theorem frame_reference_3 : Cert.quiescent_Reference3Ideal (hReference3Ideal := Cert.Reference3Ideal.Gen.facts) := by
  intro m ρ _
  exact (θ_run Cert.Reference3Ideal.defs _ _).mono
    (fun r h => ⟨fun c => (h c).2.2, sem_eq_zero_of_no_sems (by decide) r.2⟩) (Cert.Reference3Ideal.Value.run m ρ)

section
open Cert.Reference7Ideal

/-- The run of the experts' reference, its result by name. -/
theorem run_reference_7 (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v25) = Read.val_main_v25 (F := Ideal) (m ((c.tc : Thread nD τ).loc main_arg0)) (m ((c.tc : Thread nD τ).loc main_arg1))
        (m ((c.tc : Thread nD τ).loc main_arg2)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (Read.val_main_v25_eq (F := Ideal) _ _ _ _ _), (h c).2⟩) (Value.run m ρ)

end

theorem algebraic_7 : Cert.algebraic_Kernel7Ideal_Reference7Ideal (hKernel7Ideal := Cert.Kernel7Ideal.Gen.facts)
    (hReference7Ideal := Cert.Reference7Ideal.Gen.facts) (hPre_planned := Cert.Pre_planned.Gen.facts) := by
  pair_intro
  · run_from Cert.Moe.run m (Cert.Moe.plan_of (F := Ideal) _ _ _ _ _ _ _ _ (hpre 0)) g
  · run_from run_reference_7 m' g'

theorem frame_reference_7 : Cert.quiescent_Reference7Ideal (hReference7Ideal := Cert.Reference7Ideal.Gen.facts)
    (hPre_planned := Cert.Pre_planned.Gen.facts) := by
  intro m ρ _
  exact (θ_run Cert.Reference7Ideal.defs _ _).mono
    (fun r h => ⟨fun c => (h c).2, sem_eq_zero_of_no_sems (by decide) r.2⟩) (Cert.Reference7Ideal.Value.run m ρ)

theorem claim : Cert.Claim := ⟨Cert.Kernel.Gen.facts, Cert.KernelIdeal.Gen.facts, Cert.ReferenceIdeal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel7.Gen.facts, Cert.Kernel7Ideal.Gen.facts, Cert.Reference7Ideal.Gen.facts, pre_facts, Cert.Pre_planned.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel4.Gen.frame m ρ, fun m ρ _ => Cert.Kernel4Ideal.Gen.frame m ρ, frame_reference_4,
  fun m ρ _ => Cert.Kernel5.Gen.frame m ρ, fun m ρ _ => Cert.Kernel5Ideal.Gen.frame m ρ, frame_reference_5,
  fun m ρ _ => Cert.Kernel6.Gen.frame m ρ, fun m ρ _ => Cert.Kernel6Ideal.Gen.frame m ρ, frame_reference_6,
  Cert.Ffn.frame_kernel, frame_2, frame_reference_2,
  Cert.Down.frame_kernel, frame_3, frame_reference_3,
  Cert.Moe.frame_kernel, Cert.Moe.frame_ideal, frame_reference_7,
  trivial, algebraic, trivial, algebraic_4, trivial, algebraic_5, trivial, algebraic_6, trivial, algebraic_2, trivial, algebraic_3, trivial, algebraic_7⟩

end Cert.Proof

end
